-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_operands.lean ====
abbrev S4x2048x8192 : Shape := ⟨3, ![4, 2048, 8192]⟩
abbrev S4x2048x12x2x128 : Shape := ⟨5, ![4, 2048, 12, 2, 128]⟩
abbrev S4x2048x12x256 : Shape := ⟨4, ![4, 2048, 12, 256]⟩
abbrev S32x12 : Shape := ⟨2, ![32, 12]⟩
abbrev S128 : Shape := ⟨1, ![128]⟩
abbrev S256 : Shape := ⟨1, ![256]⟩
abbrev S4x2048x3072 : Shape := ⟨3, ![4, 2048, 3072]⟩
abbrev S_ : Shape := ⟨0, ![]⟩

class Facts : Prop where
  slices_S4x2048x8192_S4x2048x3072_0_0_0 : S4x2048x8192.Slices ![0, 0, 0] S4x2048x3072
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S4x2048x12x2x128 : S_.BroadcastsInDim S4x2048x12x2x128 (![] : Fin 0 → Fin S4x2048x12x2x128.rank)
  reducesTo_S4x2048x12x2x128_S_d0_1_2_3_4 : S4x2048x12x2x128.ReducesTo [0, 1, 2, 3, 4] S_
  bcast_S_S4x2048x12x256 : S_.BroadcastsInDim S4x2048x12x256 (![] : Fin 0 → Fin S4x2048x12x256.rank)
  reducesTo_S4x2048x12x256_S_d0_1_2_3 : S4x2048x12x256.ReducesTo [0, 1, 2, 3] S_
  bcast_S_S32x12 : S_.BroadcastsInDim S32x12 (![] : Fin 0 → Fin S32x12.rank)
  reducesTo_S32x12_S_d0_1 : S32x12.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v29 : IVec S_ 1) (main_v33 : IVec S_ 1) : IVec S_ 1 :=
  let main_v34 : IVec S_ 1 := andi main_v29 main_v33
  let main_v35 : FVec F S128 .f32 := Host.absf main_arg7
  let main_cst_12 : FVec F S_ .f32 := constant S_ .f32 0x7F800000#32
  let main_v36 : FVec F S128 .f32 := broadcastInDim S128 ![] bcast_S_S128 main_cst_12
  let main_v37 : IVec S128 1 := cmpf .olt main_v35 main_v36
  let main_c_13 : IVec S_ 1 := constantI S_ 1 1#1
  let main_v38 : IVec S_ 1 := (fun x v => Host.reduce IntOp.andi x v reducesTo_S128_S_d0 h_S_) main_v37 main_c_13
  let main_v39 : IVec S_ 1 := andi main_v34 main_v38
  main_v39

def fn_part1 {F : FTy → Type} [FloatOps F] (main_arg4 : FVec F S128 .f32) (main_arg5 : FVec F S128 .f32) (main_arg6 : FVec F S128 .f32) (main_arg7 : FVec F S128 .f32) (main_v14 : IVec S_ 1) (main_v15 : FVec F S32x12 .f32) (main_v16 : FVec F S32x12 .f32) : IVec S_ 1 :=
  let main_v17 : IVec S32x12 1 := cmpf .olt main_v15 main_v16
  let main_c_5 : IVec S_ 1 := constantI S_ 1 1#1
  let main_v18 : IVec S_ 1 := (fun x v => Host.reduce IntOp.andi x v reducesTo_S32x12_S_d0_1 h_S_) main_v17 main_c_5
  let main_v19 : IVec S_ 1 := andi main_v14 main_v18
  let main_v20 : FVec F S128 .f32 := Host.absf main_arg4
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  let main_v25 : FVec F S128 .f32 := Host.absf main_arg5
  let main_cst_8 : FVec F S_ .f32 := constant S_ .f32 0x7F800000#32
  let main_v26 : FVec F S128 .f32 := broadcastInDim S128 ![] bcast_S_S128 main_cst_8
  let main_v27 : IVec S128 1 := cmpf .olt main_v25 main_v26
  let main_c_9 : IVec S_ 1 := constantI S_ 1 1#1
  let main_v28 : IVec S_ 1 := (fun x v => Host.reduce IntOp.andi x v reducesTo_S128_S_d0 h_S_) main_v27 main_c_9
  let main_v29 : IVec S_ 1 := andi main_v24 main_v28
  let main_v30 : FVec F S128 .f32 := Host.absf main_arg6
  let main_cst_10 : FVec F S_ .f32 := constant S_ .f32 0x7F800000#32
  let main_v31 : FVec F S128 .f32 := broadcastInDim S128 ![] bcast_S_S128 main_cst_10
  let main_v32 : IVec S128 1 := cmpf .olt main_v30 main_v31
  let main_c_11 : IVec S_ 1 := constantI S_ 1 1#1
  let main_v33 : IVec S_ 1 := (fun x v => Host.reduce IntOp.andi x v reducesTo_S128_S_d0 h_S_) main_v32 main_c_11
  fn_part2 (F := F) main_arg7 main_v29 main_v33

def fn {F : FTy → Type} [FloatOps F] (main_arg0 : FVec F S4x2048x8192 .f32) (main_arg1 : FVec F S4x2048x12x2x128 .f32) (main_arg2 : FVec F S4x2048x12x256 .f32) (main_arg3 : FVec F S32x12 .f32) (main_arg4 : FVec F S128 .f32) (main_arg5 : FVec F S128 .f32) (main_arg6 : FVec F S128 .f32) (main_arg7 : FVec F S128 .f32) (main_arg8 : FVec F S256 .f32) : IVec S_ 1 :=
  let main_v0 : FVec F S4x2048x3072 .f32 := (extractStridedSlice S4x2048x3072 ![0, 0, 0] · slices_S4x2048x8192_S4x2048x3072_0_0_0) main_arg0
  let main_v1 : FVec F S4x2048x3072 .f32 := Host.absf main_v0
  let main_cst : FVec F S_ .f32 := constant S_ .f32 0x7F800000#32
  let main_v2 : FVec F S4x2048x3072 .f32 := broadcastInDim S4x2048x3072 ![] bcast_S_S4x2048x3072 main_cst
  let main_v3 : IVec S4x2048x3072 1 := cmpf .olt main_v1 main_v2
  let main_c : IVec S_ 1 := constantI S_ 1 1#1
  let main_v4 : IVec S_ 1 := (fun x v => Host.reduce IntOp.andi x v reducesTo_S4x2048x3072_S_d0_1_2 h_S_) main_v3 main_c
  let main_v5 : FVec F S4x2048x12x2x128 .f32 := Host.absf main_arg1
  let main_cst_0 : FVec F S_ .f32 := constant S_ .f32 0x7F800000#32
  let main_v6 : FVec F S4x2048x12x2x128 .f32 := broadcastInDim S4x2048x12x2x128 ![] bcast_S_S4x2048x12x2x128 main_cst_0
  let main_v7 : IVec S4x2048x12x2x128 1 := cmpf .olt main_v5 main_v6
  let main_c_1 : IVec S_ 1 := constantI S_ 1 1#1
  let main_v8 : IVec S_ 1 := (fun x v => Host.reduce IntOp.andi x v reducesTo_S4x2048x12x2x128_S_d0_1_2_3_4 h_S_) main_v7 main_c_1
  let main_v9 : IVec S_ 1 := andi main_v4 main_v8
  let main_v10 : FVec F S4x2048x12x256 .f32 := Host.absf main_arg2
  let main_cst_2 : FVec F S_ .f32 := constant S_ .f32 0x7F800000#32
  let main_v11 : FVec F S4x2048x12x256 .f32 := broadcastInDim S4x2048x12x256 ![] bcast_S_S4x2048x12x256 main_cst_2
  let main_v12 : IVec S4x2048x12x256 1 := cmpf .olt main_v10 main_v11
  let main_c_3 : IVec S_ 1 := constantI S_ 1 1#1
  let main_v13 : IVec S_ 1 := (fun x v => Host.reduce IntOp.andi x v reducesTo_S4x2048x12x256_S_d0_1_2_3 h_S_) main_v12 main_c_3
  let main_v14 : IVec S_ 1 := andi main_v9 main_v13
  let main_v15 : FVec F S32x12 .f32 := Host.absf main_arg3
  let main_cst_4 : FVec F S_ .f32 := constant S_ .f32 0x7F800000#32
  let main_v16 : FVec F S32x12 .f32 := broadcastInDim S32x12 ![] bcast_S_S32x12 main_cst_4
  fn_part1 (F := F) main_arg4 main_arg5 main_arg6 main_arg7 main_v14 main_v15 main_v16
-- ==== Kernel.lean ====
abbrev S4x2048x8192 : Shape := ⟨3, ![4, 2048, 8192]⟩
abbrev S4x2048x12x2x128 : Shape := ⟨5, ![4, 2048, 12, 2, 128]⟩
abbrev S4x2048x12x256 : Shape := ⟨4, ![4, 2048, 12, 256]⟩
abbrev S32x12 : Shape := ⟨2, ![32, 12]⟩
abbrev S128 : Shape := ⟨1, ![128]⟩
abbrev S256 : Shape := ⟨1, ![256]⟩
abbrev S1x128 : Shape := ⟨2, ![1, 128]⟩
abbrev S4x128 : Shape := ⟨2, ![4, 128]⟩
abbrev S4x12x2048x256 : Shape := ⟨4, ![4, 12, 2048, 256]⟩
abbrev S255 : Shape := ⟨1, ![255]⟩
abbrev S_ : Shape := ⟨0, ![]⟩
abbrev S1x255 : Shape := ⟨2, ![1, 255]⟩
abbrev S255x1 : Shape := ⟨2, ![255, 1]⟩
abbrev S255x12 : Shape := ⟨2, ![255, 12]⟩
abbrev S12x255 : Shape := ⟨2, ![12, 255]⟩
abbrev S1x12x1x255 : Shape := ⟨4, ![1, 12, 1, 255]⟩
abbrev S1x12x129x255 : Shape := ⟨4, ![1, 12, 129, 255]⟩
abbrev S12x32895 : Shape := ⟨2, ![12, 32895]⟩
abbrev S12x32768 : Shape := ⟨2, ![12, 32768]⟩
abbrev S12x128x256 : Shape := ⟨3, ![12, 128, 256]⟩
abbrev S12x128x128 : Shape := ⟨3, ![12, 128, 128]⟩
abbrev S1x12 : Shape := ⟨2, ![1, 12]⟩
abbrev S12 : Shape := ⟨1, ![12]⟩
abbrev S12x1x1 : Shape := ⟨3, ![12, 1, 1]⟩
abbrev S12x1x128 : Shape := ⟨3, ![12, 1, 128]⟩
abbrev S1x256 : Shape := ⟨2, ![1, 256]⟩
abbrev S4x2048x3072 : Shape := ⟨3, ![4, 2048, 3072]⟩
abbrev S1x512x256 : Shape := ⟨3, ![1, 512, 256]⟩
abbrev S1x1x2048x256 : Shape := ⟨4, ![1, 1, 2048, 256]⟩
abbrev S1x128x128 : Shape := ⟨3, ![1, 128, 128]⟩
abbrev S1x1x128 : Shape := ⟨3, ![1, 1, 128]⟩
abbrev S2048x256 : Shape := ⟨2, ![2048, 256]⟩
abbrev S512x512 : Shape := ⟨2, ![512, 512]⟩
abbrev S2x512x2048 : Shape := ⟨3, ![2, 512, 2048]⟩
abbrev S2x512x128 : Shape := ⟨3, ![2, 512, 128]⟩
abbrev S2x512x256 : Shape := ⟨3, ![2, 512, 256]⟩
abbrev S1x1x1 : Shape := ⟨3, ![1, 1, 1]⟩
abbrev S1x1 : Shape := ⟨2, ![1, 1]⟩
abbrev S128x128 : Shape := ⟨2, ![128, 128]⟩
abbrev S512x256 : Shape := ⟨2, ![512, 256]⟩
abbrev S512x128 : Shape := ⟨2, ![512, 128]⟩
abbrev S1x1x512x256 : Shape := ⟨4, ![1, 1, 512, 256]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1 : Shape := ⟨1, ![1]⟩

abbrev nBuf : Space → Nat
  | .hbm => 166
  | .vmem => 25
  | .smem => 0
  | _ => 0

abbrev hbmTy0_0 (i : Nat) : BufTy := match i % 128 with
  | 0 => ⟨S4x2048x8192, .f32⟩
  | 1 => ⟨S4x2048x12x2x128, .f32⟩
  | 2 => ⟨S4x2048x12x256, .f32⟩
  | 3 => ⟨S32x12, .f32⟩
  | 4 => ⟨S128, .f32⟩
  | 5 => ⟨S128, .f32⟩
  | 6 => ⟨S128, .f32⟩
  | 7 => ⟨S128, .f32⟩
  | 8 => ⟨S256, .f32⟩
  | 9 => ⟨S1x128, .f32⟩
  | 10 => ⟨S1x128, .f32⟩
  | 11 => ⟨S1x128, .f32⟩
  | 12 => ⟨S1x128, .f32⟩
  | 13 => ⟨S4x128, .f32⟩
  | 14 => ⟨S4x2048x12x256, .f32⟩
  | 15 => ⟨S4x12x2048x256, .f32⟩
  | 16 => ⟨S4x12x2048x256, .bf16⟩
  | 17 => ⟨S4x12x2048x256, .f32⟩
  | 18 => ⟨S255, .i32⟩
  | 19 => ⟨S_, .i32⟩
  | 20 => ⟨S255, .i32⟩
  | 21 => ⟨S255, .i32⟩
  | 22 => ⟨S_, .i32⟩
  | 23 => ⟨S255, .i32⟩
  | 24 => ⟨S255, .i1⟩
  | 25 => ⟨S1x255, .i1⟩
  | 26 => ⟨S_, .i32⟩
  | 27 => ⟨S255, .i32⟩
  | 28 => ⟨S255, .i32⟩
  | 29 => ⟨S_, .i32⟩
  | 30 => ⟨S255, .i32⟩
  | 31 => ⟨S255, .i32⟩
  | 32 => ⟨S255, .f32⟩
  | 33 => ⟨S_, .f32⟩
  | 34 => ⟨S255, .f32⟩
  | 35 => ⟨S255, .f32⟩
  | 36 => ⟨S255, .f32⟩
  | 37 => ⟨S_, .f32⟩
  | 38 => ⟨S255, .f32⟩
  | 39 => ⟨S255, .f32⟩
  | 40 => ⟨S_, .f32⟩
  | 41 => ⟨S255, .f32⟩
  | 42 => ⟨S255, .f32⟩
  | 43 => ⟨S255, .i32⟩
  | 44 => ⟨S_, .i32⟩
  | 45 => ⟨S255, .i32⟩
  | 46 => ⟨S255, .i32⟩
  | 47 => ⟨S_, .i32⟩
  | 48 => ⟨S255, .i32⟩
  | 49 => ⟨S255, .i32⟩
  | 50 => ⟨S_, .i32⟩
  | 51 => ⟨S255, .i32⟩
  | 52 => ⟨S255, .i1⟩
  | 53 => ⟨S255, .i32⟩
  | 54 => ⟨S_, .i32⟩
  | 55 => ⟨S255, .i32⟩
  | 56 => ⟨S255, .i1⟩
  | 57 => ⟨S_, .i32⟩
  | 58 => ⟨S255, .i32⟩
  | 59 => ⟨S255, .i32⟩
  | 60 => ⟨S255, .i32⟩
  | 61 => ⟨S255x1, .i32⟩
  | 62 => ⟨S255x12, .f32⟩
  | 63 => ⟨S12x255, .f32⟩
  | 64 => ⟨S_, .f32⟩
  | 65 => ⟨S_, .f32⟩
  | 66 => ⟨S12x255, .i1⟩
  | 67 => ⟨S12x255, .f32⟩
  | 68 => ⟨S12x255, .f32⟩
  | 69 => ⟨S12x255, .f32⟩
  | 70 => ⟨S1x12x1x255, .f32⟩
  | 71 => ⟨S1x12x129x255, .f32⟩
  | 72 => ⟨S12x32895, .f32⟩
  | 73 => ⟨S12x32768, .f32⟩
  | 74 => ⟨S12x128x256, .f32⟩
  | 75 => ⟨S12x128x128, .f32⟩
  | 76 => ⟨S12x128x128, .f32⟩
  | 77 => ⟨S_, .i32⟩
  | 78 => ⟨S255, .i32⟩
  | 79 => ⟨S255, .i32⟩
  | 80 => ⟨S_, .i32⟩
  | 81 => ⟨S255, .i32⟩
  | 82 => ⟨S255, .i32⟩
  | 83 => ⟨S_, .i32⟩
  | 84 => ⟨S255, .i32⟩
  | 85 => ⟨S255, .i32⟩
  | 86 => ⟨S255, .f32⟩
  | 87 => ⟨S_, .f32⟩
  | 88 => ⟨S255, .f32⟩
  | 89 => ⟨S255, .f32⟩
  | 90 => ⟨S255, .f32⟩
  | 91 => ⟨S_, .f32⟩
  | 92 => ⟨S255, .f32⟩
  | 93 => ⟨S255, .f32⟩
  | 94 => ⟨S_, .f32⟩
  | 95 => ⟨S255, .f32⟩
  | 96 => ⟨S255, .f32⟩
  | 97 => ⟨S255, .i32⟩
  | 98 => ⟨S_, .i32⟩
  | 99 => ⟨S255, .i32⟩
  | 100 => ⟨S255, .i32⟩
  | 101 => ⟨S_, .i32⟩
  | 102 => ⟨S255, .i32⟩
  | 103 => ⟨S255, .i32⟩
  | 104 => ⟨S_, .i32⟩
  | 105 => ⟨S255, .i32⟩
  | 106 => ⟨S255, .i1⟩
  | 107 => ⟨S255, .i32⟩
  | 108 => ⟨S_, .i32⟩
  | 109 => ⟨S255, .i32⟩
  | 110 => ⟨S255, .i1⟩
  | 111 => ⟨S_, .i32⟩
  | 112 => ⟨S255, .i32⟩
  | 113 => ⟨S255, .i32⟩
  | 114 => ⟨S255, .i32⟩
  | 115 => ⟨S255x1, .i32⟩
  | 116 => ⟨S255x12, .f32⟩
  | 117 => ⟨S12x255, .f32⟩
  | 118 => ⟨S12x255, .f32⟩
  | 119 => ⟨S1x12x1x255, .f32⟩
  | 120 => ⟨S1x12x129x255, .f32⟩
  | 121 => ⟨S12x32895, .f32⟩
  | 122 => ⟨S12x32768, .f32⟩
  | 123 => ⟨S12x128x256, .f32⟩
  | 124 => ⟨S12x128x128, .f32⟩
  | 125 => ⟨S12x128x128, .f32⟩
  | 126 => ⟨S_, .i32⟩
  | 127 => ⟨S_, .i32⟩
  | _ => ⟨S4x2048x8192, .f32⟩

abbrev hbmTy0_1 (i : Nat) : BufTy := match i % 128 with
  | 0 => ⟨S_, .i32⟩
  | 1 => ⟨S_, .i32⟩
  | 2 => ⟨S_, .i32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x12, .f32⟩
  | 33 => ⟨S12, .f32⟩
  | 34 => ⟨S12x1x1, .f32⟩
  | 35 => ⟨S12x1x128, .f32⟩
  | 36 => ⟨S1x256, .f32⟩
  | 37 => ⟨S4x2048x3072, .bf16⟩
  | _ => ⟨S4x2048x8192, .f32⟩

abbrev hbmTy (i : Nat) : BufTy := match i / 128 with
  | 0 => hbmTy0_0 i
  | 1 => hbmTy0_1 i
  | _ => ⟨S4x2048x8192, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x1x2048x256, .bf16⟩
  | .local _ .vmem, ⟨5, _⟩ => ⟨S1x1x2048x256, .bf16⟩
  | .local _ .vmem, ⟨6, _⟩ => ⟨S1x1x2048x256, .f32⟩
  | .local _ .vmem, ⟨7, _⟩ => ⟨S1x1x2048x256, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S4x128, .f32⟩
  | .local _ .vmem, ⟨15, _⟩ => ⟨S1x256, .f32⟩
  | .local _ .vmem, ⟨16, _⟩ => ⟨S1x512x256, .bf16⟩
  | .local _ .vmem, ⟨17, _⟩ => ⟨S1x512x256, .bf16⟩
  | .local _ .vmem, ⟨18, _⟩ => ⟨S2048x256, .bf16⟩
  | .local _ .vmem, ⟨19, _⟩ => ⟨S512x512, .f32⟩
  | .local _ .vmem, ⟨20, _⟩ => ⟨S512x512, .f32⟩
  | .local _ .vmem, ⟨21, _⟩ => ⟨S2x512x2048, .f32⟩
  | .local _ .vmem, ⟨22, _⟩ => ⟨S2x512x128, .f32⟩
  | .local _ .vmem, ⟨23, _⟩ => ⟨S2x512x128, .f32⟩
  | .local _ .vmem, ⟨24, _⟩ => ⟨S2x512x256, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_c_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_22 : Ref sig .tc := ⟨.hbm, 126, rfl⟩
abbrev main_c_23 : Ref sig .tc := ⟨.hbm, 127, rfl⟩
abbrev main_v90 : Ref sig .tc := ⟨.hbm, 128, rfl⟩
abbrev main_c_24 : Ref sig .tc := ⟨.hbm, 129, rfl⟩
abbrev main_v91 : Ref sig .tc := ⟨.hbm, 130, rfl⟩
abbrev main_v92 : Ref sig .tc := ⟨.hbm, 131, rfl⟩
abbrev main_cst_25 : Ref sig .tc := ⟨.hbm, 132, rfl⟩
abbrev main_v93 : Ref sig .tc := ⟨.hbm, 133, rfl⟩
abbrev main_v94 : Ref sig .tc := ⟨.hbm, 134, rfl⟩
abbrev main_cst_26 : Ref sig .tc := ⟨.hbm, 135, rfl⟩
abbrev main_v95 : Ref sig .tc := ⟨.hbm, 136, rfl⟩
abbrev main_cst_27 : Ref sig .tc := ⟨.hbm, 137, rfl⟩
abbrev main_v96 : Ref sig .tc := ⟨.hbm, 138, rfl⟩
abbrev main_v97 : Ref sig .tc := ⟨.hbm, 139, rfl⟩
abbrev main_c_28 : Ref sig .tc := ⟨.hbm, 140, rfl⟩
abbrev main_v98 : Ref sig .tc := ⟨.hbm, 141, rfl⟩
abbrev main_c_29 : Ref sig .tc := ⟨.hbm, 142, rfl⟩
abbrev main_v99 : Ref sig .tc := ⟨.hbm, 143, rfl⟩
abbrev main_c_30 : Ref sig .tc := ⟨.hbm, 144, rfl⟩
abbrev main_v100 : Ref sig .tc := ⟨.hbm, 145, rfl⟩
abbrev main_v101 : Ref sig .tc := ⟨.hbm, 146, rfl⟩
abbrev main_c_31 : Ref sig .tc := ⟨.hbm, 147, rfl⟩
abbrev main_v102 : Ref sig .tc := ⟨.hbm, 148, rfl⟩
abbrev main_c_32 : Ref sig .tc := ⟨.hbm, 149, rfl⟩
abbrev main_v103 : Ref sig .tc := ⟨.hbm, 150, rfl⟩
abbrev main_v104 : Ref sig .tc := ⟨.hbm, 151, rfl⟩
abbrev main_c_33 : Ref sig .tc := ⟨.hbm, 152, rfl⟩
abbrev main_c_34 : Ref sig .tc := ⟨.hbm, 153, rfl⟩
abbrev main_v105 : Ref sig .tc := ⟨.hbm, 154, rfl⟩
abbrev main_c_35 : Ref sig .tc := ⟨.hbm, 155, rfl⟩
abbrev main_c_36 : Ref sig .tc := ⟨.hbm, 156, rfl⟩
abbrev main_v106 : Ref sig .tc := ⟨.hbm, 157, rfl⟩
abbrev main_c_37 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 12, 4], ![false, false, false]⟩

@[reducible] def k0_t1_loop (i : grid0.Coords) : Scf.Loop 32 :=
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let c1_i32_21 : BitVec 32 := 1#32
  ⟨c0_i32_19, v29, c1_i32_21⟩
def k0_mult1 (i : grid0.Coords) (k0_t1 : Fin (k0_t1_loop i).trips) : BitVec 32 :=
  let c0_i32_19 : BitVec 32 := 0#32
  let c1_i32_21 : BitVec 32 := 1#32
  let arg20 : BitVec 32 := Scf.iv c0_i32_19 c1_i32_21 k0_t1
  let c512_i32_100 : BitVec 32 := 512#32
  let v168 : BitVec 32 := Scalar.muli arg20 c512_i32_100
  v168
def k0_off1 (i : grid0.Coords) (k0_t1 : Fin (k0_t1_loop i).trips) : Fin 4 → Nat :=
  let c0_101 : Index := 0#32
  let c0_102 : Index := 0#32
  let c0_i32_19 : BitVec 32 := 0#32
  let c1_i32_21 : BitVec 32 := 1#32
  let arg20 : BitVec 32 := Scf.iv c0_i32_19 c1_i32_21 k0_t1
  let c512_i32_100 : BitVec 32 := 512#32
  let v168 : BitVec 32 := Scalar.muli arg20 c512_i32_100
  let v169 : BitVec 32 := v168
  let v170 : Index := Scalar.indexCast v169
  let c0_103 : Index := 0#32
  ![0, 0, v170.toNat, 0]
def k0_off2 (i : grid0.Coords) (k0_t1 : Fin (k0_t1_loop i).trips) : Fin 3 → Nat :=
  let c0_106 : Index := 0#32
  let c0_107 : Index := 0#32
  let c0_i32_19 : BitVec 32 := 0#32
  let c1_i32_21 : BitVec 32 := 1#32
  let arg20 : BitVec 32 := Scf.iv c0_i32_19 c1_i32_21 k0_t1
  let c512_i32_100 : BitVec 32 := 512#32
  let v168 : BitVec 32 := Scalar.muli arg20 c512_i32_100
  let v169 : BitVec 32 := v168
  let v179 : Index := Scalar.indexCast v169
  ![0, 0, v179.toNat]
def k0_off3 (i : grid0.Coords) (k0_t1 : Fin (k0_t1_loop i).trips) : Fin 3 → Nat :=
  let c1_116 : Index := 1#32
  let c0_117 : Index := 0#32
  let c0_i32_19 : BitVec 32 := 0#32
  let c1_i32_21 : BitVec 32 := 1#32
  let arg20 : BitVec 32 := Scf.iv c0_i32_19 c1_i32_21 k0_t1
  let c512_i32_100 : BitVec 32 := 512#32
  let v168 : BitVec 32 := Scalar.muli arg20 c512_i32_100
  let v169 : BitVec 32 := v168
  let v202 : Index := Scalar.indexCast v169
  ![1, 0, v202.toNat]
@[reducible] def k0_t2_loop (i : grid0.Coords) : Scf.Loop 32 :=
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let v26 : BitVec 32 := Scalar.addi c0_i32_19 v25
  let c1_i32_22 : BitVec 32 := 1#32
  ⟨v29, v26, c1_i32_22⟩
def k0_mult2 (i : grid0.Coords) (k0_t2 : Fin (k0_t2_loop i).trips) : BitVec 32 :=
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let c1_i32_22 : BitVec 32 := 1#32
  let arg20 : BitVec 32 := Scf.iv v29 c1_i32_22 k0_t2
  let c512_i32_100 : BitVec 32 := 512#32
  let v168 : BitVec 32 := Scalar.muli arg20 c512_i32_100
  v168
def k0_off4 (i : grid0.Coords) (k0_t2 : Fin (k0_t2_loop i).trips) : Fin 4 → Nat :=
  let c0_101 : Index := 0#32
  let c0_102 : Index := 0#32
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let c1_i32_22 : BitVec 32 := 1#32
  let arg20 : BitVec 32 := Scf.iv v29 c1_i32_22 k0_t2
  let c512_i32_100 : BitVec 32 := 512#32
  let v168 : BitVec 32 := Scalar.muli arg20 c512_i32_100
  let v169 : BitVec 32 := v168
  let v170 : Index := Scalar.indexCast v169
  let c0_103 : Index := 0#32
  ![0, 0, v170.toNat, 0]
def k0_off5 (i : grid0.Coords) (k0_t2 : Fin (k0_t2_loop i).trips) : Fin 3 → Nat :=
  let c0_106 : Index := 0#32
  let c0_107 : Index := 0#32
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let c1_i32_22 : BitVec 32 := 1#32
  let arg20 : BitVec 32 := Scf.iv v29 c1_i32_22 k0_t2
  let c512_i32_100 : BitVec 32 := 512#32
  let v168 : BitVec 32 := Scalar.muli arg20 c512_i32_100
  let v169 : BitVec 32 := v168
  let v179 : Index := Scalar.indexCast v169
  ![0, 0, v179.toNat]
def k0_off6 (i : grid0.Coords) (k0_t2 : Fin (k0_t2_loop i).trips) : Fin 3 → Nat :=
  let c1_116 : Index := 1#32
  let c0_117 : Index := 0#32
  let c0_i32_19 : BitVec 32 := 0#32
  let arg2 : BitVec 32 := BitVec.ofNat 32 (i 2).val
  let c1_i32 : BitVec 32 := 1#32
  let v23 : BitVec 32 := Scalar.subi arg2 c1_i32
  let c0_i32_17 : BitVec 32 := 0#32
  let v24 : BitVec 32 := Scalar.maxsi v23 c0_i32_17
  let v25 : BitVec 32 := Scalar.subi v24 c0_i32_19
  let c1_i32_20 : BitVec 32 := 1#32
  let v27 : BitVec 32 := Scalar.divsi v25 c1_i32_20
  let v28 : BitVec 32 := Scalar.muli v27 c1_i32_20
  let v29 : BitVec 32 := Scalar.addi c0_i32_19 v28
  let c1_i32_22 : BitVec 32 := 1#32
  let arg20 : BitVec 32 := Scf.iv v29 c1_i32_22 k0_t2
  let c512_i32_100 : BitVec 32 := 512#32
  let v168 : BitVec 32 := Scalar.muli arg20 c512_i32_100
  let v169 : BitVec 32 := v168
  let v202 : Index := Scalar.indexCast v169
  ![1, 0, v202.toNat]
def k0_cond2 (i : grid0.Coords) : BitVec 1 :=
  let arg2 : BitVec 32 := BitVec.ofNat 32 (i 2).val
  let c1_i32_23 : BitVec 32 := 1#32
  let v30 : BitVec 1 := Scalar.cmpi .sge arg2 c1_i32_23
  let v31 : BitVec 32 := Scalar.extui v30
  let c0_i32_24 : BitVec 32 := 0#32
  let v32 : BitVec 1 := Scalar.cmpi .ne v31 c0_i32_24
  v32

def k0_mult3 (i : grid0.Coords) : BitVec 32 :=
  let arg2 : BitVec 32 := BitVec.ofNat 32 (i 2).val
  let c1_i32_100 : BitVec 32 := 1#32
  let v168 : BitVec 32 := Scalar.subi arg2 c1_i32_100
  let c512_i32_103 : BitVec 32 := 512#32
  let v170 : BitVec 32 := Scalar.muli v168 c512_i32_103
  v170
def k0_off7 (i : grid0.Coords) : Fin 4 → Nat :=
  let c0_104 : Index := 0#32
  let c0_105 : Index := 0#32
  let arg2 : BitVec 32 := BitVec.ofNat 32 (i 2).val
  let c1_i32_100 : BitVec 32 := 1#32
  let v168 : BitVec 32 := Scalar.subi arg2 c1_i32_100
  let c512_i32_103 : BitVec 32 := 512#32
  let v170 : BitVec 32 := Scalar.muli v168 c512_i32_103
  let v171 : BitVec 32 := v170
  let v172 : Index := Scalar.indexCast v171
  let c0_106 : Index := 0#32
  ![0, 0, v172.toNat, 0]
def k0_off8 (i : grid0.Coords) : Fin 3 → Nat :=
  let c0_109 : Index := 0#32
  let c0_110 : Index := 0#32
  let arg2 : BitVec 32 := BitVec.ofNat 32 (i 2).val
  let c1_i32_100 : BitVec 32 := 1#32
  let v168 : BitVec 32 := Scalar.subi arg2 c1_i32_100
  let c512_i32_103 : BitVec 32 := 512#32
  let v170 : BitVec 32 := Scalar.muli v168 c512_i32_103
  let v171 : BitVec 32 := v170
  let v180 : Index := Scalar.indexCast v171
  ![0, 0, v180.toNat]
def k0_off9 (i : grid0.Coords) : Fin 3 → Nat :=
  let c1_119 : Index := 1#32
  let c0_120 : Index := 0#32
  let arg2 : BitVec 32 := BitVec.ofNat 32 (i 2).val
  let c1_i32_100 : BitVec 32 := 1#32
  let v168 : BitVec 32 := Scalar.subi arg2 c1_i32_100
  let c512_i32_103 : BitVec 32 := 512#32
  let v170 : BitVec 32 := Scalar.muli v168 c512_i32_103
  let v171 : BitVec 32 := v170
  let v202 : Index := Scalar.indexCast v171
  ![1, 0, v202.toNat]
def k0_mult4 (i : grid0.Coords) : BitVec 32 :=
  let arg2 : BitVec 32 := BitVec.ofNat 32 (i 2).val
  let c512_i32 : BitVec 32 := 512#32
  let v34 : BitVec 32 := Scalar.muli arg2 c512_i32
  v34
def k0_off10 (i : grid0.Coords) : Fin 4 → Nat :=
  let c0_27 : Index := 0#32
  let c0_28 : Index := 0#32
  let arg2 : BitVec 32 := BitVec.ofNat 32 (i 2).val
  let c512_i32 : BitVec 32 := 512#32
  let v34 : BitVec 32 := Scalar.muli arg2 c512_i32
  let v35 : BitVec 32 := v34
  let v36 : Index := Scalar.indexCast v35
  let c0_29 : Index := 0#32
  ![0, 0, v36.toNat, 0]
def k0_off11 (i : grid0.Coords) : Fin 3 → Nat :=
  let c0_32 : Index := 0#32
  let c0_33 : Index := 0#32
  let arg2 : BitVec 32 := BitVec.ofNat 32 (i 2).val
  let c512_i32 : BitVec 32 := 512#32
  let v34 : BitVec 32 := Scalar.muli arg2 c512_i32
  let v35 : BitVec 32 := v34
  let v44 : Index := Scalar.indexCast v35
  ![0, 0, v44.toNat]
def k0_off12 (i : grid0.Coords) : Fin 3 → Nat :=
  let c1 : Index := 1#32
  let c0_42 : Index := 0#32
  let arg2 : BitVec 32 := BitVec.ofNat 32 (i 2).val
  let c512_i32 : BitVec 32 := 512#32
  let v34 : BitVec 32 := Scalar.muli arg2 c512_i32
  let v35 : BitVec 32 := v34
  let v66 : Index := Scalar.indexCast v35
  ![1, 0, v66.toNat]
@[reducible] def k0_t3_loop (i : grid0.Coords) : Scf.Loop 32 :=
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let c1_i32_61 : BitVec 32 := 1#32
  ⟨c0_i32_59, v100, c1_i32_61⟩
def k0_mult5 (i : grid0.Coords) (k0_t3 : Fin (k0_t3_loop i).trips) : BitVec 32 :=
  let c0_i32_59 : BitVec 32 := 0#32
  let c1_i32_61 : BitVec 32 := 1#32
  let arg20 : BitVec 32 := Scf.iv c0_i32_59 c1_i32_61 k0_t3
  let c512_i32_100 : BitVec 32 := 512#32
  let v168 : BitVec 32 := Scalar.muli arg20 c512_i32_100
  v168
def k0_off13 (i : grid0.Coords) (k0_t3 : Fin (k0_t3_loop i).trips) : Fin 2 → Nat :=
  let c0_i32_59 : BitVec 32 := 0#32
  let c1_i32_61 : BitVec 32 := 1#32
  let arg20 : BitVec 32 := Scf.iv c0_i32_59 c1_i32_61 k0_t3
  let c512_i32_100 : BitVec 32 := 512#32
  let v168 : BitVec 32 := Scalar.muli arg20 c512_i32_100
  let v169 : BitVec 32 := v168
  let v170 : Index := Scalar.indexCast v169
  let c0_101 : Index := 0#32
  ![v170.toNat, 0]
def k0_off14 (i : grid0.Coords) (k0_t3 : Fin (k0_t3_loop i).trips) : Fin 3 → Nat :=
  let c0_102 : Index := 0#32
  let c0_103 : Index := 0#32
  let c0_i32_59 : BitVec 32 := 0#32
  let c1_i32_61 : BitVec 32 := 1#32
  let arg20 : BitVec 32 := Scf.iv c0_i32_59 c1_i32_61 k0_t3
  let c512_i32_100 : BitVec 32 := 512#32
  let v168 : BitVec 32 := Scalar.muli arg20 c512_i32_100
  let v169 : BitVec 32 := v168
  let v172 : Index := Scalar.indexCast v169
  ![0, 0, v172.toNat]
def k0_off15 (i : grid0.Coords) (k0_t3 : Fin (k0_t3_loop i).trips) : Fin 3 → Nat :=
  let c1_117 : Index := 1#32
  let c0_118 : Index := 0#32
  let c0_i32_59 : BitVec 32 := 0#32
  let c1_i32_61 : BitVec 32 := 1#32
  let arg20 : BitVec 32 := Scf.iv c0_i32_59 c1_i32_61 k0_t3
  let c512_i32_100 : BitVec 32 := 512#32
  let v168 : BitVec 32 := Scalar.muli arg20 c512_i32_100
  let v169 : BitVec 32 := v168
  let v205 : Index := Scalar.indexCast v169
  ![1, 0, v205.toNat]
@[reducible] def k0_t4_loop (i : grid0.Coords) : Scf.Loop 32 :=
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let v97 : BitVec 32 := Scalar.addi c0_i32_59 v96
  let c1_i32_62 : BitVec 32 := 1#32
  ⟨v100, v97, c1_i32_62⟩
def k0_mult6 (i : grid0.Coords) (k0_t4 : Fin (k0_t4_loop i).trips) : BitVec 32 :=
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let c1_i32_62 : BitVec 32 := 1#32
  let arg20 : BitVec 32 := Scf.iv v100 c1_i32_62 k0_t4
  let c512_i32_100 : BitVec 32 := 512#32
  let v168 : BitVec 32 := Scalar.muli arg20 c512_i32_100
  v168
def k0_off16 (i : grid0.Coords) (k0_t4 : Fin (k0_t4_loop i).trips) : Fin 2 → Nat :=
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let c1_i32_62 : BitVec 32 := 1#32
  let arg20 : BitVec 32 := Scf.iv v100 c1_i32_62 k0_t4
  let c512_i32_100 : BitVec 32 := 512#32
  let v168 : BitVec 32 := Scalar.muli arg20 c512_i32_100
  let v169 : BitVec 32 := v168
  let v170 : Index := Scalar.indexCast v169
  let c0_101 : Index := 0#32
  ![v170.toNat, 0]
def k0_off17 (i : grid0.Coords) (k0_t4 : Fin (k0_t4_loop i).trips) : Fin 3 → Nat :=
  let c0_102 : Index := 0#32
  let c0_103 : Index := 0#32
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let c1_i32_62 : BitVec 32 := 1#32
  let arg20 : BitVec 32 := Scf.iv v100 c1_i32_62 k0_t4
  let c512_i32_100 : BitVec 32 := 512#32
  let v168 : BitVec 32 := Scalar.muli arg20 c512_i32_100
  let v169 : BitVec 32 := v168
  let v172 : Index := Scalar.indexCast v169
  ![0, 0, v172.toNat]
def k0_off18 (i : grid0.Coords) (k0_t4 : Fin (k0_t4_loop i).trips) : Fin 3 → Nat :=
  let c1_117 : Index := 1#32
  let c0_118 : Index := 0#32
  let c0_i32_59 : BitVec 32 := 0#32
  let arg2 : BitVec 32 := BitVec.ofNat 32 (i 2).val
  let c1_i32_57 : BitVec 32 := 1#32
  let v95 : BitVec 32 := Scalar.addi arg2 c1_i32_57
  let v96 : BitVec 32 := Scalar.subi v95 c0_i32_59
  let c1_i32_60 : BitVec 32 := 1#32
  let v98 : BitVec 32 := Scalar.divsi v96 c1_i32_60
  let v99 : BitVec 32 := Scalar.muli v98 c1_i32_60
  let v100 : BitVec 32 := Scalar.addi c0_i32_59 v99
  let c1_i32_62 : BitVec 32 := 1#32
  let arg20 : BitVec 32 := Scf.iv v100 c1_i32_62 k0_t4
  let c512_i32_100 : BitVec 32 := 512#32
  let v168 : BitVec 32 := Scalar.muli arg20 c512_i32_100
  let v169 : BitVec 32 := v168
  let v205 : Index := Scalar.indexCast v169
  ![1, 0, v205.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x8192 : Shape := ⟨3, ![4, 2048, 8192]⟩
abbrev S4x2048x12x2x128 : Shape := ⟨5, ![4, 2048, 12, 2, 128]⟩
abbrev S4x2048x12x256 : Shape := ⟨4, ![4, 2048, 12, 256]⟩
abbrev S32x12 : Shape := ⟨2, ![32, 12]⟩
abbrev S128 : Shape := ⟨1, ![128]⟩
abbrev S256 : Shape := ⟨1, ![256]⟩
abbrev S4x2048x3072 : Shape := ⟨3, ![4, 2048, 3072]⟩
abbrev S2048 : Shape := ⟨1, ![2048]⟩
abbrev S_ : Shape := ⟨0, ![]⟩
abbrev S4x12x2x2048x2048 : Shape := ⟨5, ![4, 12, 2, 2048, 2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x12 : Shape := ⟨3, ![2048, 2048, 12]⟩
abbrev S12x2048x2048 : Shape := ⟨3, ![12, 2048, 2048]⟩
abbrev S1x1x1x2048x2048 : Shape := ⟨5, ![1, 1, 1, 2048, 2048]⟩
abbrev S1x12x1x2048x2048 : Shape := ⟨5, ![1, 12, 1, 2048, 2048]⟩
abbrev S4x12x2x2048 : Shape := ⟨4, ![4, 12, 2, 2048]⟩
abbrev S4x12x2x2048x1 : Shape := ⟨5, ![4, 12, 2, 2048, 1]⟩
abbrev S4x12x1x2048x2048 : Shape := ⟨5, ![4, 12, 1, 2048, 2048]⟩
abbrev S4x12x2048x2048 : Shape := ⟨4, ![4, 12, 2048, 2048]⟩
abbrev S4x12x256x2048 : Shape := ⟨4, ![4, 12, 256, 2048]⟩
abbrev S4x2048x12 : Shape := ⟨3, ![4, 2048, 12]⟩
abbrev S4x2048x12x1 : Shape := ⟨4, ![4, 2048, 12, 1]⟩
abbrev S1x1x1x256 : Shape := ⟨4, ![1, 1, 1, 256]⟩

abbrev nBuf : Space → Nat
  | .hbm => 137
  | .vmem => 0
  | .smem => 0
  | _ => 0

abbrev hbmTy0_0 (i : Nat) : BufTy := match i % 128 with
  | 0 => ⟨S4x2048x8192, .f32⟩
  | 1 => ⟨S4x2048x12x2x128, .f32⟩
  | 2 => ⟨S4x2048x12x256, .f32⟩
  | 3 => ⟨S32x12, .f32⟩
  | 4 => ⟨S128, .f32⟩
  | 5 => ⟨S128, .f32⟩
  | 6 => ⟨S128, .f32⟩
  | 7 => ⟨S128, .f32⟩
  | 8 => ⟨S256, .f32⟩
  | 9 => ⟨S4x2048x3072, .f32⟩
  | 10 => ⟨S4x2048x12x2x128, .f32⟩
  | 11 => ⟨S4x2048x3072, .f32⟩
  | 12 => ⟨S2048, .i32⟩
  | 13 => ⟨S128, .f32⟩
  | 14 => ⟨S_, .f32⟩
  | 15 => ⟨S_, .f32⟩
  | 16 => ⟨S_, .f32⟩
  | 17 => ⟨S128, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S4x12x2x2048x2048, .f32⟩
  | 25 => ⟨S_, .f32⟩
  | 26 => ⟨S4x12x2x2048x2048, .f32⟩
  | 27 => ⟨S4x12x2x2048x2048, .f32⟩
  | 28 => ⟨S2048x1, .i32⟩
  | 29 => ⟨S1x2048, .i32⟩
  | 30 => ⟨S2048x2048, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i32⟩
  | 39 => ⟨S2048x2048, .f32⟩
  | 40 => ⟨S_, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S2048x2048, .i32⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i32⟩
  | 61 => ⟨S_, .i32⟩
  | 62 => ⟨S2048x2048, .i32⟩
  | 63 => ⟨S2048x2048, .i1⟩
  | 64 => ⟨S_, .i32⟩
  | 65 => ⟨S2048x2048, .i32⟩
  | 66 => ⟨S2048x2048, .i32⟩
  | 67 => ⟨S2048x2048, .i32⟩
  | 68 => ⟨S2048x2048x1, .i32⟩
  | 69 => ⟨S2048x2048x12, .f32⟩
  | 70 => ⟨S12x2048x2048, .f32⟩
  | 71 => ⟨S_, .i32⟩
  | 72 => ⟨S2048x2048, .i32⟩
  | 73 => ⟨S2048x2048, .i1⟩
  | 74 => ⟨S1x1x1x2048x2048, .i1⟩
  | 75 => ⟨S1x12x1x2048x2048, .f32⟩
  | 76 => ⟨S4x12x2x2048x2048, .f32⟩
  | 77 => ⟨S4x12x2x2048x2048, .f32⟩
  | 78 => ⟨S_, .f32⟩
  | 79 => ⟨S_, .f32⟩
  | 80 => ⟨S4x12x2x2048x2048, .i1⟩
  | 81 => ⟨S4x12x2x2048x2048, .f32⟩
  | 82 => ⟨S4x12x2x2048x2048, .f32⟩
  | 83 => ⟨S_, .f32⟩
  | 84 => ⟨S4x12x2x2048, .f32⟩
  | 85 => ⟨S_, .f32⟩
  | 86 => ⟨S4x12x2x2048, .f32⟩
  | 87 => ⟨S4x12x2x2048, .f32⟩
  | 88 => ⟨S4x12x2x2048x1, .f32⟩
  | 89 => ⟨S4x12x2x2048x2048, .f32⟩
  | 90 => ⟨S4x12x2x2048x2048, .f32⟩
  | 91 => ⟨S4x12x2x2048x2048, .f32⟩
  | 92 => ⟨S_, .f32⟩
  | 93 => ⟨S4x12x2x2048, .f32⟩
  | 94 => ⟨S4x12x2x2048x1, .f32⟩
  | 95 => ⟨S4x12x2x2048x2048, .f32⟩
  | 96 => ⟨S4x12x2x2048x2048, .f32⟩
  | 97 => ⟨S4x12x1x2048x2048, .f32⟩
  | 98 => ⟨S4x12x2048x2048, .f32⟩
  | 99 => ⟨S4x12x1x2048x2048, .f32⟩
  | 100 => ⟨S4x12x2048x2048, .f32⟩
  | 101 => ⟨S4x12x2048x2048, .f32⟩
  | 102 => ⟨S4x12x2048x2048, .f32⟩
  | 103 => ⟨S4x12x2048x2048, .f32⟩
  | 104 => ⟨S4x12x256x2048, .f32⟩
  | 105 => ⟨S4x2048x12x256, .f32⟩
  | 106 => ⟨S4x2048x12x256, .f32⟩
  | 107 => ⟨S_, .f32⟩
  | 108 => ⟨S4x2048x12, .f32⟩
  | 109 => ⟨S4x2048x12x1, .f32⟩
  | 110 => ⟨S_, .f32⟩
  | 111 => ⟨S4x2048x12x1, .f32⟩
  | 112 => ⟨S4x2048x12x1, .f32⟩
  | 113 => ⟨S_, .f32⟩
  | 114 => ⟨S4x2048x12x1, .f32⟩
  | 115 => ⟨S4x2048x12x1, .f32⟩
  | 116 => ⟨S4x2048x12x1, .f32⟩
  | 117 => ⟨S4x2048x12x256, .f32⟩
  | 118 => ⟨S4x2048x12x256, .f32⟩
  | 119 => ⟨S1x1x1x256, .f32⟩
  | 120 => ⟨S4x2048x12x256, .f32⟩
  | 121 => ⟨S4x2048x12x256, .f32⟩
  | 122 => ⟨S_, .f32⟩
  | 123 => ⟨S4x2048x12x256, .f32⟩
  | 124 => ⟨S4x2048x12x256, .f32⟩
  | 125 => ⟨S4x2048x3072, .f32⟩
  | 126 => ⟨S4x2048x3072, .f32⟩
  | 127 => ⟨S4x2048x3072, .f32⟩
  | _ => ⟨S4x2048x8192, .f32⟩

abbrev hbmTy0_1 (i : Nat) : BufTy := match i % 128 with
  | 0 => ⟨S_, .f32⟩
  | 1 => ⟨S4x2048x3072, .f32⟩
  | 2 => ⟨S4x2048x3072, .f32⟩
  | 3 => ⟨S_, .f32⟩
  | 4 => ⟨S4x2048x3072, .f32⟩
  | 5 => ⟨S4x2048x3072, .f32⟩
  | 6 => ⟨S4x2048x3072, .f32⟩
  | 7 => ⟨S4x2048x3072, .f32⟩
  | 8 => ⟨S4x2048x3072, .bf16⟩
  | _ => ⟨S4x2048x8192, .f32⟩

abbrev hbmTy (i : Nat) : BufTy := match i / 128 with
  | 0 => hbmTy0_0 i
  | 1 => hbmTy0_1 i
  | _ => ⟨S4x2048x8192, .f32⟩

abbrev bufTy : (tb : Table) → Fin (tcTables nBuf tb) → BufTy
  | .hbm, ⟨i, _⟩ => hbmTy i
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_call2_v5 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096 : Shape := ⟨1, ![4096]⟩
abbrev S4096x11264 : Shape := ⟨2, ![4096, 11264]⟩
abbrev S8192x4096 : Shape := ⟨2, ![8192, 4096]⟩
abbrev S1x4096 : Shape := ⟨2, ![1, 4096]⟩
abbrev S8192x11264 : Shape := ⟨2, ![8192, 11264]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x11264, .f32⟩
  | .hbm, ⟨3, _⟩ => ⟨S8192x4096, .f32⟩
  | .hbm, ⟨4, _⟩ => ⟨S4096x11264, .bf16⟩
  | .hbm, ⟨5, _⟩ => ⟨S1x4096, .f32⟩
  | .hbm, ⟨6, _⟩ => ⟨S8192x11264, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x4096 : Shape := ⟨3, ![4, 2048, 4096]⟩
abbrev S4096 : Shape := ⟨1, ![4096]⟩
abbrev S4096x11264 : Shape := ⟨2, ![4096, 11264]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x11264 : Shape := ⟨3, ![4, 2048, 11264]⟩
abbrev S8192x11264 : Shape := ⟨2, ![8192, 11264]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x11264, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x11264, .f32⟩
  | .hbm, ⟨20, _⟩ => ⟨S8192x11264, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S4x2048x3072 : Shape := ⟨3, ![4, 2048, 3072]⟩
abbrev S4x2048x1024 : Shape := ⟨3, ![4, 2048, 1024]⟩
abbrev S4096x4096 : Shape := ⟨2, ![4096, 4096]⟩
abbrev S4x2048x4096 : Shape := ⟨3, ![4, 2048, 4096]⟩
abbrev S8192x3072 : Shape := ⟨2, ![8192, 3072]⟩
abbrev S8192x1024 : Shape := ⟨2, ![8192, 1024]⟩
abbrev S8192x4096 : Shape := ⟨2, ![8192, 4096]⟩
abbrev S512x3072 : Shape := ⟨2, ![512, 3072]⟩
abbrev S512x1024 : Shape := ⟨2, ![512, 1024]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x3072, .f32⟩
  | .hbm, ⟨1, _⟩ => ⟨S4x2048x1024, .f32⟩
  | .hbm, ⟨2, _⟩ => ⟨S4096x4096, .f32⟩
  | .hbm, ⟨3, _⟩ => ⟨S4x2048x4096, .f32⟩
  | .hbm, ⟨4, _⟩ => ⟨S8192x3072, .f32⟩
  | .hbm, ⟨5, _⟩ => ⟨S8192x3072, .bf16⟩
  | .hbm, ⟨6, _⟩ => ⟨S8192x1024, .f32⟩
  | .hbm, ⟨7, _⟩ => ⟨S8192x1024, .bf16⟩
  | .hbm, ⟨8, _⟩ => ⟨S4096x4096, .bf16⟩
  | .hbm, ⟨9, _⟩ => ⟨S8192x4096, .f32⟩
  | .hbm, ⟨10, _⟩ => ⟨S8192x4096, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x2048x3072 : Shape := ⟨3, ![4, 2048, 3072]⟩
abbrev S4x2048x1024 : Shape := ⟨3, ![4, 2048, 1024]⟩
abbrev S4096x4096 : Shape := ⟨2, ![4096, 4096]⟩
abbrev S4x2048x4096 : Shape := ⟨3, ![4, 2048, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x1024, .f32⟩
  | .hbm, ⟨2, _⟩ => ⟨S4096x4096, .f32⟩
  | .hbm, ⟨3, _⟩ => ⟨S4x2048x4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.KernelLoops.lean ====
module

public import proofs.«01_k».proof.Proof.KernelOffsets
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A trip of the far loop keeps the keys, and leaves the scores and the lane maxima at some contents. -/
@[sl_loop] def loopInv_k0_t1 (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (arg2 : BitVec 32) (v6 : FVec F S512x128 .bf16) (v8 : FVec F S512x128 .bf16) (v22 : FVec F S1x1 .f32) (c0_i32_19 : BitVec 32) (c1_i32_20 : BitVec 32) (v27 : BitVec 32)
    (X5 : BufTy.Contents (Elt F) arg5.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v8 v22 c0_i32_19 c1_i32_20 v27 where
  inv := fun _ _ => iprop((arg5.view.loc (c : Thread nD τ) ↦[arg5.view.set]{fullShare} X5)
    ∗ (∃ f, arg16.view.loc (c : Thread nD τ) ↦[arg16.view.set]{fullShare} f)
    ∗ (∃ f, arg17.view.loc (c : Thread nD τ) ↦[arg17.view.set]{fullShare} f))
  step := fun k acc => by
    unfold k0_t1_body
    iintro ⟨H5, ⟨%f16, H16⟩, ⟨%f17, H17⟩⟩
    sl_exec
    sl_step
    isplitl [H5]; · iexact H5
    isplitl [H16]; · iexists _; iexact H16
    iexists _; iexact H17

/-- A trip of the far loop keeps the keys, and leaves the scores and the lane maxima at some contents. -/
@[sl_loop] def loopInv_k0_t2 (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (arg2 : BitVec 32) (v6 : FVec F S512x128 .bf16) (v8 : FVec F S512x128 .bf16) (v22 : FVec F S1x1 .f32) (c0_i32_19 : BitVec 32) (c1_i32_20 : BitVec 32) (v27 : BitVec 32) (v29 : BitVec 32)
    (X5 : BufTy.Contents (Elt F) arg5.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v8 v22 c0_i32_19 c1_i32_20 v27 v29 where
  inv := fun _ _ => iprop((arg5.view.loc (c : Thread nD τ) ↦[arg5.view.set]{fullShare} X5)
    ∗ (∃ f, arg16.view.loc (c : Thread nD τ) ↦[arg16.view.set]{fullShare} f)
    ∗ (∃ f, arg17.view.loc (c : Thread nD τ) ↦[arg17.view.set]{fullShare} f))
  step := fun k acc => by
    unfold k0_t2_body
    iintro ⟨H5, ⟨%f16, H16⟩, ⟨%f17, H17⟩⟩
    sl_exec
    sl_step
    isplitl [H5]; · iexact H5
    isplitl [H16]; · iexists _; iexact H16
    iexists _; iexact H17

end Cert.Kernel.Run

end
-- ==== Proof.KernelRun.lean ====
module

public import proofs.«01_k».proof.Proof.KernelLoops
public import proofs.«01_k».proof.Proof.Gen.Kernel.Frame
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel's body at a point of a first query tile: the inputs stay, the output block and the scratch end at some contents. -/
theorem body_first (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (hc1 : cond1 i) (hc2 : ¬ k0_cond2 i = 1#1)
    (x3 : Vec F S1x512x256 .f32) (x4 : Vec F S1x512x256 .f32) (x5 : Vec F S1x1x2048x256 .bf16) (x6 : Vec F S1x1x2048x256 .f32) (x7 : Vec F S1x128x128 .f32) (x8 : Vec F S1x128x128 .f32) (x9 : Vec F S1x1x128 .f32) (x10 : Vec F S4x128 .f32) (x11 : Vec F S1x256 .f32) (E : Set ℕ) (hE : E = Set.univ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_dattn0_p i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hE
  simp only [cc0_dattn0_p_eq_skeleton]; unfold cc0_dattn0_p_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

set_option maxHeartbeats 4000000 in
/-- The kernel's body at a point of a later query tile: the inputs stay, the output block and the scratch end at some contents. -/
theorem body_later (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (hc1 : ¬ cond1 i) (hc2 : k0_cond2 i = 1#1)
    (x3 : Vec F S1x512x256 .f32) (x4 : Vec F S1x512x256 .f32) (x5 : Vec F S1x1x2048x256 .bf16) (x6 : Vec F S1x1x2048x256 .f32) (x7 : Vec F S1x128x128 .f32) (x8 : Vec F S1x128x128 .f32) (x9 : Vec F S1x1x128 .f32) (x10 : Vec F S4x128 .f32) (x11 : Vec F S1x256 .f32) (E : Set ℕ) (hE : E = Set.univ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_dattn0_p i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hE
  simp only [cc0_dattn0_p_eq_skeleton]; unfold cc0_dattn0_p_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.Kernel.Run

end
-- ==== Proof.KernelFrame.lean ====
module

public import proofs.«01_k».proof.Proof.KernelRun
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch, with nothing said of the output -/

abbrev st0 (t : Fin cfg0.N) : Memref sig .tc .vmem S1x512x256 .f32 := win0_0.stage (cfg0.slots t 0)
abbrev st1 (t : Fin cfg0.N) : Memref sig .tc .vmem S1x512x256 .f32 := win0_1.stage (cfg0.slots t 1)
abbrev st2 (t : Fin cfg0.N) : Memref sig .tc .vmem S1x1x2048x256 .bf16 := win0_2.stage (cfg0.slots t 2)
abbrev st3 (t : Fin cfg0.N) : Memref sig .tc .vmem S1x1x2048x256 .f32 := win0_3.stage (cfg0.slots t 3)
abbrev st4 (t : Fin cfg0.N) : Memref sig .tc .vmem S1x128x128 .f32 := win0_4.stage (cfg0.slots t 4)
abbrev st5 (t : Fin cfg0.N) : Memref sig .tc .vmem S1x128x128 .f32 := win0_5.stage (cfg0.slots t 5)
abbrev st6 (t : Fin cfg0.N) : Memref sig .tc .vmem S1x1x128 .f32 := win0_6.stage (cfg0.slots t 6)
abbrev st7 (t : Fin cfg0.N) : Memref sig .tc .vmem S4x128 .f32 := win0_7.stage (cfg0.slots t 7)
abbrev st8 (t : Fin cfg0.N) : Memref sig .tc .vmem S1x256 .f32 := win0_8.stage (cfg0.slots t 8)
abbrev st9 (t : Fin cfg0.N) : Memref sig .tc .vmem S1x512x256 .bf16 := win0_9.stage (cfg0.slots t 9)
abbrev sc0 : Memref sig .tc .vmem S2048x256 .bf16 := Memref.whole cc0_scratch0
abbrev sc1 : Memref sig .tc .vmem S512x512 .f32 := Memref.whole cc0_scratch1
abbrev sc2 : Memref sig .tc .vmem S512x512 .f32 := Memref.whole cc0_scratch2
abbrev sc3 : Memref sig .tc .vmem S2x512x2048 .f32 := Memref.whole cc0_scratch3
abbrev sc4 : Memref sig .tc .vmem S2x512x128 .f32 := Memref.whole cc0_scratch4
abbrev sc5 : Memref sig .tc .vmem S2x512x128 .f32 := Memref.whole cc0_scratch5
abbrev sc6 : Memref sig .tc .vmem S2x512x256 .f32 := Memref.whole cc0_scratch6

/-- The region's invariant, with the scratch buffers as memrefs. -/
theorem rest_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The output window is left unnamed. -/
def hidden : Fin 10 → Bool := fun w => w.val == 9

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem found0 (c : Dev nD) (t : Fin cfg0.N) (d) : (dats m 0 c).before 0 t d = iblk m c 0 t :=
  before0_0_of m (dats m 0 c) (dats_A m c 0) (left0 m c) t d
theorem left1 (c : Dev nD) (t : Fin cfg0.N) : (dats m 0 c).after 1 t = iblk m c 1 t := by dsimp only [dats]
theorem found1 (c : Dev nD) (t : Fin cfg0.N) (d) : (dats m 0 c).before 1 t d = iblk m c 1 t :=
  before0_1_of m (dats m 0 c) (dats_A m c 1) (left1 m c) t d
theorem left2 (c : Dev nD) (t : Fin cfg0.N) : (dats m 0 c).after 2 t = iblk m c 2 t := by dsimp only [dats]
theorem found2 (c : Dev nD) (t : Fin cfg0.N) (d) : (dats m 0 c).before 2 t d = iblk m c 2 t :=
  before0_2_of m (dats m 0 c) (dats_A m c 2) (left2 m c) t d
theorem left3 (c : Dev nD) (t : Fin cfg0.N) : (dats m 0 c).after 3 t = iblk m c 3 t := by dsimp only [dats]
theorem found3 (c : Dev nD) (t : Fin cfg0.N) (d) : (dats m 0 c).before 3 t d = iblk m c 3 t :=
  before0_3_of m (dats m 0 c) (dats_A m c 3) (left3 m c) t d
theorem left4 (c : Dev nD) (t : Fin cfg0.N) : (dats m 0 c).after 4 t = iblk m c 4 t := by dsimp only [dats]
theorem found4 (c : Dev nD) (t : Fin cfg0.N) (d) : (dats m 0 c).before 4 t d = iblk m c 4 t :=
  before0_4_of m (dats m 0 c) (dats_A m c 4) (left4 m c) t d
theorem left5 (c : Dev nD) (t : Fin cfg0.N) : (dats m 0 c).after 5 t = iblk m c 5 t := by dsimp only [dats]
theorem found5 (c : Dev nD) (t : Fin cfg0.N) (d) : (dats m 0 c).before 5 t d = iblk m c 5 t :=
  before0_5_of m (dats m 0 c) (dats_A m c 5) (left5 m c) t d
theorem left6 (c : Dev nD) (t : Fin cfg0.N) : (dats m 0 c).after 6 t = iblk m c 6 t := by dsimp only [dats]
theorem found6 (c : Dev nD) (t : Fin cfg0.N) (d) : (dats m 0 c).before 6 t d = iblk m c 6 t :=
  before0_6_of m (dats m 0 c) (dats_A m c 6) (left6 m c) t d
theorem left7 (c : Dev nD) (t : Fin cfg0.N) : (dats m 0 c).after 7 t = iblk m c 7 t := by dsimp only [dats]
theorem found7 (c : Dev nD) (t : Fin cfg0.N) (d) : (dats m 0 c).before 7 t d = iblk m c 7 t :=
  before0_7_of m (dats m 0 c) (dats_A m c 7) (left7 m c) t d
theorem left8 (c : Dev nD) (t : Fin cfg0.N) : (dats m 0 c).after 8 t = iblk m c 8 t := by dsimp only [dats]
theorem found8 (c : Dev nD) (t : Fin cfg0.N) (d) : (dats m 0 c).before 8 t d = iblk m c 8 t :=
  before0_8_of m (dats m 0 c) (dats_A m c 8) (left8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ owns (c : Thread nD τ) (st7 t) fullShare ((dats m 0 c).after 7 t) ∗ owns (c : Thread nD τ) (st8 t) fullShare ((dats m 0 c).after 8 t) ∗ (∃ d, owns (c : Thread nD τ) (st9 t) fullShare d))

set_option maxHeartbeats 800000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  rw [show (dats m 0 c).Φ t.castSucc = Pipeline.ΦA spec0 c from rfl, rest_eq]
  by_cases h : cond1 (grid0.coords t)
  · iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ _ _ _ _ _ _ _ _ _ _ _ _ h (fun h2 => absurd ((cond1_iff _).mp h) (by have := (cond2_iff _).mp h2; omega)) (iblk m c 0 t) (iblk m c 1 t) (iblk m c 2 t) (iblk m c 3 t) (iblk m c 4 t) (iblk m c 5 t) (iblk m c 6 t) (iblk m c 7 t) (iblk m c 8 t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ _ _ _ _ _ _ _ _ _ _ _ _ _ _ h ((cond2_iff _).mpr (Nat.one_le_iff_ne_zero.mpr fun e => h ((cond1_iff _).mpr e))) (iblk m c 0 t) (iblk m c 1 t) (iblk m c 2 t) (iblk m c 3 t) (iblk m c 4 t) (iblk m c 5 t) (iblk m c 6 t) (iblk m c 7 t) (iblk m c 8 t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ hidden := fun t => by
  rw [bigSep_W0, bigSep_W0, row_at]
  exact triple_restated (body_at m c t) rfl .rfl fun _ => .rfl

set_option backward.isDefEq.respectTransparency.types false in
/-- Every execution ends, with the inputs as they were and every counter at zero. -/
theorem run_all : θ_run defs (onTc (τ := τ) (main (F := F))) (s₀ m ρ)
    (fun r => (Pipeline.RDat.FramePost (cfgs 0) (fun c => (dats m 0 c).toRForget hidden) (V m)) r ∧ r.2.sem = fun _ => 0) :=
  Pipeline.θ_run_frame_forget_shared (Q' := _) cfgs (dats m) (0 : Fin 1) launch₀0 defs₀ Variants.none hidden m ρ main
    (hbody := fun c => (obligation m c).loose) (hq := fun _ _ _ => rfl)
    (howed := fun _ _ => rfl) (V := V m) (hmain := hmain m Variants.none) (hA := dats_A m) (hΦ := fun _ _ => rfl)

/-- The launch leaves the nine arguments as they were, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(Pipeline.RDat.FramePost.arr_in h.1 c 1 rfl).trans ((dats_A m c 1).trans (V_main_arg0 m c)),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c),
     ((h.1 c).2 main_arg6 (Pipeline.mem_restRefs_of main_arg6 (by decide) (by decide))).trans (V_main_arg6 m c),
     ((h.1 c).2 main_arg7 (Pipeline.mem_restRefs_of main_arg7 (by decide) (by decide))).trans (V_main_arg7 m c),
     ((h.1 c).2 main_arg8 (Pipeline.mem_restRefs_of main_arg8 (by decide) (by decide))).trans (V_main_arg8 m c)⟩, h.2⟩) (run_all m ρ)

end Cert.Kernel.Run

end
-- ==== Proof.KernelIdealOffsets.lean ====
module

public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! # The offsets the kernel computes, in closed form

The key block of trip `k` begins at row `512 * k`; the block of the query tile's own keys at `512 * qi`, and the block
before it at `512 * (qi - 1)`, taken modulo the word when there is none. -/

theorem off1_eq : ∀ (i : grid0.Coords) (k : Fin (k0_t1_loop i).trips), k0_off1 i k = ![0, 0, 512 * k.val, 0] := by decide +kernel
instance (i : grid0.Coords) (k : Fin (k0_t1_loop i).trips) : ClosedOff (k0_off1 i k) := ⟨_, off1_eq i k⟩
theorem off2_eq : ∀ (i : grid0.Coords) (k : Fin (k0_t1_loop i).trips), k0_off2 i k = ![0, 0, 512 * k.val] := by decide +kernel
instance (i : grid0.Coords) (k : Fin (k0_t1_loop i).trips) : ClosedOff (k0_off2 i k) := ⟨_, off2_eq i k⟩
theorem off3_eq : ∀ (i : grid0.Coords) (k : Fin (k0_t1_loop i).trips), k0_off3 i k = ![1, 0, 512 * k.val] := by decide +kernel
instance (i : grid0.Coords) (k : Fin (k0_t1_loop i).trips) : ClosedOff (k0_off3 i k) := ⟨_, off3_eq i k⟩
theorem off4_eq : ∀ (i : grid0.Coords) (k : Fin (k0_t2_loop i).trips), k0_off4 i k = ![0, 0, 512 * k.val, 0] := by decide +kernel
instance (i : grid0.Coords) (k : Fin (k0_t2_loop i).trips) : ClosedOff (k0_off4 i k) := ⟨_, off4_eq i k⟩
theorem off5_eq : ∀ (i : grid0.Coords) (k : Fin (k0_t2_loop i).trips), k0_off5 i k = ![0, 0, 512 * k.val] := by decide +kernel
instance (i : grid0.Coords) (k : Fin (k0_t2_loop i).trips) : ClosedOff (k0_off5 i k) := ⟨_, off5_eq i k⟩
theorem off6_eq : ∀ (i : grid0.Coords) (k : Fin (k0_t2_loop i).trips), k0_off6 i k = ![1, 0, 512 * k.val] := by decide +kernel
instance (i : grid0.Coords) (k : Fin (k0_t2_loop i).trips) : ClosedOff (k0_off6 i k) := ⟨_, off6_eq i k⟩
theorem off13_eq : ∀ (i : grid0.Coords) (k : Fin (k0_t3_loop i).trips), k0_off13 i k = ![512 * k.val, 0] := by decide +kernel
instance (i : grid0.Coords) (k : Fin (k0_t3_loop i).trips) : ClosedOff (k0_off13 i k) := ⟨_, off13_eq i k⟩
theorem off14_eq : ∀ (i : grid0.Coords) (k : Fin (k0_t3_loop i).trips), k0_off14 i k = ![0, 0, 512 * k.val] := by decide +kernel
instance (i : grid0.Coords) (k : Fin (k0_t3_loop i).trips) : ClosedOff (k0_off14 i k) := ⟨_, off14_eq i k⟩
theorem off15_eq : ∀ (i : grid0.Coords) (k : Fin (k0_t3_loop i).trips), k0_off15 i k = ![1, 0, 512 * k.val] := by decide +kernel
instance (i : grid0.Coords) (k : Fin (k0_t3_loop i).trips) : ClosedOff (k0_off15 i k) := ⟨_, off15_eq i k⟩
theorem off16_eq : ∀ (i : grid0.Coords) (k : Fin (k0_t4_loop i).trips), k0_off16 i k = ![512 * k.val, 0] := by decide +kernel
instance (i : grid0.Coords) (k : Fin (k0_t4_loop i).trips) : ClosedOff (k0_off16 i k) := ⟨_, off16_eq i k⟩
theorem off17_eq : ∀ (i : grid0.Coords) (k : Fin (k0_t4_loop i).trips), k0_off17 i k = ![0, 0, 512 * k.val] := by decide +kernel
instance (i : grid0.Coords) (k : Fin (k0_t4_loop i).trips) : ClosedOff (k0_off17 i k) := ⟨_, off17_eq i k⟩
theorem off18_eq : ∀ (i : grid0.Coords) (k : Fin (k0_t4_loop i).trips), k0_off18 i k = ![1, 0, 512 * k.val] := by decide +kernel
instance (i : grid0.Coords) (k : Fin (k0_t4_loop i).trips) : ClosedOff (k0_off18 i k) := ⟨_, off18_eq i k⟩
theorem off7_eq : ∀ i : grid0.Coords, k0_off7 i = ![0, 0, ((i 2).val + 8388607) % 8388608 * 512, 0] := by decide +kernel
instance (i : grid0.Coords) : ClosedOff (k0_off7 i) := ⟨_, off7_eq i⟩
theorem off8_eq : ∀ i : grid0.Coords, k0_off8 i = ![0, 0, ((i 2).val + 8388607) % 8388608 * 512] := by decide +kernel
instance (i : grid0.Coords) : ClosedOff (k0_off8 i) := ⟨_, off8_eq i⟩
theorem off9_eq : ∀ i : grid0.Coords, k0_off9 i = ![1, 0, ((i 2).val + 8388607) % 8388608 * 512] := by decide +kernel
instance (i : grid0.Coords) : ClosedOff (k0_off9 i) := ⟨_, off9_eq i⟩
theorem off10_eq : ∀ i : grid0.Coords, k0_off10 i = ![0, 0, 512 * (i 2).val, 0] := by decide +kernel
instance (i : grid0.Coords) : ClosedOff (k0_off10 i) := ⟨_, off10_eq i⟩
theorem off11_eq : ∀ i : grid0.Coords, k0_off11 i = ![0, 0, 512 * (i 2).val] := by decide +kernel
instance (i : grid0.Coords) : ClosedOff (k0_off11 i) := ⟨_, off11_eq i⟩
theorem off12_eq : ∀ i : grid0.Coords, k0_off12 i = ![1, 0, 512 * (i 2).val] := by decide +kernel
instance (i : grid0.Coords) : ClosedOff (k0_off12 i) := ⟨_, off12_eq i⟩

/-- The far loop makes one trip per key block before the one next to the diagonal. -/
theorem trips1_eq : ∀ i : grid0.Coords, (k0_t1_loop i).trips = (i 2).val - 1 := by decide +kernel
/-- Nothing is left over for the second copy of the far loop. -/
theorem trips2_eq : ∀ i : grid0.Coords, (k0_t2_loop i).trips = 0 := by decide +kernel
/-- The accumulation makes one trip per key block up to the diagonal. -/
theorem trips3_eq : ∀ i : grid0.Coords, (k0_t3_loop i).trips = (i 2).val + 1 := by decide +kernel
/-- Nothing is left over for the second copy of the accumulation. -/
theorem trips4_eq : ∀ i : grid0.Coords, (k0_t4_loop i).trips = 0 := by decide +kernel

/-- The first query tile's condition. -/
abbrev cond1 (i : grid0.Coords) : Prop := (Scalar.cmpi .ne (Scalar.extui (Scalar.cmpi .eq (BitVec.ofNat 32 (i 2).val) 0#32)) 0#32) = 1#1
theorem cond1_iff : ∀ i : grid0.Coords, cond1 i ↔ (i 2).val = 0 := by decide +kernel
theorem cond2_iff : ∀ i : grid0.Coords, k0_cond2 i = 1#1 ↔ 1 ≤ (i 2).val := by decide +kernel

end Cert.KernelIdeal.Run

end
-- ==== Proof.KernelIdealLoops.lean ====
module

public import proofs.«01_k».proof.Proof.KernelIdealOffsets
public import proofs.«01_k».proof.Proof.Gen.KernelIdeal.Loops
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! # The two counted loops that run: what each leaves, trip by trip -/

/-- The keys' block of trip `k` of the far loop. -/
def far5 (i : grid0.Coords) (arg5 : Memref sig .tc .vmem S1x1x2048x256 .bf16) (X5 : BufTy.Contents (Elt F) arg5.view.ty) (k : Fin (k0_t1_loop i).trips) : Vec F S1x1x512x256 .bf16 :=
  arg5.view.readAt (Elt F) (Rect.unit (s := S1x1x2048x256) (k0_off1 i k) S1x1x512x256.size (k0_off1_inb i k)).toLoadRect X5

/-- The scores after `k` trips of the far loop. -/
def far16 (i : grid0.Coords) (arg5 : Memref sig .tc .vmem S1x1x2048x256 .bf16) (arg16 : Memref sig .tc .vmem S2x512x2048 .f32) (v6 v8 : FVec F S512x128 .bf16) (v22 : FVec F S1x1 .f32) (X5 : BufTy.Contents (Elt F) arg5.view.ty) : ℕ → List (View.Piece (Elt F) S2x512x2048 .f32)
  | 0 => []
  | k + 1 => if h : k < (k0_t1_loop i).trips then
      [⟨Rect.unit (s := S2x512x2048) (k0_off3 i ⟨k, h⟩) S1x512x512.size (k0_off3_inb i ⟨k, h⟩), k0_pay36 v8 v22 (far5 i arg5 X5 ⟨k, h⟩)⟩,
         ⟨Rect.unit (s := S2x512x2048) (k0_off2 i ⟨k, h⟩) S1x512x512.size (k0_off2_inb i ⟨k, h⟩), k0_pay33 v6 v22 (far5 i arg5 X5 ⟨k, h⟩)⟩] ++ far16 i arg5 arg16 v6 v8 v22 X5 k
    else far16 i arg5 arg16 v6 v8 v22 X5 k

/-- One plane of a two-plane buffer of lane values. -/
def lane17 (arg17 : Memref sig .tc .vmem S2x512x128 .f32) (a : Fin 2) (f : BufTy.Contents (Elt F) arg17.view.ty) : Vec F S1x512x128 .f32 :=
  match a with
  | 0 => arg17.view.readAt (Elt F) (Rect.unit (s := S2x512x128) ![0, 0, 0] S1x512x128.size inb_S2x512x128_S1x512x128_0_0_0).toLoadRect f
  | 1 => arg17.view.readAt (Elt F) (Rect.unit (s := S2x512x128) ![1, 0, 0] S1x512x128.size inb_S2x512x128_S1x512x128_1_0_0).toLoadRect f

/-- One plane of the two-plane accumulator. -/
def lane19 (arg19 : Memref sig .tc .vmem S2x512x256 .f32) (a : Fin 2) (f : BufTy.Contents (Elt F) arg19.view.ty) : Vec F S1x512x256 .f32 :=
  match a with
  | 0 => arg19.view.readAt (Elt F) (Rect.unit (s := S2x512x256) ![0, 0, 0] S1x512x256.size inb_S2x512x256_S1x512x256_0_0_0).toLoadRect f
  | 1 => arg19.view.readAt (Elt F) (Rect.unit (s := S2x512x256) ![1, 0, 0] S1x512x256.size inb_S2x512x256_S1x512x256_1_0_0).toLoadRect f

/-- The lane maxima after `k` trips of the far loop. -/
def far17 (i : grid0.Coords) (arg5 : Memref sig .tc .vmem S1x1x2048x256 .bf16) (arg17 : Memref sig .tc .vmem S2x512x128 .f32) (v6 v8 : FVec F S512x128 .bf16) (v22 : FVec F S1x1 .f32) (X5 : BufTy.Contents (Elt F) arg5.view.ty) (G : BufTy.Contents (Elt F) arg17.view.ty) : ℕ → List (View.Piece (Elt F) S2x512x128 .f32)
  | 0 => []
  | k + 1 => if h : k < (k0_t1_loop i).trips then
      [⟨Rect.unit (s := S2x512x128) ![1, 0, 0] S1x512x128.size inb_S2x512x128_S1x512x128_1_0_0, k0_pay77 (k0_pay35 v8 v22 (far5 i arg5 X5 ⟨k, h⟩)) (lane17 arg17 1 (arg17.view.writes (Elt F) G (far17 i arg5 arg17 v6 v8 v22 X5 G k)))⟩,
         ⟨Rect.unit (s := S2x512x128) ![0, 0, 0] S1x512x128.size inb_S2x512x128_S1x512x128_0_0_0, k0_pay34 v6 v22 (far5 i arg5 X5 ⟨k, h⟩) (lane17 arg17 0 (arg17.view.writes (Elt F) G (far17 i arg5 arg17 v6 v8 v22 X5 G k)))⟩] ++ far17 i arg5 arg17 v6 v8 v22 X5 G k
    else far17 i arg5 arg17 v6 v8 v22 X5 G k

theorem far16_succ (i : grid0.Coords) (arg5 : Memref sig .tc .vmem S1x1x2048x256 .bf16) (arg16 : Memref sig .tc .vmem S2x512x2048 .f32) (v6 v8 : FVec F S512x128 .bf16) (v22 : FVec F S1x1 .f32) (X5 : BufTy.Contents (Elt F) arg5.view.ty) (k : Fin (k0_t1_loop i).trips) :
    far16 i arg5 arg16 v6 v8 v22 X5 (k.val + 1) = [⟨Rect.unit (s := S2x512x2048) (k0_off3 i k) S1x512x512.size (k0_off3_inb i k), k0_pay36 v8 v22 (far5 i arg5 X5 k)⟩,
         ⟨Rect.unit (s := S2x512x2048) (k0_off2 i k) S1x512x512.size (k0_off2_inb i k), k0_pay33 v6 v22 (far5 i arg5 X5 k)⟩] ++ far16 i arg5 arg16 v6 v8 v22 X5 k.val :=
  dif_pos k.isLt

theorem far17_succ (i : grid0.Coords) (arg5 : Memref sig .tc .vmem S1x1x2048x256 .bf16) (arg17 : Memref sig .tc .vmem S2x512x128 .f32) (v6 v8 : FVec F S512x128 .bf16) (v22 : FVec F S1x1 .f32) (X5 : BufTy.Contents (Elt F) arg5.view.ty) (G : BufTy.Contents (Elt F) arg17.view.ty) (k : Fin (k0_t1_loop i).trips) :
    far17 i arg5 arg17 v6 v8 v22 X5 G (k.val + 1) = [⟨Rect.unit (s := S2x512x128) ![1, 0, 0] S1x512x128.size inb_S2x512x128_S1x512x128_1_0_0, k0_pay77 (k0_pay35 v8 v22 (far5 i arg5 X5 k)) (lane17 arg17 1 (arg17.view.writes (Elt F) G (far17 i arg5 arg17 v6 v8 v22 X5 G k.val)))⟩,
         ⟨Rect.unit (s := S2x512x128) ![0, 0, 0] S1x512x128.size inb_S2x512x128_S1x512x128_0_0_0, k0_pay34 v6 v22 (far5 i arg5 X5 k) (lane17 arg17 0 (arg17.view.writes (Elt F) G (far17 i arg5 arg17 v6 v8 v22 X5 G k.val)))⟩] ++ far17 i arg5 arg17 v6 v8 v22 X5 G k.val :=
  dif_pos k.isLt

/-- The far loop. -/
@[sl_loop] def loopInv_k0_t1 (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (arg2 : BitVec 32) (v6 : FVec F S512x128 .bf16) (v8 : FVec F S512x128 .bf16) (v22 : FVec F S1x1 .f32) (c0_i32_19 : BitVec 32) (c1_i32_20 : BitVec 32) (v27 : BitVec 32)
    (X5 : BufTy.Contents (Elt F) arg5.view.ty) (G16 : BufTy.Contents (Elt F) arg16.view.ty) (G17 : BufTy.Contents (Elt F) arg17.view.ty) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v6 v8 v22 c0_i32_19 c1_i32_20 v27 where
  inv := fun k _ => iprop((arg5.view.loc (c : Thread nD τ) ↦[arg5.view.set]{fullShare} X5)
    ∗ (∃ f, (arg16.view.loc (c : Thread nD τ) ↦[arg16.view.set]{fullShare} f) ∗ ⌜f = arg16.view.writes (Elt F) G16 (far16 i arg5 arg16 v6 v8 v22 X5 k)⌝)
    ∗ (∃ f, (arg17.view.loc (c : Thread nD τ) ↦[arg17.view.set]{fullShare} f) ∗ ⌜f = arg17.view.writes (Elt F) G17 (far17 i arg5 arg17 v6 v8 v22 X5 G17 k)⌝))
  step := fun k acc => by
    unfold k0_t1_body
    iintro ⟨H5, ⟨%f16, H16, %h16⟩, ⟨%f17, H17, %h17⟩⟩
    sl_exec
    sl_step
    isplitl [H5]; · iexact H5
    isplitl [H16]
    · iexists _; isplitl [H16]; · iexact H16
      ipureintro; subst h16; rw [far16_succ]; rfl
    iexists _; isplitl [H17]; · iexact H17
    ipureintro; subst h17; rw [far17_succ]; rfl

/-- The values' block of trip `k` of the summing loop. -/
def sum13 (i : grid0.Coords) (arg13 : Memref sig .tc .vmem S2048x256 .bf16) (X13 : BufTy.Contents (Elt F) arg13.view.ty) (k : Fin (k0_t3_loop i).trips) : Vec F S512x256 .bf16 :=
  arg13.view.readAt (Elt F) (Rect.unit (s := S2048x256) (k0_off13 i k) S512x256.size (k0_off13_inb i k)).toLoadRect X13

/-- The scores' block of trip `k` of the summing loop. -/
def sum16 (i : grid0.Coords) (arg16 : Memref sig .tc .vmem S2x512x2048 .f32) (X16 : BufTy.Contents (Elt F) arg16.view.ty) (a : Fin 2) (k : Fin (k0_t3_loop i).trips) : Vec F S1x512x512 .f32 :=
  match a with
  | 0 => arg16.view.readAt (Elt F) (Rect.unit (s := S2x512x2048) (k0_off14 i k) S1x512x512.size (k0_off14_inb i k)).toLoadRect X16
  | 1 => arg16.view.readAt (Elt F) (Rect.unit (s := S2x512x2048) (k0_off15 i k) S1x512x512.size (k0_off15_inb i k)).toLoadRect X16

/-- The lane sums after `k` trips of the summing loop. -/
def sum18 (i : grid0.Coords) (arg16 : Memref sig .tc .vmem S2x512x2048 .f32) (arg18 : Memref sig .tc .vmem S2x512x128 .f32) (v88 v94 : FVec F S512x128 .f32) (X16 : BufTy.Contents (Elt F) arg16.view.ty) (G : BufTy.Contents (Elt F) arg18.view.ty) : ℕ → List (View.Piece (Elt F) S2x512x128 .f32)
  | 0 => []
  | k + 1 => if h : k < (k0_t3_loop i).trips then
      [⟨Rect.unit (s := S2x512x128) ![1, 0, 0] S1x512x128.size inb_S2x512x128_S1x512x128_1_0_0, k0_pay96 v94 (sum16 i arg16 X16 1 ⟨k, h⟩) (lane17 arg18 1 (arg18.view.writes (Elt F) G (sum18 i arg16 arg18 v88 v94 X16 G k)))⟩,
         ⟨Rect.unit (s := S2x512x128) ![0, 0, 0] S1x512x128.size inb_S2x512x128_S1x512x128_0_0_0, k0_pay53 v88 (sum16 i arg16 X16 0 ⟨k, h⟩) (lane17 arg18 0 (arg18.view.writes (Elt F) G (sum18 i arg16 arg18 v88 v94 X16 G k)))⟩] ++ sum18 i arg16 arg18 v88 v94 X16 G k
    else sum18 i arg16 arg18 v88 v94 X16 G k

/-- The weighted sums of the values after `k` trips of the summing loop. -/
def sum19 (i : grid0.Coords) (arg13 : Memref sig .tc .vmem S2048x256 .bf16) (arg16 : Memref sig .tc .vmem S2x512x2048 .f32) (arg19 : Memref sig .tc .vmem S2x512x256 .f32) (v88 v94 : FVec F S512x128 .f32) (X13 : BufTy.Contents (Elt F) arg13.view.ty) (X16 : BufTy.Contents (Elt F) arg16.view.ty) (G : BufTy.Contents (Elt F) arg19.view.ty) : ℕ → List (View.Piece (Elt F) S2x512x256 .f32)
  | 0 => []
  | k + 1 => if h : k < (k0_t3_loop i).trips then
      [⟨Rect.unit (s := S2x512x256) ![1, 0, 0] S1x512x256.size inb_S2x512x256_S1x512x256_1_0_0, k0_pay97 v94 (sum13 i arg13 X13 ⟨k, h⟩) (sum16 i arg16 X16 1 ⟨k, h⟩) (lane19 arg19 1 (arg19.view.writes (Elt F) G (sum19 i arg13 arg16 arg19 v88 v94 X13 X16 G k)))⟩,
         ⟨Rect.unit (s := S2x512x256) ![0, 0, 0] S1x512x256.size inb_S2x512x256_S1x512x256_0_0_0, k0_pay54 v88 (sum13 i arg13 X13 ⟨k, h⟩) (sum16 i arg16 X16 0 ⟨k, h⟩) (lane19 arg19 0 (arg19.view.writes (Elt F) G (sum19 i arg13 arg16 arg19 v88 v94 X13 X16 G k)))⟩] ++ sum19 i arg13 arg16 arg19 v88 v94 X13 X16 G k
    else sum19 i arg13 arg16 arg19 v88 v94 X13 X16 G k

theorem sum18_succ (i : grid0.Coords) (arg16 : Memref sig .tc .vmem S2x512x2048 .f32) (arg18 : Memref sig .tc .vmem S2x512x128 .f32) (v88 v94 : FVec F S512x128 .f32) (X16 : BufTy.Contents (Elt F) arg16.view.ty) (G : BufTy.Contents (Elt F) arg18.view.ty) (k : Fin (k0_t3_loop i).trips) :
    sum18 i arg16 arg18 v88 v94 X16 G (k.val + 1) = [⟨Rect.unit (s := S2x512x128) ![1, 0, 0] S1x512x128.size inb_S2x512x128_S1x512x128_1_0_0, k0_pay96 v94 (sum16 i arg16 X16 1 k) (lane17 arg18 1 (arg18.view.writes (Elt F) G (sum18 i arg16 arg18 v88 v94 X16 G k.val)))⟩,
         ⟨Rect.unit (s := S2x512x128) ![0, 0, 0] S1x512x128.size inb_S2x512x128_S1x512x128_0_0_0, k0_pay53 v88 (sum16 i arg16 X16 0 k) (lane17 arg18 0 (arg18.view.writes (Elt F) G (sum18 i arg16 arg18 v88 v94 X16 G k.val)))⟩] ++ sum18 i arg16 arg18 v88 v94 X16 G k.val :=
  dif_pos k.isLt

theorem sum19_succ (i : grid0.Coords) (arg13 : Memref sig .tc .vmem S2048x256 .bf16) (arg16 : Memref sig .tc .vmem S2x512x2048 .f32) (arg19 : Memref sig .tc .vmem S2x512x256 .f32) (v88 v94 : FVec F S512x128 .f32) (X13 : BufTy.Contents (Elt F) arg13.view.ty) (X16 : BufTy.Contents (Elt F) arg16.view.ty) (G : BufTy.Contents (Elt F) arg19.view.ty) (k : Fin (k0_t3_loop i).trips) :
    sum19 i arg13 arg16 arg19 v88 v94 X13 X16 G (k.val + 1) = [⟨Rect.unit (s := S2x512x256) ![1, 0, 0] S1x512x256.size inb_S2x512x256_S1x512x256_1_0_0, k0_pay97 v94 (sum13 i arg13 X13 k) (sum16 i arg16 X16 1 k) (lane19 arg19 1 (arg19.view.writes (Elt F) G (sum19 i arg13 arg16 arg19 v88 v94 X13 X16 G k.val)))⟩,
         ⟨Rect.unit (s := S2x512x256) ![0, 0, 0] S1x512x256.size inb_S2x512x256_S1x512x256_0_0_0, k0_pay54 v88 (sum13 i arg13 X13 k) (sum16 i arg16 X16 0 k) (lane19 arg19 0 (arg19.view.writes (Elt F) G (sum19 i arg13 arg16 arg19 v88 v94 X13 X16 G k.val)))⟩] ++ sum19 i arg13 arg16 arg19 v88 v94 X13 X16 G k.val :=
  dif_pos k.isLt

/-- The summing loop. -/
@[sl_loop] def loopInv_k0_t3 (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (v88 : FVec F S512x128 .f32) (v94 : FVec F S512x128 .f32) (c0_i32_59 : BitVec 32) (c1_i32_60 : BitVec 32) (v98 : BitVec 32)
    (X13 : BufTy.Contents (Elt F) arg13.view.ty) (X16 : BufTy.Contents (Elt F) arg16.view.ty) (G18 : BufTy.Contents (Elt F) arg18.view.ty) (G19 : BufTy.Contents (Elt F) arg19.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v88 v94 c0_i32_59 c1_i32_60 v98 where
  inv := fun k _ => iprop((arg13.view.loc (c : Thread nD τ) ↦[arg13.view.set]{fullShare} X13)
    ∗ (arg16.view.loc (c : Thread nD τ) ↦[arg16.view.set]{fullShare} X16)
    ∗ (∃ f, (arg18.view.loc (c : Thread nD τ) ↦[arg18.view.set]{fullShare} f) ∗ ⌜f = arg18.view.writes (Elt F) G18 (sum18 i arg16 arg18 v88 v94 X16 G18 k)⌝)
    ∗ (∃ f, (arg19.view.loc (c : Thread nD τ) ↦[arg19.view.set]{fullShare} f) ∗ ⌜f = arg19.view.writes (Elt F) G19 (sum19 i arg13 arg16 arg19 v88 v94 X13 X16 G19 k)⌝))
  step := fun k acc => by
    unfold k0_t3_body
    iintro ⟨H13, H16, ⟨%f18, H18, %h18⟩, ⟨%f19, H19, %h19⟩⟩
    sl_exec
    sl_step
    isplitl [H13]; · iexact H13
    isplitl [H16]; · iexact H16
    isplitl [H18]
    · iexists _; isplitl [H18]; · iexact H18
      ipureintro; subst h18; rw [sum18_succ]; rfl
    iexists _; isplitl [H19]; · iexact H19
    ipureintro; subst h19; rw [sum19_succ]; rfl

/-- The summing loop's remainder makes no trip. -/
@[sl_loop] def loopInv_k0_t4 (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (v88 : FVec F S512x128 .f32) (v94 : FVec F S512x128 .f32) (c0_i32_59 : BitVec 32) (c1_i32_60 : BitVec 32) (v98 : BitVec 32) (v100 : BitVec 32) :
    LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v88 v94 c0_i32_59 c1_i32_60 v98 v100 where
  inv := fun _ _ => iprop(emp)
  step := fun k acc => absurd k.isLt (by have h := trips4_eq i; unfold Scf.Loop.trips at h; omega)

end Cert.KernelIdeal.Run

end
-- ==== Proof.KernelIdealBlock.lean ====
module

public import proofs.«01_k».proof.Proof.KernelIdealLoops
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! # What the kernel's body computes at one point of the grid, as a function of its blocks

The scores of one key block, the running lane maxima over the key blocks, the lane sums of the weights, the weighted
sums of the values, and the output block made of them; then the contents the run leaves in its scratch, read back as
these. -/

/-- The first half of a key block's columns. -/
def half0 (K : Vec F S1x1x512x256 .bf16) : FVec F S512x128 .bf16 :=
  extractStridedSlice S512x128 ![0, 0] (k0_pay81 K) slices_S512x256_o0_0_S512x128

/-- The scaled scores of a query tile against one key block, with a bias. -/
def score (q : FVec F S512x128 .bf16) (b : FVec F S512x512 .f32) (kk : FVec F S512x128 .bf16) : FVec F S512x512 .f32 :=
  k0_pay86 q b kk (constant S512x512 .f32 0x00000000#32)

/-- The `j`-th block of 512 keys. -/
def kblk (x5 : Vec F S1x1x2048x256 .bf16) (j : ℕ) : Vec F S1x1x512x256 .bf16 :=
  VecWindow.window (s := S1x1x2048x256) x5 ![0, 0, 512 * (j % 4), 0] S1x1x512x256.size (by
    have := Nat.mod_lt j (show 4 > 0 by decide)
    intro a; fin_cases a <;> simp [S1x1x512x256, S1x1x2048x256] <;> omega)

/-- The `j`-th block of 512 rows of values. -/
def vblk (V : Vec F S2048x256 .bf16) (j : ℕ) : Vec F S512x256 .bf16 :=
  VecWindow.window (s := S2048x256) V ![512 * (j % 4), 0] S512x256.size (by
    have := Nat.mod_lt j (show 4 > 0 by decide)
    intro a; fin_cases a <;> simp [S512x256, S2048x256] <;> omega)

/-- The bias of key block `j` for query tile `n`: one number far from the diagonal, then two tables. -/
def bias (n : ℕ) (far : FVec F S1x1 .f32) (B0 B1 : FVec F S512x512 .f32) (j : ℕ) : FVec F S512x512 .f32 :=
  if j + 1 < n then broadcastTo S512x512 far broadcasts_S1x1_S512x512 else if j + 1 = n then B1 else B0

/-- One plane of a two-plane buffer of lanes. -/
def planeL (P : Vec F S2x512x128 .f32) (a : Fin 2) : Vec F S1x512x128 .f32 :=
  match a with
  | 0 => VecWindow.window (s := S2x512x128) P ![0, 0, 0] S1x512x128.size inb_S2x512x128_S1x512x128_0_0_0
  | 1 => VecWindow.window (s := S2x512x128) P ![1, 0, 0] S1x512x128.size inb_S2x512x128_S1x512x128_1_0_0

/-- One plane of the two-plane accumulator. -/
def planeA (P : Vec F S2x512x256 .f32) (a : Fin 2) : Vec F S1x512x256 .f32 :=
  match a with
  | 0 => VecWindow.window (s := S2x512x256) P ![0, 0, 0] S1x512x256.size inb_S2x512x256_S1x512x256_0_0_0
  | 1 => VecWindow.window (s := S2x512x256) P ![1, 0, 0] S1x512x256.size inb_S2x512x256_S1x512x256_1_0_0

/-- The lane maxima over the first blocks of scores. -/
def maxs (b : Vec F S1x512x128 .f32) (S : ℕ → FVec F S512x512 .f32) : ℕ → Vec F S1x512x128 .f32
  | 0 => b
  | k + 1 => k0_pay77 (S k) (maxs b S k)

/-- The lane sums of the weights over the first blocks of scores. -/
def sums (b : Vec F S1x512x128 .f32) (m : FVec F S512x128 .f32) (S : ℕ → FVec F S512x512 .f32) : ℕ → Vec F S1x512x128 .f32
  | 0 => b
  | k + 1 => k0_pay53 m (k0_pay79 (S k)) (sums b m S k)

/-- The weighted sums of the values over the first blocks of scores. -/
def accs (b : Vec F S1x512x256 .f32) (m : FVec F S512x128 .f32) (V : ℕ → Vec F S512x256 .bf16) (S : ℕ → FVec F S512x512 .f32) : ℕ → Vec F S1x512x256 .f32
  | 0 => b
  | k + 1 => k0_pay54 m (V k) (k0_pay79 (S k)) (accs b m V S k)

/-- The row maxima over the first `N` blocks, on every lane. -/
def rowMax (a : Fin 2) (S : ℕ → FVec F S512x512 .f32) (N : ℕ) : FVec F S512x128 .f32 := k0_pay89 (maxs (planeL k0_pay73 a) S N)

/-- The output block from the two score families, the values, and the small operands. -/
def outOf (S0 S1 : ℕ → FVec F S512x512 .f32) (V : ℕ → Vec F S512x256 .bf16) (N : ℕ)
    (x10 : Vec F S4x128 .f32) (x11 : Vec F S1x256 .f32) (x4 : Vec F S1x512x256 .f32) : Vec F S1x512x256 .bf16 :=
  k0_pay1
    (k0_pay105 (VecWindow.window (s := S4x128) x10 ![0, 0] S1x128.size inb_S4x128_S1x128_0_0) (VecWindow.window (s := S4x128) x10 ![1, 0] S1x128.size inb_S4x128_S1x128_1_0)
      (VecWindow.window (s := S4x128) x10 ![2, 0] S1x128.size inb_S4x128_S1x128_2_0) (VecWindow.window (s := S4x128) x10 ![3, 0] S1x128.size inb_S4x128_S1x128_3_0))
    (k0_pay106 (sums (planeL k0_pay74 0) (rowMax 0 S0 N) S0 N))
    (k0_pay107 (sums (planeL k0_pay74 1) (rowMax 1 S1 N) S1 N))
    (accs (planeA k0_pay75 0) (rowMax 0 S0 N) V S0 N)
    (accs (planeA k0_pay75 1) (rowMax 1 S1 N) V S1 N) x11 x4

/-- The first half's scores of key block `j` for query tile `n`. -/
def sc0 (n : ℕ) (x3 : Vec F S1x512x256 .f32) (x5 : Vec F S1x1x2048x256 .bf16) (far : FVec F S1x1 .f32) (B0 B1 : FVec F S512x512 .f32) (j : ℕ) : FVec F S512x512 .f32 :=
  score (k0_pay71 x3) (bias n far B0 B1 j) (half0 (kblk x5 j))

/-- The second half's scores of key block `j` for query tile `n`. -/
def sc1 (n : ℕ) (x3 : Vec F S1x512x256 .f32) (x5 : Vec F S1x1x2048x256 .bf16) (far : FVec F S1x1 .f32) (B0 B1 : FVec F S512x512 .f32) (j : ℕ) : FVec F S512x512 .f32 :=
  score (k0_pay72 x3) (bias n far B0 B1 j) (k0_pay85 (kblk x5 j))

/-- The bias of the far keys, from its block. -/
def farOf (x9 : Vec F S1x1x128 .f32) : FVec F S1x1 .f32 :=
  k0_pay76 (VecWindow.window (s := S1x1x128) x9 ![0, 0, 0] S1x1x1.size inb_S1x1x128_S1x1x1_0_0_0)

/-- The output block of query tile `n`. -/
def outBlk (n : ℕ) (x3 x4 : Vec F S1x512x256 .f32) (x5 : Vec F S1x1x2048x256 .bf16) (x9 : Vec F S1x1x128 .f32) (x10 : Vec F S4x128 .f32) (x11 : Vec F S1x256 .f32)
    (X13 : Vec F S2048x256 .bf16) (X14 X15 : Vec F S512x512 .f32) : Vec F S1x512x256 .bf16 :=
  outOf (sc0 n x3 x5 (farOf x9) X14 X15) (sc1 n x3 x5 (farOf x9) X14 X15) (vblk X13) (n + 1) x10 x11 x4

/-! ## Reading a piece back -/

theorem lane17_hit0 (m : Memref sig .tc .vmem S2x512x128 .f32) (G : BufTy.Contents (Elt F) m.view.ty) (w : Vec F S1x512x128 .f32) (L : List (View.Piece (Elt F) S2x512x128 .f32)) :
    lane17 m 0 (m.view.writes (Elt F) G (⟨Rect.unit (s := S2x512x128) ![0, 0, 0] S1x512x128.size inb_S2x512x128_S1x512x128_0_0_0, w⟩ :: L)) = w := by
  change m.view.readAt (Elt F) (Rect.unit (s := S2x512x128) ![0, 0, 0] S1x512x128.size inb_S2x512x128_S1x512x128_0_0_0).toLoadRect _ = w
  rw [View.readAt_unit _ _ _ rfl inb_S2x512x128_S1x512x128_0_0_0, View.read_writes_cons_put _ _ _ _ _ rfl]
  exact VecWindow.window_put_same (s := S2x512x128) _ _ _ _ _

theorem lane17_miss0 (m : Memref sig .tc .vmem S2x512x128 .f32) (G : BufTy.Contents (Elt F) m.view.ty) (w : Vec F S1x512x128 .f32) (L : List (View.Piece (Elt F) S2x512x128 .f32)) :
    lane17 m 0 (m.view.writes (Elt F) G (⟨Rect.unit (s := S2x512x128) ![1, 0, 0] S1x512x128.size inb_S2x512x128_S1x512x128_1_0_0, w⟩ :: L)) = lane17 m 0 (m.view.writes (Elt F) G L) := by
  change m.view.readAt (Elt F) (Rect.unit (s := S2x512x128) ![0, 0, 0] S1x512x128.size inb_S2x512x128_S1x512x128_0_0_0).toLoadRect _ = m.view.readAt (Elt F) (Rect.unit (s := S2x512x128) ![0, 0, 0] S1x512x128.size inb_S2x512x128_S1x512x128_0_0_0).toLoadRect _
  rw [View.readAt_unit _ _ _ rfl inb_S2x512x128_S1x512x128_0_0_0, View.read_writes_cons_put _ _ _ _ _ rfl, View.readAt_unit _ _ _ rfl inb_S2x512x128_S1x512x128_0_0_0]
  exact VecWindow.window_put_of_disjoint (s := S2x512x128) _ _ _ _ _ _ _ 0 (by decide)

theorem lane17_hit1 (m : Memref sig .tc .vmem S2x512x128 .f32) (G : BufTy.Contents (Elt F) m.view.ty) (w : Vec F S1x512x128 .f32) (L : List (View.Piece (Elt F) S2x512x128 .f32)) :
    lane17 m 1 (m.view.writes (Elt F) G (⟨Rect.unit (s := S2x512x128) ![1, 0, 0] S1x512x128.size inb_S2x512x128_S1x512x128_1_0_0, w⟩ :: L)) = w := by
  change m.view.readAt (Elt F) (Rect.unit (s := S2x512x128) ![1, 0, 0] S1x512x128.size inb_S2x512x128_S1x512x128_1_0_0).toLoadRect _ = w
  rw [View.readAt_unit _ _ _ rfl inb_S2x512x128_S1x512x128_1_0_0, View.read_writes_cons_put _ _ _ _ _ rfl]
  exact VecWindow.window_put_same (s := S2x512x128) _ _ _ _ _

theorem lane17_miss1 (m : Memref sig .tc .vmem S2x512x128 .f32) (G : BufTy.Contents (Elt F) m.view.ty) (w : Vec F S1x512x128 .f32) (L : List (View.Piece (Elt F) S2x512x128 .f32)) :
    lane17 m 1 (m.view.writes (Elt F) G (⟨Rect.unit (s := S2x512x128) ![0, 0, 0] S1x512x128.size inb_S2x512x128_S1x512x128_0_0_0, w⟩ :: L)) = lane17 m 1 (m.view.writes (Elt F) G L) := by
  change m.view.readAt (Elt F) (Rect.unit (s := S2x512x128) ![1, 0, 0] S1x512x128.size inb_S2x512x128_S1x512x128_1_0_0).toLoadRect _ = m.view.readAt (Elt F) (Rect.unit (s := S2x512x128) ![1, 0, 0] S1x512x128.size inb_S2x512x128_S1x512x128_1_0_0).toLoadRect _
  rw [View.readAt_unit _ _ _ rfl inb_S2x512x128_S1x512x128_1_0_0, View.read_writes_cons_put _ _ _ _ _ rfl, View.readAt_unit _ _ _ rfl inb_S2x512x128_S1x512x128_1_0_0]
  exact VecWindow.window_put_of_disjoint (s := S2x512x128) _ _ _ _ _ _ _ 0 (by decide)

theorem lane17_full (m : Memref sig .tc .vmem S2x512x128 .f32) (G : BufTy.Contents (Elt F) m.view.ty) (P : Vec F S2x512x128 .f32) (L : List (View.Piece (Elt F) S2x512x128 .f32)) (a : Fin 2) :
    lane17 m a (m.view.writes (Elt F) G (⟨Rect.unit (s := S2x512x128) ![0, 0, 0] S2x512x128.size inb_S2x512x128_S2x512x128_0_0_0, P⟩ :: L)) = planeL P a := by
  fin_cases a
  · change m.view.readAt (Elt F) (Rect.unit (s := S2x512x128) ![0, 0, 0] S1x512x128.size inb_S2x512x128_S1x512x128_0_0_0).toLoadRect _ = _
    rw [View.readAt_unit _ _ _ rfl inb_S2x512x128_S1x512x128_0_0_0, View.read_writes_full]; rfl
  · change m.view.readAt (Elt F) (Rect.unit (s := S2x512x128) ![1, 0, 0] S1x512x128.size inb_S2x512x128_S1x512x128_1_0_0).toLoadRect _ = _
    rw [View.readAt_unit _ _ _ rfl inb_S2x512x128_S1x512x128_1_0_0, View.read_writes_full]; rfl

theorem lane19_hit0 (m : Memref sig .tc .vmem S2x512x256 .f32) (G : BufTy.Contents (Elt F) m.view.ty) (w : Vec F S1x512x256 .f32) (L : List (View.Piece (Elt F) S2x512x256 .f32)) :
    lane19 m 0 (m.view.writes (Elt F) G (⟨Rect.unit (s := S2x512x256) ![0, 0, 0] S1x512x256.size inb_S2x512x256_S1x512x256_0_0_0, w⟩ :: L)) = w := by
  change m.view.readAt (Elt F) (Rect.unit (s := S2x512x256) ![0, 0, 0] S1x512x256.size inb_S2x512x256_S1x512x256_0_0_0).toLoadRect _ = w
  rw [View.readAt_unit _ _ _ rfl inb_S2x512x256_S1x512x256_0_0_0, View.read_writes_cons_put _ _ _ _ _ rfl]
  exact VecWindow.window_put_same (s := S2x512x256) _ _ _ _ _

theorem lane19_miss0 (m : Memref sig .tc .vmem S2x512x256 .f32) (G : BufTy.Contents (Elt F) m.view.ty) (w : Vec F S1x512x256 .f32) (L : List (View.Piece (Elt F) S2x512x256 .f32)) :
    lane19 m 0 (m.view.writes (Elt F) G (⟨Rect.unit (s := S2x512x256) ![1, 0, 0] S1x512x256.size inb_S2x512x256_S1x512x256_1_0_0, w⟩ :: L)) = lane19 m 0 (m.view.writes (Elt F) G L) := by
  change m.view.readAt (Elt F) (Rect.unit (s := S2x512x256) ![0, 0, 0] S1x512x256.size inb_S2x512x256_S1x512x256_0_0_0).toLoadRect _ = m.view.readAt (Elt F) (Rect.unit (s := S2x512x256) ![0, 0, 0] S1x512x256.size inb_S2x512x256_S1x512x256_0_0_0).toLoadRect _
  rw [View.readAt_unit _ _ _ rfl inb_S2x512x256_S1x512x256_0_0_0, View.read_writes_cons_put _ _ _ _ _ rfl, View.readAt_unit _ _ _ rfl inb_S2x512x256_S1x512x256_0_0_0]
  exact VecWindow.window_put_of_disjoint (s := S2x512x256) _ _ _ _ _ _ _ 0 (by decide)

theorem lane19_hit1 (m : Memref sig .tc .vmem S2x512x256 .f32) (G : BufTy.Contents (Elt F) m.view.ty) (w : Vec F S1x512x256 .f32) (L : List (View.Piece (Elt F) S2x512x256 .f32)) :
    lane19 m 1 (m.view.writes (Elt F) G (⟨Rect.unit (s := S2x512x256) ![1, 0, 0] S1x512x256.size inb_S2x512x256_S1x512x256_1_0_0, w⟩ :: L)) = w := by
  change m.view.readAt (Elt F) (Rect.unit (s := S2x512x256) ![1, 0, 0] S1x512x256.size inb_S2x512x256_S1x512x256_1_0_0).toLoadRect _ = w
  rw [View.readAt_unit _ _ _ rfl inb_S2x512x256_S1x512x256_1_0_0, View.read_writes_cons_put _ _ _ _ _ rfl]
  exact VecWindow.window_put_same (s := S2x512x256) _ _ _ _ _

theorem lane19_miss1 (m : Memref sig .tc .vmem S2x512x256 .f32) (G : BufTy.Contents (Elt F) m.view.ty) (w : Vec F S1x512x256 .f32) (L : List (View.Piece (Elt F) S2x512x256 .f32)) :
    lane19 m 1 (m.view.writes (Elt F) G (⟨Rect.unit (s := S2x512x256) ![0, 0, 0] S1x512x256.size inb_S2x512x256_S1x512x256_0_0_0, w⟩ :: L)) = lane19 m 1 (m.view.writes (Elt F) G L) := by
  change m.view.readAt (Elt F) (Rect.unit (s := S2x512x256) ![1, 0, 0] S1x512x256.size inb_S2x512x256_S1x512x256_1_0_0).toLoadRect _ = m.view.readAt (Elt F) (Rect.unit (s := S2x512x256) ![1, 0, 0] S1x512x256.size inb_S2x512x256_S1x512x256_1_0_0).toLoadRect _
  rw [View.readAt_unit _ _ _ rfl inb_S2x512x256_S1x512x256_1_0_0, View.read_writes_cons_put _ _ _ _ _ rfl, View.readAt_unit _ _ _ rfl inb_S2x512x256_S1x512x256_1_0_0]
  exact VecWindow.window_put_of_disjoint (s := S2x512x256) _ _ _ _ _ _ _ 0 (by decide)

theorem lane19_full (m : Memref sig .tc .vmem S2x512x256 .f32) (G : BufTy.Contents (Elt F) m.view.ty) (P : Vec F S2x512x256 .f32) (L : List (View.Piece (Elt F) S2x512x256 .f32)) (a : Fin 2) :
    lane19 m a (m.view.writes (Elt F) G (⟨Rect.unit (s := S2x512x256) ![0, 0, 0] S2x512x256.size inb_S2x512x256_S2x512x256_0_0_0, P⟩ :: L)) = planeA P a := by
  fin_cases a
  · change m.view.readAt (Elt F) (Rect.unit (s := S2x512x256) ![0, 0, 0] S1x512x256.size inb_S2x512x256_S1x512x256_0_0_0).toLoadRect _ = _
    rw [View.readAt_unit _ _ _ rfl inb_S2x512x256_S1x512x256_0_0_0, View.read_writes_full]; rfl
  · change m.view.readAt (Elt F) (Rect.unit (s := S2x512x256) ![1, 0, 0] S1x512x256.size inb_S2x512x256_S1x512x256_1_0_0).toLoadRect _ = _
    rw [View.readAt_unit _ _ _ rfl inb_S2x512x256_S1x512x256_1_0_0, View.read_writes_full]; rfl

/-- The window of one plane and one key block of the scores. -/
theorem score_hit (m : Memref sig .tc .vmem S2x512x2048 .f32) (G : BufTy.Contents (Elt F) m.view.ty) {off off' : Fin 3 → ℕ}
    (inb : ∀ a, off a + S1x512x512.size a ≤ S2x512x2048.size a) (inb' : ∀ a, off' a + S1x512x512.size a ≤ S2x512x2048.size a) (h : off' = off)
    (w : Vec F S1x512x512 .f32) (L : List (View.Piece (Elt F) S2x512x2048 .f32)) :
    m.view.readAt (Elt F) (Rect.unit (s := S2x512x2048) off S1x512x512.size inb).toLoadRect
      (m.view.writes (Elt F) G (⟨Rect.unit (s := S2x512x2048) off' S1x512x512.size inb', w⟩ :: L)) = w := by
  subst h
  rw [View.readAt_unit _ _ _ rfl inb', View.read_writes_cons_put _ _ _ _ _ rfl]
  exact VecWindow.window_put_same (s := S2x512x2048) _ _ _ _ _

theorem score_miss (m : Memref sig .tc .vmem S2x512x2048 .f32) (G : BufTy.Contents (Elt F) m.view.ty) {off off' : Fin 3 → ℕ}
    (inb : ∀ a, off a + S1x512x512.size a ≤ S2x512x2048.size a) (inb' : ∀ a, off' a + S1x512x512.size a ≤ S2x512x2048.size a)
    (w : Vec F S1x512x512 .f32) (L : List (View.Piece (Elt F) S2x512x2048 .f32))
    (h : off 0 ≠ off' 0 ∨ off 2 + 512 ≤ off' 2 ∨ off' 2 + 512 ≤ off 2) :
    m.view.readAt (Elt F) (Rect.unit (s := S2x512x2048) off S1x512x512.size inb).toLoadRect
      (m.view.writes (Elt F) G (⟨Rect.unit (s := S2x512x2048) off' S1x512x512.size inb', w⟩ :: L))
      = m.view.readAt (Elt F) (Rect.unit (s := S2x512x2048) off S1x512x512.size inb).toLoadRect (m.view.writes (Elt F) G L) := by
  rw [View.readAt_unit _ _ _ rfl inb, View.read_writes_cons_put _ _ _ _ _ rfl, View.readAt_unit _ _ _ rfl inb]
  by_cases h0 : off 0 ≠ off' 0
  · exact VecWindow.window_put_of_disjoint (s := S2x512x2048) _ _ _ _ _ _ _ 0 (by
      show off 0 + 1 ≤ off' 0 ∨ off' 0 + 1 ≤ off 0; omega)
  · exact VecWindow.window_put_of_disjoint (s := S2x512x2048) _ _ _ _ _ _ _ 2 (by
      show off 2 + 512 ≤ off' 2 ∨ off' 2 + 512 ≤ off 2; omega)

/-! ## The two counted loops -/

/-- The lane maxima after `k` trips of the far loop. -/
theorem far17_lane0 (i : grid0.Coords) (arg5 : Memref sig .tc .vmem S1x1x2048x256 .bf16) (arg17 : Memref sig .tc .vmem S2x512x128 .f32) (v6 v8 : FVec F S512x128 .bf16) (v22 : FVec F S1x1 .f32) (X5 : BufTy.Contents (Elt F) arg5.view.ty) (G : BufTy.Contents (Elt F) arg17.view.ty) (S : ℕ → FVec F S512x512 .f32)
    (hS : ∀ k : Fin (k0_t1_loop i).trips, S k.val = k0_pay32 v6 v22 (far5 i arg5 X5 k)) :
    ∀ k ≤ (k0_t1_loop i).trips, lane17 arg17 0 (arg17.view.writes (Elt F) G (far17 i arg5 arg17 v6 v8 v22 X5 G k)) = maxs (lane17 arg17 0 G) S k
  | 0, _ => rfl
  | k + 1, h => by
    have h' : k < (k0_t1_loop i).trips := by omega
    rw [far17_succ i arg5 arg17 v6 v8 v22 X5 G ⟨k, h'⟩]
    refine (lane17_miss0 _ _ _ _).trans ((lane17_hit0 _ _ _ _).trans ?_)
    rw [far17_lane0 i arg5 arg17 v6 v8 v22 X5 G S hS k (by omega), maxs, hS ⟨k, h'⟩]
    rfl

theorem far17_lane1 (i : grid0.Coords) (arg5 : Memref sig .tc .vmem S1x1x2048x256 .bf16) (arg17 : Memref sig .tc .vmem S2x512x128 .f32) (v6 v8 : FVec F S512x128 .bf16) (v22 : FVec F S1x1 .f32) (X5 : BufTy.Contents (Elt F) arg5.view.ty) (G : BufTy.Contents (Elt F) arg17.view.ty) (S : ℕ → FVec F S512x512 .f32)
    (hS : ∀ k : Fin (k0_t1_loop i).trips, S k.val = k0_pay35 v8 v22 (far5 i arg5 X5 k)) :
    ∀ k ≤ (k0_t1_loop i).trips, lane17 arg17 1 (arg17.view.writes (Elt F) G (far17 i arg5 arg17 v6 v8 v22 X5 G k)) = maxs (lane17 arg17 1 G) S k
  | 0, _ => rfl
  | k + 1, h => by
    have h' : k < (k0_t1_loop i).trips := by omega
    rw [far17_succ i arg5 arg17 v6 v8 v22 X5 G ⟨k, h'⟩]
    refine (lane17_hit1 _ _ _ _).trans ?_
    rw [far17_lane1 i arg5 arg17 v6 v8 v22 X5 G S hS k (by omega), maxs, hS ⟨k, h'⟩]

/-- The scores of block `j` after `k` trips of the far loop, `j` among them. -/
theorem far16_read0 (i : grid0.Coords) (arg5 : Memref sig .tc .vmem S1x1x2048x256 .bf16) (arg16 : Memref sig .tc .vmem S2x512x2048 .f32) (v6 v8 : FVec F S512x128 .bf16) (v22 : FVec F S1x1 .f32) (X5 : BufTy.Contents (Elt F) arg5.view.ty) (G : BufTy.Contents (Elt F) arg16.view.ty) (j : Fin (k0_t1_loop i).trips)
    (off : Fin 3 → ℕ) (inb : ∀ a, off a + S1x512x512.size a ≤ S2x512x2048.size a) (ho : off = ![0, 0, 512 * j.val]) :
    ∀ k, j.val < k → k ≤ (k0_t1_loop i).trips → arg16.view.readAt (Elt F) (Rect.unit (s := S2x512x2048) off S1x512x512.size inb).toLoadRect
      (arg16.view.writes (Elt F) G (far16 i arg5 arg16 v6 v8 v22 X5 k)) = k0_pay79 (k0_pay32 v6 v22 (far5 i arg5 X5 j))
  | 0, h, _ => absurd h (by omega)
  | k + 1, h, h2 => by
    have h' : k < (k0_t1_loop i).trips := by omega
    rw [far16_succ i arg5 arg16 v6 v8 v22 X5 ⟨k, h'⟩]
    have e3 := off3_eq i ⟨k, h'⟩
    have e2 := off2_eq i ⟨k, h'⟩
    refine (score_miss arg16 G inb _ _ _ (by rw [e3, ho]; left; show (0 : ℕ) ≠ 1; decide)).trans ?_
    by_cases hk : j.val = k
    · have hj : j = ⟨k, h'⟩ := Fin.ext hk
      refine (score_hit arg16 G inb _ (by rw [e2, ho, hk]) _ _).trans ?_
      rw [hj]; rfl
    · refine (score_miss arg16 G inb _ _ _ (by rw [e2, ho]; right; show 512 * j.val + 512 ≤ 512 * k ∨ 512 * k + 512 ≤ 512 * j.val; omega)).trans ?_
      exact far16_read0 i arg5 arg16 v6 v8 v22 X5 G j off inb ho k (by omega) (by omega)

theorem far16_read1 (i : grid0.Coords) (arg5 : Memref sig .tc .vmem S1x1x2048x256 .bf16) (arg16 : Memref sig .tc .vmem S2x512x2048 .f32) (v6 v8 : FVec F S512x128 .bf16) (v22 : FVec F S1x1 .f32) (X5 : BufTy.Contents (Elt F) arg5.view.ty) (G : BufTy.Contents (Elt F) arg16.view.ty) (j : Fin (k0_t1_loop i).trips)
    (off : Fin 3 → ℕ) (inb : ∀ a, off a + S1x512x512.size a ≤ S2x512x2048.size a) (ho : off = ![1, 0, 512 * j.val]) :
    ∀ k, j.val < k → k ≤ (k0_t1_loop i).trips → arg16.view.readAt (Elt F) (Rect.unit (s := S2x512x2048) off S1x512x512.size inb).toLoadRect
      (arg16.view.writes (Elt F) G (far16 i arg5 arg16 v6 v8 v22 X5 k)) = k0_pay79 (k0_pay35 v8 v22 (far5 i arg5 X5 j))
  | 0, h, _ => absurd h (by omega)
  | k + 1, h, h2 => by
    have h' : k < (k0_t1_loop i).trips := by omega
    rw [far16_succ i arg5 arg16 v6 v8 v22 X5 ⟨k, h'⟩]
    have e3 := off3_eq i ⟨k, h'⟩
    have e2 := off2_eq i ⟨k, h'⟩
    by_cases hk : j.val = k
    · have hj : j = ⟨k, h'⟩ := Fin.ext hk
      refine (score_hit arg16 G inb _ (by rw [e3, ho, hk]) _ _).trans ?_
      rw [hj]; rfl
    · refine (score_miss arg16 G inb _ _ _ (by rw [e3, ho]; right; show 512 * j.val + 512 ≤ 512 * k ∨ 512 * k + 512 ≤ 512 * j.val; omega)).trans ?_
      refine (score_miss arg16 G inb _ _ _ (by rw [e2, ho]; left; show (1 : ℕ) ≠ 0; decide)).trans ?_
      exact far16_read1 i arg5 arg16 v6 v8 v22 X5 G j off inb ho k (by omega) (by omega)

/-- The lane sums after `k` trips of the summing loop. -/
theorem sum18_lane0 (i : grid0.Coords) (arg16 : Memref sig .tc .vmem S2x512x2048 .f32) (arg18 : Memref sig .tc .vmem S2x512x128 .f32) (v88 v94 : FVec F S512x128 .f32) (X16 : BufTy.Contents (Elt F) arg16.view.ty) (G : BufTy.Contents (Elt F) arg18.view.ty) (S : ℕ → FVec F S512x512 .f32)
    (hS : ∀ k : Fin (k0_t3_loop i).trips, sum16 i arg16 X16 0 k = k0_pay79 (S k.val)) :
    ∀ k ≤ (k0_t3_loop i).trips, lane17 arg18 0 (arg18.view.writes (Elt F) G (sum18 i arg16 arg18 v88 v94 X16 G k)) = sums (lane17 arg18 0 G) v88 S k
  | 0, _ => rfl
  | k + 1, h => by
    have h' : k < (k0_t3_loop i).trips := by omega
    rw [sum18_succ i arg16 arg18 v88 v94 X16 G ⟨k, h'⟩]
    refine (lane17_miss0 _ _ _ _).trans ((lane17_hit0 _ _ _ _).trans ?_)
    rw [sum18_lane0 i arg16 arg18 v88 v94 X16 G S hS k (by omega), sums, hS ⟨k, h'⟩]

theorem sum18_lane1 (i : grid0.Coords) (arg16 : Memref sig .tc .vmem S2x512x2048 .f32) (arg18 : Memref sig .tc .vmem S2x512x128 .f32) (v88 v94 : FVec F S512x128 .f32) (X16 : BufTy.Contents (Elt F) arg16.view.ty) (G : BufTy.Contents (Elt F) arg18.view.ty) (S : ℕ → FVec F S512x512 .f32)
    (hS : ∀ k : Fin (k0_t3_loop i).trips, sum16 i arg16 X16 1 k = k0_pay79 (S k.val)) :
    ∀ k ≤ (k0_t3_loop i).trips, lane17 arg18 1 (arg18.view.writes (Elt F) G (sum18 i arg16 arg18 v88 v94 X16 G k)) = sums (lane17 arg18 1 G) v94 S k
  | 0, _ => rfl
  | k + 1, h => by
    have h' : k < (k0_t3_loop i).trips := by omega
    rw [sum18_succ i arg16 arg18 v88 v94 X16 G ⟨k, h'⟩]
    refine (lane17_hit1 _ _ _ _).trans ?_
    rw [sum18_lane1 i arg16 arg18 v88 v94 X16 G S hS k (by omega), sums, hS ⟨k, h'⟩]
    rfl

/-- The weighted sums after `k` trips of the summing loop. -/
theorem sum19_lane0 (i : grid0.Coords) (arg13 : Memref sig .tc .vmem S2048x256 .bf16) (arg16 : Memref sig .tc .vmem S2x512x2048 .f32) (arg19 : Memref sig .tc .vmem S2x512x256 .f32) (v88 v94 : FVec F S512x128 .f32) (X13 : BufTy.Contents (Elt F) arg13.view.ty) (X16 : BufTy.Contents (Elt F) arg16.view.ty) (G : BufTy.Contents (Elt F) arg19.view.ty) (S : ℕ → FVec F S512x512 .f32) (V : ℕ → Vec F S512x256 .bf16)
    (hV : ∀ k : Fin (k0_t3_loop i).trips, sum13 i arg13 X13 k = V k.val)
    (hS : ∀ k : Fin (k0_t3_loop i).trips, sum16 i arg16 X16 0 k = k0_pay79 (S k.val)) :
    ∀ k ≤ (k0_t3_loop i).trips, lane19 arg19 0 (arg19.view.writes (Elt F) G (sum19 i arg13 arg16 arg19 v88 v94 X13 X16 G k)) = accs (lane19 arg19 0 G) v88 V S k
  | 0, _ => rfl
  | k + 1, h => by
    have h' : k < (k0_t3_loop i).trips := by omega
    rw [sum19_succ i arg13 arg16 arg19 v88 v94 X13 X16 G ⟨k, h'⟩]
    refine (lane19_miss0 _ _ _ _).trans ((lane19_hit0 _ _ _ _).trans ?_)
    rw [sum19_lane0 i arg13 arg16 arg19 v88 v94 X13 X16 G S V hV hS k (by omega), accs, hS ⟨k, h'⟩, hV ⟨k, h'⟩]

theorem sum19_lane1 (i : grid0.Coords) (arg13 : Memref sig .tc .vmem S2048x256 .bf16) (arg16 : Memref sig .tc .vmem S2x512x2048 .f32) (arg19 : Memref sig .tc .vmem S2x512x256 .f32) (v88 v94 : FVec F S512x128 .f32) (X13 : BufTy.Contents (Elt F) arg13.view.ty) (X16 : BufTy.Contents (Elt F) arg16.view.ty) (G : BufTy.Contents (Elt F) arg19.view.ty) (S : ℕ → FVec F S512x512 .f32) (V : ℕ → Vec F S512x256 .bf16)
    (hV : ∀ k : Fin (k0_t3_loop i).trips, sum13 i arg13 X13 k = V k.val)
    (hS : ∀ k : Fin (k0_t3_loop i).trips, sum16 i arg16 X16 1 k = k0_pay79 (S k.val)) :
    ∀ k ≤ (k0_t3_loop i).trips, lane19 arg19 1 (arg19.view.writes (Elt F) G (sum19 i arg13 arg16 arg19 v88 v94 X13 X16 G k)) = accs (lane19 arg19 1 G) v94 V S k
  | 0, _ => rfl
  | k + 1, h => by
    have h' : k < (k0_t3_loop i).trips := by omega
    rw [sum19_succ i arg13 arg16 arg19 v88 v94 X13 X16 G ⟨k, h'⟩]
    refine (lane19_hit1 _ _ _ _).trans ?_
    rw [sum19_lane1 i arg13 arg16 arg19 v88 v94 X13 X16 G S V hV hS k (by omega), accs, hS ⟨k, h'⟩, hV ⟨k, h'⟩]
    rfl

theorem sum13_eq (i : grid0.Coords) (arg13 : Memref sig .tc .vmem S2048x256 .bf16) (X13 : BufTy.Contents (Elt F) arg13.view.ty) (k : Fin (k0_t3_loop i).trips) : sum13 i arg13 X13 k = vblk (arg13.view.read (Elt F) X13) k.val := by
  have hk : k.val < 4 := by have h1 := k.isLt; have h2 := trips3_eq i; have h3 := (i 2).isLt; change (i 2).val < 4 at h3; omega
  unfold sum13 vblk
  exact View.readAt_unit _ _ _ (by rw [off13_eq, Nat.mod_eq_of_lt hk]) _

theorem far5_eq (i : grid0.Coords) (arg5 : Memref sig .tc .vmem S1x1x2048x256 .bf16) (X5 : BufTy.Contents (Elt F) arg5.view.ty) (k : Fin (k0_t1_loop i).trips) : far5 i arg5 X5 k = kblk (arg5.view.read (Elt F) X5) k.val := by
  have hk : k.val < 4 := by have h1 := k.isLt; have h2 := trips1_eq i; have h3 := (i 2).isLt; change (i 2).val < 4 at h3; omega
  unfold far5 kblk
  exact View.readAt_unit _ _ _ (by rw [off1_eq, Nat.mod_eq_of_lt hk]) _

end Cert.KernelIdeal.Run

end
-- ==== Proof.KernelIdealOut.lean ====
module

public import proofs.«01_k».proof.Proof.KernelIdealBlock
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! # The output block the run leaves, as the function of its blocks -/

theorem inb16 (a n : ℕ) (ha : a < 2) (hn : n < 4) : ∀ x, (![a, 0, 512 * n] : Fin 3 → ℕ) x + S1x512x512.size x ≤ S2x512x2048.size x := by
  intro x; fin_cases x <;> simp [S1x512x512, S2x512x2048] <;> omega

theorem bias_far (n : ℕ) (far : FVec F S1x1 .f32) (B0 B1 : FVec F S512x512 .f32) (j : ℕ) (h : j + 1 < n) : bias n far B0 B1 j = broadcastTo S512x512 far broadcasts_S1x1_S512x512 := if_pos h
theorem bias_band (n : ℕ) (far : FVec F S1x1 .f32) (B0 B1 : FVec F S512x512 .f32) (j : ℕ) (h : j + 1 = n) : bias n far B0 B1 j = B1 := by
  unfold bias; rw [if_neg (by omega), if_pos h]
theorem bias_diag (n : ℕ) (far : FVec F S1x1 .f32) (B0 B1 : FVec F S512x512 .f32) : bias n far B0 B1 n = B0 := by
  unfold bias; rw [if_neg (by omega), if_neg (by omega)]

theorem prev_eq (n : ℕ) (h1 : 1 ≤ n) (h2 : n < 4) : (n + 8388607) % 8388608 * 512 = 512 * (n - 1) := by omega
theorem off8_at (i : grid0.Coords) (hn : 1 ≤ (i 2).val) : k0_off8 i = ![0, 0, 512 * ((i 2).val - 1)] := by
  rw [off8_eq, prev_eq _ hn (i 2).isLt]
theorem off9_at (i : grid0.Coords) (hn : 1 ≤ (i 2).val) : k0_off9 i = ![1, 0, 512 * ((i 2).val - 1)] := by
  rw [off9_eq, prev_eq _ hn (i 2).isLt]

theorem maxs_succ (b : Vec F S1x512x128 .f32) (S : ℕ → FVec F S512x512 .f32) (k : ℕ) : maxs b S (k + 1) = k0_pay77 (S k) (maxs b S k) := rfl

theorem qi_lt (i : grid0.Coords) : (i 2).val < 4 := (i 2).isLt

theorem key7 (i : grid0.Coords) (hn : 1 ≤ (i 2).val) {arg5 : Memref sig .tc .vmem S1x1x2048x256 .bf16} {X5 : BufTy.Contents (Elt F) arg5.view.ty} (inb : ∀ a, k0_off7 i a + S1x1x512x256.size a ≤ S1x1x2048x256.size a) :
    arg5.view.readAt (Elt F) (Rect.unit (s := S1x1x2048x256) (k0_off7 i) S1x1x512x256.size inb).toLoadRect X5 = kblk (arg5.view.read (Elt F) X5) ((i 2).val - 1) := by
  have h := qi_lt i
  unfold kblk
  exact View.readAt_unit _ _ _ (by
    have e : ((i 2).val + 8388607) % 8388608 * 512 = 512 * (((i 2).val - 1) % 4) := by omega
    rw [off7_eq, e]) _

theorem key10 (i : grid0.Coords) {arg5 : Memref sig .tc .vmem S1x1x2048x256 .bf16} {X5 : BufTy.Contents (Elt F) arg5.view.ty} (inb : ∀ a, k0_off10 i a + S1x1x512x256.size a ≤ S1x1x2048x256.size a) :
    arg5.view.readAt (Elt F) (Rect.unit (s := S1x1x2048x256) (k0_off10 i) S1x1x512x256.size inb).toLoadRect X5 = kblk (arg5.view.read (Elt F) X5) (i 2).val := by
  have h := qi_lt i
  unfold kblk
  exact View.readAt_unit _ _ _ (by rw [off10_eq, Nat.mod_eq_of_lt h]) _

theorem sum16_0 (i : grid0.Coords) {arg16 : Memref sig .tc .vmem S2x512x2048 .f32} {X16 : BufTy.Contents (Elt F) arg16.view.ty} (k : Fin (k0_t3_loop i).trips) :
    sum16 i arg16 X16 0 k = arg16.view.readAt (Elt F) (Rect.unit (s := S2x512x2048) (k0_off14 i k) S1x512x512.size (k0_off14_inb i k)).toLoadRect X16 := rfl
theorem sum16_1 (i : grid0.Coords) {arg16 : Memref sig .tc .vmem S2x512x2048 .f32} {X16 : BufTy.Contents (Elt F) arg16.view.ty} (k : Fin (k0_t3_loop i).trips) :
    sum16 i arg16 X16 1 k = arg16.view.readAt (Elt F) (Rect.unit (s := S2x512x2048) (k0_off15 i k) S1x512x512.size (k0_off15_inb i k)).toLoadRect X16 := rfl

theorem sc0_far {i : grid0.Coords} {arg5 : Memref sig .tc .vmem S1x1x2048x256 .bf16} {X5 : BufTy.Contents (Elt F) arg5.view.ty} (x3 : Vec F S1x512x256 .f32) (x9 : Vec F S1x1x128 .f32) (X14 X15 : Vec F S512x512 .f32) (k : Fin (k0_t1_loop i).trips) :
    sc0 (i 2).val x3 (arg5.view.read (Elt F) X5) (farOf x9) X14 X15 k.val = k0_pay32 (k0_pay71 x3) (farOf x9) (far5 i arg5 X5 k) := by
  unfold sc0; rw [bias_far _ _ _ _ _ (by have := k.isLt; have := trips1_eq i; omega), far5_eq]; rfl
theorem sc1_far {i : grid0.Coords} {arg5 : Memref sig .tc .vmem S1x1x2048x256 .bf16} {X5 : BufTy.Contents (Elt F) arg5.view.ty} (x3 : Vec F S1x512x256 .f32) (x9 : Vec F S1x1x128 .f32) (X14 X15 : Vec F S512x512 .f32) (k : Fin (k0_t1_loop i).trips) :
    sc1 (i 2).val x3 (arg5.view.read (Elt F) X5) (farOf x9) X14 X15 k.val = k0_pay35 (k0_pay72 x3) (farOf x9) (far5 i arg5 X5 k) := by
  unfold sc1; rw [bias_far _ _ _ _ _ (by have := k.isLt; have := trips1_eq i; omega), far5_eq]; rfl
theorem sc0_band {i : grid0.Coords} (hn : 1 ≤ (i 2).val) (x3 : Vec F S1x512x256 .f32) (x5 : Vec F S1x1x2048x256 .bf16) (x9 : Vec F S1x1x128 .f32) (X14 X15 : Vec F S512x512 .f32) :
    sc0 (i 2).val x3 x5 (farOf x9) X14 X15 ((i 2).val - 1) = k0_pay44 (k0_pay71 x3) X15 (kblk x5 ((i 2).val - 1)) := by
  unfold sc0; rw [bias_band _ _ _ _ _ (by omega)]; rfl
theorem sc1_band {i : grid0.Coords} (hn : 1 ≤ (i 2).val) (x3 : Vec F S1x512x256 .f32) (x5 : Vec F S1x1x2048x256 .bf16) (x9 : Vec F S1x1x128 .f32) (X14 X15 : Vec F S512x512 .f32) :
    sc1 (i 2).val x3 x5 (farOf x9) X14 X15 ((i 2).val - 1) = k0_pay47 (k0_pay72 x3) X15 (kblk x5 ((i 2).val - 1)) := by
  unfold sc1; rw [bias_band _ _ _ _ _ (by omega)]; rfl
theorem sc0_diag (n : ℕ) (x3 : Vec F S1x512x256 .f32) (x5 : Vec F S1x1x2048x256 .bf16) (x9 : Vec F S1x1x128 .f32) (X14 X15 : Vec F S512x512 .f32) :
    sc0 n x3 x5 (farOf x9) X14 X15 n = k0_pay82 (k0_pay71 x3) X14 (kblk x5 n) := by
  unfold sc0; rw [bias_diag]; rfl
theorem sc1_diag (n : ℕ) (x3 : Vec F S1x512x256 .f32) (x5 : Vec F S1x1x2048x256 .bf16) (x9 : Vec F S1x1x128 .f32) (X14 X15 : Vec F S512x512 .f32) :
    sc1 n x3 x5 (farOf x9) X14 X15 n = k0_pay86 (k0_pay72 x3) X14 (k0_pay85 (kblk x5 n)) (constant S512x512 .f32 0x00000000#32) := by
  unfold sc1; rw [bias_diag]; rfl

theorem out_later (i : grid0.Coords) (hn : 1 ≤ (i 2).val)
    {arg5 : Memref sig .tc .vmem S1x1x2048x256 .bf16} {arg13 : Memref sig .tc .vmem S2048x256 .bf16} {arg16 : Memref sig .tc .vmem S2x512x2048 .f32} {arg17 : Memref sig .tc .vmem S2x512x128 .f32} {arg18 : Memref sig .tc .vmem S2x512x128 .f32} {arg19 : Memref sig .tc .vmem S2x512x256 .f32} {X5 : BufTy.Contents (Elt F) arg5.view.ty} {F13 : BufTy.Contents (Elt F) arg13.view.ty} {f16 : BufTy.Contents (Elt F) arg16.view.ty}
    {v6 v8 : FVec F S512x128 .bf16} {v22 : FVec F S1x1 .f32} {x3 x4 z : Vec F S1x512x256 .f32} {x5 : Vec F S1x1x2048x256 .bf16} {x9 : Vec F S1x1x128 .f32} {x10 : Vec F S4x128 .f32} {x11 g : Vec F S1x256 .f32}
    {X13 : Vec F S2048x256 .bf16} {X14 X15 B0 B1 : Vec F S512x512 .f32} {q0 q1 q2 q3 : Vec F S1x128 .f32} {l0 l1 d0 d1 b0 b1 : Vec F S1x512x128 .f32} {a0 a1 : Vec F S1x512x256 .f32}
    {M0 M1 : FVec F S512x128 .f32} {p0d p1d p0b p1b : Vec F S1x512x512 .f32}
    {i8 : (∀ a, k0_off8 i a + S1x512x512.size a ≤ S2x512x2048.size a)} {i9 : (∀ a, k0_off9 i a + S1x512x512.size a ≤ S2x512x2048.size a)} {i11 : (∀ a, k0_off11 i a + S1x512x512.size a ≤ S2x512x2048.size a)} {i12 : (∀ a, k0_off12 i a + S1x512x512.size a ≤ S2x512x2048.size a)} {i7 : ∀ a, k0_off7 i a + S1x1x512x256.size a ≤ S1x1x2048x256.size a} {i10 : ∀ a, k0_off10 i a + S1x1x512x256.size a ≤ S1x1x2048x256.size a}
    (hl0 : l0 = lane17 arg18 0 (arg18.view.writes (Elt F) arg18.view.junk (sum18 i arg16 arg18 M0 M1 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 v6 v8 v22 X5 (k0_t1_loop i).trips)) (arg18.view.writes (Elt F) arg18.view.junk ([⟨Rect.unit (s := S2x512x128) ![0, 0, 0] S2x512x128.size inb_S2x512x128_S2x512x128_0_0_0, k0_pay74⟩])) (k0_t3_loop i).trips ++ [⟨Rect.unit (s := S2x512x128) ![0, 0, 0] S2x512x128.size inb_S2x512x128_S2x512x128_0_0_0, k0_pay74⟩])))
    (hl1 : l1 = lane17 arg18 1 (arg18.view.writes (Elt F) arg18.view.junk (sum18 i arg16 arg18 M0 M1 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 v6 v8 v22 X5 (k0_t1_loop i).trips)) (arg18.view.writes (Elt F) arg18.view.junk ([⟨Rect.unit (s := S2x512x128) ![0, 0, 0] S2x512x128.size inb_S2x512x128_S2x512x128_0_0_0, k0_pay74⟩])) (k0_t3_loop i).trips ++ [⟨Rect.unit (s := S2x512x128) ![0, 0, 0] S2x512x128.size inb_S2x512x128_S2x512x128_0_0_0, k0_pay74⟩])))
    (ha0 : a0 = lane19 arg19 0 (arg19.view.writes (Elt F) arg19.view.junk (sum19 i arg13 arg16 arg19 M0 M1 F13 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 v6 v8 v22 X5 (k0_t1_loop i).trips)) (arg19.view.writes (Elt F) arg19.view.junk ([⟨Rect.unit (s := S2x512x256) ![0, 0, 0] S2x512x256.size inb_S2x512x256_S2x512x256_0_0_0, k0_pay75⟩])) (k0_t3_loop i).trips ++ [⟨Rect.unit (s := S2x512x256) ![0, 0, 0] S2x512x256.size inb_S2x512x256_S2x512x256_0_0_0, k0_pay75⟩])))
    (ha1 : a1 = lane19 arg19 1 (arg19.view.writes (Elt F) arg19.view.junk (sum19 i arg13 arg16 arg19 M0 M1 F13 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 v6 v8 v22 X5 (k0_t1_loop i).trips)) (arg19.view.writes (Elt F) arg19.view.junk ([⟨Rect.unit (s := S2x512x256) ![0, 0, 0] S2x512x256.size inb_S2x512x256_S2x512x256_0_0_0, k0_pay75⟩])) (k0_t3_loop i).trips ++ [⟨Rect.unit (s := S2x512x256) ![0, 0, 0] S2x512x256.size inb_S2x512x256_S2x512x256_0_0_0, k0_pay75⟩])))
    (hM0 : M0 = k0_pay89 (lane17 arg17 0 (arg17.view.writes (Elt F) arg17.view.junk (⟨Rect.unit (s := S2x512x128) ![1, 0, 0] S1x512x128.size inb_S2x512x128_S1x512x128_1_0_0, d1⟩ :: ⟨Rect.unit (s := S2x512x128) ![0, 0, 0] S1x512x128.size inb_S2x512x128_S1x512x128_0_0_0, d0⟩ :: ⟨Rect.unit (s := S2x512x128) ![1, 0, 0] S1x512x128.size inb_S2x512x128_S1x512x128_1_0_0, b1⟩ :: ⟨Rect.unit (s := S2x512x128) ![0, 0, 0] S1x512x128.size inb_S2x512x128_S1x512x128_0_0_0, b0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hM1 : M1 = k0_pay89 (lane17 arg17 1 (arg17.view.writes (Elt F) arg17.view.junk (⟨Rect.unit (s := S2x512x128) ![1, 0, 0] S1x512x128.size inb_S2x512x128_S1x512x128_1_0_0, d1⟩ :: ⟨Rect.unit (s := S2x512x128) ![0, 0, 0] S1x512x128.size inb_S2x512x128_S1x512x128_0_0_0, d0⟩ :: ⟨Rect.unit (s := S2x512x128) ![1, 0, 0] S1x512x128.size inb_S2x512x128_S1x512x128_1_0_0, b1⟩ :: ⟨Rect.unit (s := S2x512x128) ![0, 0, 0] S1x512x128.size inb_S2x512x128_S1x512x128_0_0_0, b0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hd0 : d0 = k0_pay77 (k0_pay82 v6 B0 (arg5.view.readAt (Elt F) (Rect.unit (s := S1x1x2048x256) (k0_off10 i) S1x1x512x256.size i10).toLoadRect X5)) (lane17 arg17 0 (arg17.view.writes (Elt F) arg17.view.junk (⟨Rect.unit (s := S2x512x128) ![1, 0, 0] S1x512x128.size inb_S2x512x128_S1x512x128_1_0_0, b1⟩ :: ⟨Rect.unit (s := S2x512x128) ![0, 0, 0] S1x512x128.size inb_S2x512x128_S1x512x128_0_0_0, b0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hd1 : d1 = k0_pay77 (k0_pay86 v8 B0 (k0_pay85 (arg5.view.readAt (Elt F) (Rect.unit (s := S1x1x2048x256) (k0_off10 i) S1x1x512x256.size i10).toLoadRect X5)) (constant S512x512 .f32 0x00000000#32)) (lane17 arg17 1 (arg17.view.writes (Elt F) arg17.view.junk (⟨Rect.unit (s := S2x512x128) ![0, 0, 0] S1x512x128.size inb_S2x512x128_S1x512x128_0_0_0, d0⟩ :: ⟨Rect.unit (s := S2x512x128) ![1, 0, 0] S1x512x128.size inb_S2x512x128_S1x512x128_1_0_0, b1⟩ :: ⟨Rect.unit (s := S2x512x128) ![0, 0, 0] S1x512x128.size inb_S2x512x128_S1x512x128_0_0_0, b0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hb0 : b0 = k0_pay77 (k0_pay44 v6 B1 (arg5.view.readAt (Elt F) (Rect.unit (s := S1x1x2048x256) (k0_off7 i) S1x1x512x256.size i7).toLoadRect X5)) (lane17 arg17 0 (arg17.view.writes (Elt F) arg17.view.junk ((far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hb1 : b1 = k0_pay77 (k0_pay47 v8 B1 (arg5.view.readAt (Elt F) (Rect.unit (s := S1x1x2048x256) (k0_off7 i) S1x1x512x256.size i7).toLoadRect X5)) (lane17 arg17 1 (arg17.view.writes (Elt F) arg17.view.junk (⟨Rect.unit (s := S2x512x128) ![0, 0, 0] S1x512x128.size inb_S2x512x128_S1x512x128_0_0_0, b0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hp0d : p0d = k0_pay79 (k0_pay82 v6 B0 (arg5.view.readAt (Elt F) (Rect.unit (s := S1x1x2048x256) (k0_off10 i) S1x1x512x256.size i10).toLoadRect X5))) (hp1d : p1d = k0_pay79 (k0_pay86 v8 B0 (k0_pay85 (arg5.view.readAt (Elt F) (Rect.unit (s := S1x1x2048x256) (k0_off10 i) S1x1x512x256.size i10).toLoadRect X5)) (constant S512x512 .f32 0x00000000#32)))
    (hp0b : p0b = k0_pay79 (k0_pay44 v6 B1 (arg5.view.readAt (Elt F) (Rect.unit (s := S1x1x2048x256) (k0_off7 i) S1x1x512x256.size i7).toLoadRect X5))) (hp1b : p1b = k0_pay79 (k0_pay47 v8 B1 (arg5.view.readAt (Elt F) (Rect.unit (s := S1x1x2048x256) (k0_off7 i) S1x1x512x256.size i7).toLoadRect X5)))
    (h6 : v6 = k0_pay71 x3) (h8 : v8 = k0_pay72 x3) (h22 : v22 = farOf x9) (h14 : B0 = X14) (h15 : B1 = X15)
    (h5 : arg5.view.read (Elt F) X5 = x5) (h13 : arg13.view.read (Elt F) F13 = X13) (hz : z = x4) (hg : g = x11)
    (hq0 : q0 = VecWindow.window (s := S4x128) x10 ![0, 0] S1x128.size inb_S4x128_S1x128_0_0)
    (hq1 : q1 = VecWindow.window (s := S4x128) x10 ![1, 0] S1x128.size inb_S4x128_S1x128_1_0)
    (hq2 : q2 = VecWindow.window (s := S4x128) x10 ![2, 0] S1x128.size inb_S4x128_S1x128_2_0)
    (hq3 : q3 = VecWindow.window (s := S4x128) x10 ![3, 0] S1x128.size inb_S4x128_S1x128_3_0)
    : k0_pay1 (k0_pay105 q0 q1 q2 q3) (k0_pay106 l0) (k0_pay107 l1) a0 a1 g z = outBlk (i 2).val x3 x4 x5 x9 x10 x11 X13 X14 X15 := by
  subst h6 h8 h22 h14 h15 h5 h13 hz hg hq0 hq1 hq2 hq3
  have hlt := qi_lt i
  have ht1 := trips1_eq i
  have ht3 := trips3_eq i
  rw [key10 i] at hd0 hd1 hp0d hp1d
  rw [← sc0_diag (i 2).val x3 _ x9 B0 B1] at hd0 hp0d
  rw [← sc1_diag (i 2).val x3 _ x9 B0 B1] at hd1 hp1d
  rw [key7 i hn] at hb0 hb1 hp0b hp1b
  rw [← sc0_band hn x3 _ x9 B0 B1] at hb0 hp0b
  rw [← sc1_band hn x3 _ x9 B0 B1] at hb1 hp1b
  have hf0 : lane17 arg17 0 (arg17.view.writes (Elt F) arg17.view.junk ((far17 i arg5 arg17 (k0_pay71 x3) (k0_pay72 x3) (farOf x9) X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩]))) = maxs (planeL k0_pay73 0) (sc0 (i 2).val x3 (arg5.view.read (Elt F) X5) (farOf x9) B0 B1) (k0_t1_loop i).trips := by
    rw [View.writes_append]
    refine (far17_lane0 i arg5 arg17 _ _ _ X5 _ (sc0 (i 2).val x3 (arg5.view.read (Elt F) X5) (farOf x9) B0 B1) (fun k => sc0_far x3 x9 B0 B1 k) _ le_rfl).trans ?_
    rw [lane17_full]
  have hf1 : lane17 arg17 1 (arg17.view.writes (Elt F) arg17.view.junk ((far17 i arg5 arg17 (k0_pay71 x3) (k0_pay72 x3) (farOf x9) X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩]))) = maxs (planeL k0_pay73 1) (sc1 (i 2).val x3 (arg5.view.read (Elt F) X5) (farOf x9) B0 B1) (k0_t1_loop i).trips := by
    rw [View.writes_append]
    refine (far17_lane1 i arg5 arg17 _ _ _ X5 _ (sc1 (i 2).val x3 (arg5.view.read (Elt F) X5) (farOf x9) B0 B1) (fun k => sc1_far x3 x9 B0 B1 k) _ le_rfl).trans ?_
    rw [lane17_full]
  rw [hf0, show (k0_t1_loop i).trips = (i 2).val - 1 from ht1] at hb0
  have hN : (i 2).val = ((i 2).val - 1) + 1 := by omega
  have hb0' : b0 = maxs (planeL k0_pay73 0) (sc0 (i 2).val x3 (arg5.view.read (Elt F) X5) (farOf x9) B0 B1) (i 2).val := by
    refine hb0.trans ?_
    rw [← maxs_succ, ← hN]
  have hb1' : b1 = maxs (planeL k0_pay73 1) (sc1 (i 2).val x3 (arg5.view.read (Elt F) X5) (farOf x9) B0 B1) (i 2).val := by
    refine hb1.trans ?_
    rw [lane17_miss1, hf1, show (k0_t1_loop i).trips = (i 2).val - 1 from ht1]
    rw [← maxs_succ, ← hN]
  have hd0' : d0 = maxs (planeL k0_pay73 0) (sc0 (i 2).val x3 (arg5.view.read (Elt F) X5) (farOf x9) B0 B1) ((i 2).val + 1) := by
    refine hd0.trans ?_
    rw [lane17_miss0, lane17_hit0, hb0', maxs_succ]
  have hd1' : d1 = maxs (planeL k0_pay73 1) (sc1 (i 2).val x3 (arg5.view.read (Elt F) X5) (farOf x9) B0 B1) ((i 2).val + 1) := by
    refine hd1.trans ?_
    rw [lane17_miss1, lane17_hit1, hb1', maxs_succ]
  have hM0' : M0 = rowMax 0 (sc0 (i 2).val x3 (arg5.view.read (Elt F) X5) (farOf x9) B0 B1) ((i 2).val + 1) := by
    refine hM0.trans ?_
    rw [lane17_miss0, lane17_hit0, hd0']; rfl
  have hM1' : M1 = rowMax 1 (sc1 (i 2).val x3 (arg5.view.read (Elt F) X5) (farOf x9) B0 B1) ((i 2).val + 1) := by
    refine hM1.trans ?_
    rw [lane17_hit1, hd1']; rfl
  have hs0 : ∀ k : Fin (k0_t3_loop i).trips, sum16 i arg16 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 (k0_pay71 x3) (k0_pay72 x3) (farOf x9) X5 (k0_t1_loop i).trips)) 0 k = k0_pay79 ((sc0 (i 2).val x3 (arg5.view.read (Elt F) X5) (farOf x9) B0 B1) k.val) := by
    intro k
    have e14 := off14_eq i k
    have e12 := off12_eq i
    have e11 := off11_eq i
    have hk := k.isLt
    rw [sum16_0]
    by_cases hkk : k.val = (i 2).val
    · refine (score_miss arg16 _ _ _ _ _ (by rw [e14, e12]; left; show (0 : ℕ) ≠ 1; decide)).trans ?_
      exact (score_hit arg16 _ _ _ (by rw [e14, e11, hkk]) _ _).trans (by rw [hp0d, hkk])
    · refine (score_miss arg16 _ _ _ _ _ (by rw [e14, e12]; left; show (0 : ℕ) ≠ 1; decide)).trans ?_
      refine (score_miss arg16 _ _ _ _ _ (by rw [e14, e11]; right; show 512 * k.val + 512 ≤ 512 * (i 2).val ∨ 512 * (i 2).val + 512 ≤ 512 * k.val; omega)).trans ?_
      have e9 := off9_at i hn
      have e8 := off8_at i hn
      by_cases hkb : k.val = (i 2).val - 1
      · refine (score_miss arg16 _ _ _ _ _ (by rw [e14, e9]; left; show (0 : ℕ) ≠ 1; decide)).trans ?_
        exact (score_hit arg16 _ _ _ (by rw [e14, e8, hkb]) _ _).trans (by rw [hp0b, hkb])
      · refine (score_miss arg16 _ _ _ _ _ (by rw [e14, e9]; left; show (0 : ℕ) ≠ 1; decide)).trans ?_
        refine (score_miss arg16 _ _ _ _ _ (by rw [e14, e8]; right; show 512 * k.val + 512 ≤ 512 * ((i 2).val - 1) ∨ 512 * ((i 2).val - 1) + 512 ≤ 512 * k.val; omega)).trans ?_
        have hk1 : k.val < (k0_t1_loop i).trips := by omega
        refine (far16_read0 i arg5 arg16 _ _ _ X5 _ ⟨k.val, hk1⟩ _ _ e14 _ hk1 le_rfl).trans ?_
        exact congrArg k0_pay79 (sc0_far x3 x9 B0 B1 ⟨k.val, hk1⟩).symm
  have hs1 : ∀ k : Fin (k0_t3_loop i).trips, sum16 i arg16 (arg16.view.writes (Elt F) f16 (⟨Rect.unit (s := S2x512x2048) (k0_off12 i) S1x512x512.size i12, p1d⟩ :: ⟨Rect.unit (s := S2x512x2048) (k0_off11 i) S1x512x512.size i11, p0d⟩ :: ⟨Rect.unit (s := S2x512x2048) (k0_off9 i) S1x512x512.size i9, p1b⟩ :: ⟨Rect.unit (s := S2x512x2048) (k0_off8 i) S1x512x512.size i8, p0b⟩ :: far16 i arg5 arg16 (k0_pay71 x3) (k0_pay72 x3) (farOf x9) X5 (k0_t1_loop i).trips)) 1 k = k0_pay79 ((sc1 (i 2).val x3 (arg5.view.read (Elt F) X5) (farOf x9) B0 B1) k.val) := by
    intro k
    have e14 := off15_eq i k
    have e12 := off12_eq i
    have e11 := off11_eq i
    have hk := k.isLt
    rw [sum16_1]
    by_cases hkk : k.val = (i 2).val
    · exact (score_hit arg16 _ _ _ (by rw [e14, e12, hkk]) _ _).trans (by rw [hp1d, hkk])
    · refine (score_miss arg16 _ _ _ _ _ (by rw [e14, e12]; right; show 512 * k.val + 512 ≤ 512 * (i 2).val ∨ 512 * (i 2).val + 512 ≤ 512 * k.val; omega)).trans ?_
      refine (score_miss arg16 _ _ _ _ _ (by rw [e14, e11]; left; show (1 : ℕ) ≠ 0; decide)).trans ?_
      have e9 := off9_at i hn
      have e8 := off8_at i hn
      by_cases hkb : k.val = (i 2).val - 1
      · exact (score_hit arg16 _ _ _ (by rw [e14, e9, hkb]) _ _).trans (by rw [hp1b, hkb])
      · refine (score_miss arg16 _ _ _ _ _ (by rw [e14, e9]; right; show 512 * k.val + 512 ≤ 512 * ((i 2).val - 1) ∨ 512 * ((i 2).val - 1) + 512 ≤ 512 * k.val; omega)).trans ?_
        refine (score_miss arg16 _ _ _ _ _ (by rw [e14, e8]; left; show (1 : ℕ) ≠ 0; decide)).trans ?_
        have hk1 : k.val < (k0_t1_loop i).trips := by omega
        refine (far16_read1 i arg5 arg16 _ _ _ X5 _ ⟨k.val, hk1⟩ _ _ e14 _ hk1 le_rfl).trans ?_
        exact congrArg k0_pay79 (sc1_far x3 x9 B0 B1 ⟨k.val, hk1⟩).symm
  have hv := fun k => sum13_eq i arg13 F13 k
  have hl0' : l0 = sums (planeL k0_pay74 0) M0 (sc0 (i 2).val x3 (arg5.view.read (Elt F) X5) (farOf x9) B0 B1) ((i 2).val + 1) := by
    refine hl0.trans ?_
    rw [View.writes_append]
    refine (sum18_lane0 i arg16 arg18 M0 M1 _ _ (sc0 (i 2).val x3 (arg5.view.read (Elt F) X5) (farOf x9) B0 B1) hs0 _ le_rfl).trans ?_
    rw [lane17_full, show (k0_t3_loop i).trips = (i 2).val + 1 from ht3]
  have hl1' : l1 = sums (planeL k0_pay74 1) M1 (sc1 (i 2).val x3 (arg5.view.read (Elt F) X5) (farOf x9) B0 B1) ((i 2).val + 1) := by
    refine hl1.trans ?_
    rw [View.writes_append]
    refine (sum18_lane1 i arg16 arg18 M0 M1 _ _ (sc1 (i 2).val x3 (arg5.view.read (Elt F) X5) (farOf x9) B0 B1) hs1 _ le_rfl).trans ?_
    rw [lane17_full, show (k0_t3_loop i).trips = (i 2).val + 1 from ht3]
  have ha0' : a0 = accs (planeA k0_pay75 0) M0 (vblk (arg13.view.read (Elt F) F13)) (sc0 (i 2).val x3 (arg5.view.read (Elt F) X5) (farOf x9) B0 B1) ((i 2).val + 1) := by
    refine ha0.trans ?_
    rw [View.writes_append]
    refine (sum19_lane0 i arg13 arg16 arg19 M0 M1 _ _ _ (sc0 (i 2).val x3 (arg5.view.read (Elt F) X5) (farOf x9) B0 B1) _ hv hs0 _ le_rfl).trans ?_
    rw [lane19_full, show (k0_t3_loop i).trips = (i 2).val + 1 from ht3]
  have ha1' : a1 = accs (planeA k0_pay75 1) M1 (vblk (arg13.view.read (Elt F) F13)) (sc1 (i 2).val x3 (arg5.view.read (Elt F) X5) (farOf x9) B0 B1) ((i 2).val + 1) := by
    refine ha1.trans ?_
    rw [View.writes_append]
    refine (sum19_lane1 i arg13 arg16 arg19 M0 M1 _ _ _ (sc1 (i 2).val x3 (arg5.view.read (Elt F) X5) (farOf x9) B0 B1) _ hv hs1 _ le_rfl).trans ?_
    rw [lane19_full, show (k0_t3_loop i).trips = (i 2).val + 1 from ht3]
  rw [hl0', hl1', ha0', ha1', hM0', hM1']
  rfl

theorem out_first (i : grid0.Coords) (hn : (i 2).val = 0)
    {arg5 : Memref sig .tc .vmem S1x1x2048x256 .bf16} {arg13 : Memref sig .tc .vmem S2048x256 .bf16} {arg16 : Memref sig .tc .vmem S2x512x2048 .f32} {arg17 : Memref sig .tc .vmem S2x512x128 .f32} {arg18 : Memref sig .tc .vmem S2x512x128 .f32} {arg19 : Memref sig .tc .vmem S2x512x256 .f32} {X5 : BufTy.Contents (Elt F) arg5.view.ty} {F13 : BufTy.Contents (Elt F) arg13.view.ty} {f16 : BufTy.Contents (Elt F) arg16.view.ty}
    {v6 v8 : FVec F S512x128 .bf16} {v22 : FVec F S1x1 .f32} {x3 x4 z : Vec F S1x512x256 .f32} {x5 : Vec F S1x1x2048x256 .bf16} {x9 : Vec F S1x1x128 .f32} {x10 : Vec F S4x128 .f32} {x11 g : Vec F S1x256 .f32}
    {X13 : Vec F S2048x256 .bf16} {X14 X15 B0 : Vec F S512x512 .f32} {q0 q1 q2 q3 : Vec F S1x128 .f32} {l0 l1 d0 d1 : Vec F S1x512x128 .f32} {a0 a1 : Vec F S1x512x256 .f32}
    {M0 M1 : FVec F S512x128 .f32} {p0d p1d : Vec F S1x512x512 .f32}
    {i11 : (∀ a, k0_off11 i a + S1x512x512.size a ≤ S2x512x2048.size a)} {i12 : (∀ a, k0_off12 i a + S1x512x512.size a ≤ S2x512x2048.size a)} {i10 : ∀ a, k0_off10 i a + S1x1x512x256.size a ≤ S1x1x2048x256.size a}
    (hl0 : l0 = lane17 arg18 0 (arg18.view.writes (Elt F) arg18.view.junk (sum18 i arg16 arg18 M0 M1 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 v6 v8 v22 X5 (k0_t1_loop i).trips)) (arg18.view.writes (Elt F) arg18.view.junk ([⟨Rect.unit (s := S2x512x128) ![0, 0, 0] S2x512x128.size inb_S2x512x128_S2x512x128_0_0_0, k0_pay74⟩])) (k0_t3_loop i).trips ++ [⟨Rect.unit (s := S2x512x128) ![0, 0, 0] S2x512x128.size inb_S2x512x128_S2x512x128_0_0_0, k0_pay74⟩])))
    (hl1 : l1 = lane17 arg18 1 (arg18.view.writes (Elt F) arg18.view.junk (sum18 i arg16 arg18 M0 M1 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 v6 v8 v22 X5 (k0_t1_loop i).trips)) (arg18.view.writes (Elt F) arg18.view.junk ([⟨Rect.unit (s := S2x512x128) ![0, 0, 0] S2x512x128.size inb_S2x512x128_S2x512x128_0_0_0, k0_pay74⟩])) (k0_t3_loop i).trips ++ [⟨Rect.unit (s := S2x512x128) ![0, 0, 0] S2x512x128.size inb_S2x512x128_S2x512x128_0_0_0, k0_pay74⟩])))
    (ha0 : a0 = lane19 arg19 0 (arg19.view.writes (Elt F) arg19.view.junk (sum19 i arg13 arg16 arg19 M0 M1 F13 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 v6 v8 v22 X5 (k0_t1_loop i).trips)) (arg19.view.writes (Elt F) arg19.view.junk ([⟨Rect.unit (s := S2x512x256) ![0, 0, 0] S2x512x256.size inb_S2x512x256_S2x512x256_0_0_0, k0_pay75⟩])) (k0_t3_loop i).trips ++ [⟨Rect.unit (s := S2x512x256) ![0, 0, 0] S2x512x256.size inb_S2x512x256_S2x512x256_0_0_0, k0_pay75⟩])))
    (ha1 : a1 = lane19 arg19 1 (arg19.view.writes (Elt F) arg19.view.junk (sum19 i arg13 arg16 arg19 M0 M1 F13 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 v6 v8 v22 X5 (k0_t1_loop i).trips)) (arg19.view.writes (Elt F) arg19.view.junk ([⟨Rect.unit (s := S2x512x256) ![0, 0, 0] S2x512x256.size inb_S2x512x256_S2x512x256_0_0_0, k0_pay75⟩])) (k0_t3_loop i).trips ++ [⟨Rect.unit (s := S2x512x256) ![0, 0, 0] S2x512x256.size inb_S2x512x256_S2x512x256_0_0_0, k0_pay75⟩])))
    (hM0 : M0 = k0_pay89 (lane17 arg17 0 (arg17.view.writes (Elt F) arg17.view.junk (⟨Rect.unit (s := S2x512x128) ![1, 0, 0] S1x512x128.size inb_S2x512x128_S1x512x128_1_0_0, d1⟩ :: ⟨Rect.unit (s := S2x512x128) ![0, 0, 0] S1x512x128.size inb_S2x512x128_S1x512x128_0_0_0, d0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hM1 : M1 = k0_pay89 (lane17 arg17 1 (arg17.view.writes (Elt F) arg17.view.junk (⟨Rect.unit (s := S2x512x128) ![1, 0, 0] S1x512x128.size inb_S2x512x128_S1x512x128_1_0_0, d1⟩ :: ⟨Rect.unit (s := S2x512x128) ![0, 0, 0] S1x512x128.size inb_S2x512x128_S1x512x128_0_0_0, d0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hd0 : d0 = k0_pay77 (k0_pay82 v6 B0 (arg5.view.readAt (Elt F) (Rect.unit (s := S1x1x2048x256) (k0_off10 i) S1x1x512x256.size i10).toLoadRect X5)) (lane17 arg17 0 (arg17.view.writes (Elt F) arg17.view.junk ((far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hd1 : d1 = k0_pay77 (k0_pay86 v8 B0 (k0_pay85 (arg5.view.readAt (Elt F) (Rect.unit (s := S1x1x2048x256) (k0_off10 i) S1x1x512x256.size i10).toLoadRect X5)) (constant S512x512 .f32 0x00000000#32)) (lane17 arg17 1 (arg17.view.writes (Elt F) arg17.view.junk (⟨Rect.unit (s := S2x512x128) ![0, 0, 0] S1x512x128.size inb_S2x512x128_S1x512x128_0_0_0, d0⟩ :: (far17 i arg5 arg17 v6 v8 v22 X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩])))))
    (hp0d : p0d = k0_pay79 (k0_pay82 v6 B0 (arg5.view.readAt (Elt F) (Rect.unit (s := S1x1x2048x256) (k0_off10 i) S1x1x512x256.size i10).toLoadRect X5))) (hp1d : p1d = k0_pay79 (k0_pay86 v8 B0 (k0_pay85 (arg5.view.readAt (Elt F) (Rect.unit (s := S1x1x2048x256) (k0_off10 i) S1x1x512x256.size i10).toLoadRect X5)) (constant S512x512 .f32 0x00000000#32)))
    (h6 : v6 = k0_pay71 x3) (h8 : v8 = k0_pay72 x3) (h22 : v22 = farOf x9) (h14 : B0 = X14)
    (h5 : arg5.view.read (Elt F) X5 = x5) (h13 : arg13.view.read (Elt F) F13 = X13) (hz : z = x4) (hg : g = x11)
    (hq0 : q0 = VecWindow.window (s := S4x128) x10 ![0, 0] S1x128.size inb_S4x128_S1x128_0_0)
    (hq1 : q1 = VecWindow.window (s := S4x128) x10 ![1, 0] S1x128.size inb_S4x128_S1x128_1_0)
    (hq2 : q2 = VecWindow.window (s := S4x128) x10 ![2, 0] S1x128.size inb_S4x128_S1x128_2_0)
    (hq3 : q3 = VecWindow.window (s := S4x128) x10 ![3, 0] S1x128.size inb_S4x128_S1x128_3_0)
    : k0_pay1 (k0_pay105 q0 q1 q2 q3) (k0_pay106 l0) (k0_pay107 l1) a0 a1 g z = outBlk (i 2).val x3 x4 x5 x9 x10 x11 X13 X14 X15 := by
  subst h6 h8 h22 h14 h5 h13 hz hg hq0 hq1 hq2 hq3
  have hlt := qi_lt i
  have ht1 := trips1_eq i
  have ht3 := trips3_eq i
  rw [key10 i] at hd0 hd1 hp0d hp1d
  rw [← sc0_diag (i 2).val x3 _ x9 B0 X15] at hd0 hp0d
  rw [← sc1_diag (i 2).val x3 _ x9 B0 X15] at hd1 hp1d
  have hf0 : lane17 arg17 0 (arg17.view.writes (Elt F) arg17.view.junk ((far17 i arg5 arg17 (k0_pay71 x3) (k0_pay72 x3) (farOf x9) X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩]))) = maxs (planeL k0_pay73 0) (sc0 (i 2).val x3 (arg5.view.read (Elt F) X5) (farOf x9) B0 X15) (k0_t1_loop i).trips := by
    rw [View.writes_append]
    refine (far17_lane0 i arg5 arg17 _ _ _ X5 _ (sc0 (i 2).val x3 (arg5.view.read (Elt F) X5) (farOf x9) B0 X15) (fun k => sc0_far x3 x9 B0 X15 k) _ le_rfl).trans ?_
    rw [lane17_full]
  have hf1 : lane17 arg17 1 (arg17.view.writes (Elt F) arg17.view.junk ((far17 i arg5 arg17 (k0_pay71 x3) (k0_pay72 x3) (farOf x9) X5 (arg17.view.writes (Elt F) arg17.view.junk ([⟨Rect.unit (s := S2x512x128) ![0, 0, 0] S2x512x128.size inb_S2x512x128_S2x512x128_0_0_0, k0_pay73⟩])) (k0_t1_loop i).trips ++ [⟨Rect.unit (s := S2x512x128) ![0, 0, 0] S2x512x128.size inb_S2x512x128_S2x512x128_0_0_0, k0_pay73⟩]))) = maxs (planeL k0_pay73 1) (sc1 (i 2).val x3 (arg5.view.read (Elt F) X5) (farOf x9) B0 X15) (k0_t1_loop i).trips := by
    rw [View.writes_append]
    refine (far17_lane1 i arg5 arg17 _ _ _ X5 _ (sc1 (i 2).val x3 (arg5.view.read (Elt F) X5) (farOf x9) B0 X15) (fun k => sc1_far x3 x9 B0 X15 k) _ le_rfl).trans ?_
    rw [lane17_full]
  have hz1 : (k0_t1_loop i).trips = (i 2).val := by omega
  have hd0' : d0 = maxs (planeL k0_pay73 0) (sc0 (i 2).val x3 (arg5.view.read (Elt F) X5) (farOf x9) B0 X15) ((i 2).val + 1) := by
    refine hd0.trans ?_
    rw [hf0, hz1, maxs_succ]
  have hd1' : d1 = maxs (planeL k0_pay73 1) (sc1 (i 2).val x3 (arg5.view.read (Elt F) X5) (farOf x9) B0 X15) ((i 2).val + 1) := by
    refine hd1.trans ?_
    rw [lane17_miss1, hf1, hz1, maxs_succ]
  have hM0' : M0 = rowMax 0 (sc0 (i 2).val x3 (arg5.view.read (Elt F) X5) (farOf x9) B0 X15) ((i 2).val + 1) := by
    refine hM0.trans ?_
    rw [lane17_miss0, lane17_hit0, hd0']; rfl
  have hM1' : M1 = rowMax 1 (sc1 (i 2).val x3 (arg5.view.read (Elt F) X5) (farOf x9) B0 X15) ((i 2).val + 1) := by
    refine hM1.trans ?_
    rw [lane17_hit1, hd1']; rfl
  have hs0 : ∀ k : Fin (k0_t3_loop i).trips, sum16 i arg16 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 (k0_pay71 x3) (k0_pay72 x3) (farOf x9) X5 (k0_t1_loop i).trips)) 0 k = k0_pay79 ((sc0 (i 2).val x3 (arg5.view.read (Elt F) X5) (farOf x9) B0 X15) k.val) := by
    intro k
    have e14 := off14_eq i k
    have e12 := off12_eq i
    have e11 := off11_eq i
    have hk := k.isLt
    rw [sum16_0]
    by_cases hkk : k.val = (i 2).val
    · refine (score_miss arg16 _ _ _ _ _ (by rw [e14, e12]; left; show (0 : ℕ) ≠ 1; decide)).trans ?_
      exact (score_hit arg16 _ _ _ (by rw [e14, e11, hkk]) _ _).trans (by rw [hp0d, hkk])
    · refine (score_miss arg16 _ _ _ _ _ (by rw [e14, e12]; left; show (0 : ℕ) ≠ 1; decide)).trans ?_
      refine (score_miss arg16 _ _ _ _ _ (by rw [e14, e11]; right; show 512 * k.val + 512 ≤ 512 * (i 2).val ∨ 512 * (i 2).val + 512 ≤ 512 * k.val; omega)).trans ?_
      exact absurd hk (by omega)
  have hs1 : ∀ k : Fin (k0_t3_loop i).trips, sum16 i arg16 (arg16.view.writes (Elt F) f16 (⟨Rect.unit (s := S2x512x2048) (k0_off12 i) S1x512x512.size i12, p1d⟩ :: ⟨Rect.unit (s := S2x512x2048) (k0_off11 i) S1x512x512.size i11, p0d⟩ :: far16 i arg5 arg16 (k0_pay71 x3) (k0_pay72 x3) (farOf x9) X5 (k0_t1_loop i).trips)) 1 k = k0_pay79 ((sc1 (i 2).val x3 (arg5.view.read (Elt F) X5) (farOf x9) B0 X15) k.val) := by
    intro k
    have e14 := off15_eq i k
    have e12 := off12_eq i
    have e11 := off11_eq i
    have hk := k.isLt
    rw [sum16_1]
    by_cases hkk : k.val = (i 2).val
    · exact (score_hit arg16 _ _ _ (by rw [e14, e12, hkk]) _ _).trans (by rw [hp1d, hkk])
    · refine (score_miss arg16 _ _ _ _ _ (by rw [e14, e12]; right; show 512 * k.val + 512 ≤ 512 * (i 2).val ∨ 512 * (i 2).val + 512 ≤ 512 * k.val; omega)).trans ?_
      refine (score_miss arg16 _ _ _ _ _ (by rw [e14, e11]; left; show (1 : ℕ) ≠ 0; decide)).trans ?_
      exact absurd hk (by omega)
  have hv := fun k => sum13_eq i arg13 F13 k
  have hl0' : l0 = sums (planeL k0_pay74 0) M0 (sc0 (i 2).val x3 (arg5.view.read (Elt F) X5) (farOf x9) B0 X15) ((i 2).val + 1) := by
    refine hl0.trans ?_
    rw [View.writes_append]
    refine (sum18_lane0 i arg16 arg18 M0 M1 _ _ (sc0 (i 2).val x3 (arg5.view.read (Elt F) X5) (farOf x9) B0 X15) hs0 _ le_rfl).trans ?_
    rw [lane17_full, show (k0_t3_loop i).trips = (i 2).val + 1 from ht3]
  have hl1' : l1 = sums (planeL k0_pay74 1) M1 (sc1 (i 2).val x3 (arg5.view.read (Elt F) X5) (farOf x9) B0 X15) ((i 2).val + 1) := by
    refine hl1.trans ?_
    rw [View.writes_append]
    refine (sum18_lane1 i arg16 arg18 M0 M1 _ _ (sc1 (i 2).val x3 (arg5.view.read (Elt F) X5) (farOf x9) B0 X15) hs1 _ le_rfl).trans ?_
    rw [lane17_full, show (k0_t3_loop i).trips = (i 2).val + 1 from ht3]
  have ha0' : a0 = accs (planeA k0_pay75 0) M0 (vblk (arg13.view.read (Elt F) F13)) (sc0 (i 2).val x3 (arg5.view.read (Elt F) X5) (farOf x9) B0 X15) ((i 2).val + 1) := by
    refine ha0.trans ?_
    rw [View.writes_append]
    refine (sum19_lane0 i arg13 arg16 arg19 M0 M1 _ _ _ (sc0 (i 2).val x3 (arg5.view.read (Elt F) X5) (farOf x9) B0 X15) _ hv hs0 _ le_rfl).trans ?_
    rw [lane19_full, show (k0_t3_loop i).trips = (i 2).val + 1 from ht3]
  have ha1' : a1 = accs (planeA k0_pay75 1) M1 (vblk (arg13.view.read (Elt F) F13)) (sc1 (i 2).val x3 (arg5.view.read (Elt F) X5) (farOf x9) B0 X15) ((i 2).val + 1) := by
    refine ha1.trans ?_
    rw [View.writes_append]
    refine (sum19_lane1 i arg13 arg16 arg19 M0 M1 _ _ _ (sc1 (i 2).val x3 (arg5.view.read (Elt F) X5) (farOf x9) B0 X15) _ hv hs1 _ le_rfl).trans ?_
    rw [lane19_full, show (k0_t3_loop i).trips = (i 2).val + 1 from ht3]
  rw [hl0', hl1', ha0', ha1', hM0', hM1']
  rfl

end Cert.KernelIdeal.Run

end
-- ==== Proof.KernelIdealLater.lean ====
module

public import proofs.«01_k».proof.Proof.KernelIdealOut
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The kernel's body at a point of a later query tile: the inputs stay, and the output block ends at `outBlk` of them and of the kept values and tables. -/
theorem body_later (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (hc1 : ¬ cond1 i) (hc2 : k0_cond2 i = 1#1)
    (x3 : Vec F S1x512x256 .f32) (x4 : Vec F S1x512x256 .f32) (x5 : Vec F S1x1x2048x256 .bf16) (x6 : Vec F S1x1x2048x256 .f32) (x7 : Vec F S1x128x128 .f32) (x8 : Vec F S1x128x128 .f32) (x9 : Vec F S1x1x128 .f32) (x10 : Vec F S4x128 .f32) (x11 : Vec F S1x256 .f32) (X13 : Vec F S2048x256 .bf16) (X14 : Vec F S512x512 .f32) (X15 : Vec F S512x512 .f32) (E : Set ℕ) (hE : E = Set.univ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outBlk (i 2).val x3 x4 x5 x9 x10 x11 X13 X14 X15) ∗ owns (c : Thread nD τ) arg13 fullShare X13 ∗ owns (c : Thread nD τ) arg14 fullShare X14 ∗ owns (c : Thread nD τ) arg15 fullShare X15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_dattn0_p i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hE
  simp only [cc0_dattn0_p_eq_skeleton]; unfold cc0_dattn0_p_skel
  simp only [k0_part1_eq_skeleton, k0_part2_eq_skeleton, k0_part3_eq_skeleton, k0_part6_eq_skeleton, k0_part9_eq_skeleton, k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg13.eq_unread hf13
  obtain rfl := harg14.eq_unread hf14
  obtain rfl := harg15.eq_unread hf15
  have htr2 := trips2_eq i
  have htr4 := trips4_eq i
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (View.read_writes_full _ _ _ _ _).trans ?_
    exact out_later i ((cond2_iff _).mp hc2) rfl rfl rfl rfl rfl rfl rfl rfl rfl rfl rfl rfl rfl rfl
      (congrArg k0_pay71 ((View.readAt_full _ _ _).trans (harg3.read_unread _))) (congrArg k0_pay72 ((View.readAt_full _ _ _).trans (harg3.read_unread _))) (congrArg k0_pay76 ((View.readAt_unit _ _ _ rfl _).trans (congrArg (fun x => VecWindow.window x _ _ _) (harg9.read_unread _))))
      ((View.readAt_full _ _ _).trans (harg14.read_unread _)) ((View.readAt_full _ _ _).trans (harg15.read_unread _)) (harg5.read_unread _) (harg13.read_unread _) ((View.readAt_full _ _ _).trans (harg4.read_unread _)) ((View.readAt_full _ _ _).trans (harg11.read_unread _)) ((View.readAt_unit _ _ _ rfl _).trans (congrArg (fun x => VecWindow.window x _ _ _) (harg10.read_unread _))) ((View.readAt_unit _ _ _ rfl _).trans (congrArg (fun x => VecWindow.window x _ _ _) (harg10.read_unread _))) ((View.readAt_unit _ _ _ rfl _).trans (congrArg (fun x => VecWindow.window x _ _ _) (harg10.read_unread _))) ((View.readAt_unit _ _ _ rfl _).trans (congrArg (fun x => VecWindow.window x _ _ _) (harg10.read_unread _)))
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Run

end
-- ==== Proof.KernelIdealTables.lean ====
module

public import proofs.«01_k».proof.Proof.KernelIdealOut
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! # The two bias tables of 512 by 512, made of sixteen tiles each -/

/-- A point's place in its tile. -/
def inTile (y : S512x512.Idx) : S128x128.Idx := fun a => ⟨(y a).val % 128, by
  have h := Nat.mod_lt (y a).val (show 128 > 0 by decide)
  fin_cases a <;> exact h⟩

/-- The table whose tile in row `a` and column `b` is `T a b`. -/
def tiled (T : ℕ → ℕ → Vec F S128x128 .f32) : Vec F S512x512 .f32 := fun y => T ((y 0).val / 128) ((y 1).val / 128) (inTile y)

/-- The four tiles the tables are made of. -/
def diagTile (x7 : Vec F S1x128x128 .f32) : Vec F S128x128 .f32 := k0_pay17 (k0_pay5 x7)
def edgeTile (x8 : Vec F S1x128x128 .f32) : Vec F S128x128 .f32 := k0_pay15 (k0_pay6 x8)
def farTile (x9 : Vec F S1x1x128 .f32) : Vec F S128x128 .f32 :=
  k0_pay62 (k0_pay3 (VecWindow.window (s := S1x1x128) x9 ![0, 0, 0] S1x1x1.size inb_S1x1x128_S1x1x1_0_0_0))
def maskTile : Vec F S128x128 .f32 := k0_pay11 (k0_pay4 (F := F))

/-- The table on the diagonal. -/
def tab0 (x7 x8 : Vec F S1x128x128 .f32) (x9 : Vec F S1x1x128 .f32) : Vec F S512x512 .f32 :=
  tiled fun a b => if a < b then maskTile else if a = b then diagTile x7 else if a = b + 1 then edgeTile x8 else farTile x9

/-- The table before the diagonal. -/
def tab1 (x8 : Vec F S1x128x128 .f32) (x9 : Vec F S1x1x128 .f32) : Vec F S512x512 .f32 :=
  tiled fun a b => if a = 0 ∧ b = 3 then edgeTile x8 else farTile x9

/-- Writing one tile, seen at a point. -/
theorem put_tile (x : Vec F S512x512 .f32) (off : Fin 2 → ℕ) (a b : ℕ) (ho : off = ![128 * a, 128 * b]) (w : Vec F S128x128 .f32) (y : S512x512.Idx) :
    VecWindow.put (s := S512x512) x off S128x128.size w y = if (y 0).val / 128 = a ∧ (y 1).val / 128 = b then w (inTile y) else x y := by
  subst ho
  unfold VecWindow.put
  by_cases h : (y 0).val / 128 = a ∧ (y 1).val / 128 = b
  · rw [if_pos h, dif_pos (by
      intro d; fin_cases d
      · show 128 * a ≤ (y 0).val ∧ (y 0).val < 128 * a + 128; omega
      · show 128 * b ≤ (y 1).val ∧ (y 1).val < 128 * b + 128; omega)]
    congr 1
    funext d; fin_cases d
    · exact Fin.ext (show (y 0).val - 128 * a = (y 0).val % 128 by omega)
    · exact Fin.ext (show (y 1).val - 128 * b = (y 1).val % 128 by omega)
  · rw [if_neg h, dif_neg]
    intro hall
    have h0 : 128 * a ≤ (y 0).val ∧ (y 0).val < 128 * a + 128 := hall 0
    have h1 : 128 * b ≤ (y 1).val ∧ (y 1).val < 128 * b + 128 := hall 1
    omega

/-- Sixteen tiles written one after the other make the table. -/
theorem read_tiles (m : Memref sig .tc .vmem S512x512 .f32) (G : BufTy.Contents (Elt F) m.view.ty) (T : ℕ → ℕ → Vec F S128x128 .f32)
    {w00 w01 w02 w03 w10 w11 w12 w13 w20 w21 w22 w23 w30 w31 w32 w33 : Vec F S128x128 .f32}
    {i00 : ∀ x, (![0, 0] : Fin 2 → ℕ) x + S128x128.size x ≤ S512x512.size x} {i01 : ∀ x, (![0, 128] : Fin 2 → ℕ) x + S128x128.size x ≤ S512x512.size x} {i02 : ∀ x, (![0, 256] : Fin 2 → ℕ) x + S128x128.size x ≤ S512x512.size x} {i03 : ∀ x, (![0, 384] : Fin 2 → ℕ) x + S128x128.size x ≤ S512x512.size x} {i10 : ∀ x, (![128, 0] : Fin 2 → ℕ) x + S128x128.size x ≤ S512x512.size x} {i11 : ∀ x, (![128, 128] : Fin 2 → ℕ) x + S128x128.size x ≤ S512x512.size x} {i12 : ∀ x, (![128, 256] : Fin 2 → ℕ) x + S128x128.size x ≤ S512x512.size x} {i13 : ∀ x, (![128, 384] : Fin 2 → ℕ) x + S128x128.size x ≤ S512x512.size x} {i20 : ∀ x, (![256, 0] : Fin 2 → ℕ) x + S128x128.size x ≤ S512x512.size x} {i21 : ∀ x, (![256, 128] : Fin 2 → ℕ) x + S128x128.size x ≤ S512x512.size x} {i22 : ∀ x, (![256, 256] : Fin 2 → ℕ) x + S128x128.size x ≤ S512x512.size x} {i23 : ∀ x, (![256, 384] : Fin 2 → ℕ) x + S128x128.size x ≤ S512x512.size x} {i30 : ∀ x, (![384, 0] : Fin 2 → ℕ) x + S128x128.size x ≤ S512x512.size x} {i31 : ∀ x, (![384, 128] : Fin 2 → ℕ) x + S128x128.size x ≤ S512x512.size x} {i32 : ∀ x, (![384, 256] : Fin 2 → ℕ) x + S128x128.size x ≤ S512x512.size x} {i33 : ∀ x, (![384, 384] : Fin 2 → ℕ) x + S128x128.size x ≤ S512x512.size x}
    (h00 : w00 = T 0 0) (h01 : w01 = T 0 1) (h02 : w02 = T 0 2) (h03 : w03 = T 0 3) (h10 : w10 = T 1 0) (h11 : w11 = T 1 1) (h12 : w12 = T 1 2) (h13 : w13 = T 1 3) (h20 : w20 = T 2 0) (h21 : w21 = T 2 1) (h22 : w22 = T 2 2) (h23 : w23 = T 2 3) (h30 : w30 = T 3 0) (h31 : w31 = T 3 1) (h32 : w32 = T 3 2) (h33 : w33 = T 3 3) :
    m.view.read (Elt F) (m.view.writes (Elt F) G [⟨Rect.unit (s := S512x512) ![384, 384] S128x128.size i33, w33⟩, ⟨Rect.unit (s := S512x512) ![384, 256] S128x128.size i32, w32⟩, ⟨Rect.unit (s := S512x512) ![384, 128] S128x128.size i31, w31⟩, ⟨Rect.unit (s := S512x512) ![384, 0] S128x128.size i30, w30⟩, ⟨Rect.unit (s := S512x512) ![256, 384] S128x128.size i23, w23⟩, ⟨Rect.unit (s := S512x512) ![256, 256] S128x128.size i22, w22⟩, ⟨Rect.unit (s := S512x512) ![256, 128] S128x128.size i21, w21⟩, ⟨Rect.unit (s := S512x512) ![256, 0] S128x128.size i20, w20⟩, ⟨Rect.unit (s := S512x512) ![128, 384] S128x128.size i13, w13⟩, ⟨Rect.unit (s := S512x512) ![128, 256] S128x128.size i12, w12⟩, ⟨Rect.unit (s := S512x512) ![128, 128] S128x128.size i11, w11⟩, ⟨Rect.unit (s := S512x512) ![128, 0] S128x128.size i10, w10⟩, ⟨Rect.unit (s := S512x512) ![0, 384] S128x128.size i03, w03⟩, ⟨Rect.unit (s := S512x512) ![0, 256] S128x128.size i02, w02⟩, ⟨Rect.unit (s := S512x512) ![0, 128] S128x128.size i01, w01⟩, ⟨Rect.unit (s := S512x512) ![0, 0] S128x128.size i00, w00⟩]) = tiled T := by
  rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl]
  funext y
  have hy0 : (y 0).val < 512 := (y 0).isLt
  have hy1 : (y 1).val < 512 := (y 1).isLt
  rw [put_tile _ _ 3 3 rfl, put_tile _ _ 3 2 rfl, put_tile _ _ 3 1 rfl, put_tile _ _ 3 0 rfl, put_tile _ _ 2 3 rfl, put_tile _ _ 2 2 rfl, put_tile _ _ 2 1 rfl, put_tile _ _ 2 0 rfl, put_tile _ _ 1 3 rfl, put_tile _ _ 1 2 rfl, put_tile _ _ 1 1 rfl, put_tile _ _ 1 0 rfl, put_tile _ _ 0 3 rfl, put_tile _ _ 0 2 rfl, put_tile _ _ 0 1 rfl, put_tile _ _ 0 0 rfl]
  unfold tiled
  subst h00 h01 h02 h03 h10 h11 h12 h13 h20 h21 h22 h23 h30 h31 h32 h33
  generalize ha : (y 0).val / 128 = a
  generalize hb : (y 1).val / 128 = b
  have ha4 : a < 4 := by omega
  have hb4 : b < 4 := by omega
  interval_cases a <;> interval_cases b <;> simp

theorem read_tab0 (m : Memref sig .tc .vmem S512x512 .f32) (G : BufTy.Contents (Elt F) m.view.ty) {x7 x8 : Vec F S1x128x128 .f32} {x9 : Vec F S1x1x128 .f32}
    {w00 w01 w02 w03 w10 w11 w12 w13 w20 w21 w22 w23 w30 w31 w32 w33 : Vec F S128x128 .f32}
    {i00 : ∀ x, (![0, 0] : Fin 2 → ℕ) x + S128x128.size x ≤ S512x512.size x} {i01 : ∀ x, (![0, 128] : Fin 2 → ℕ) x + S128x128.size x ≤ S512x512.size x} {i02 : ∀ x, (![0, 256] : Fin 2 → ℕ) x + S128x128.size x ≤ S512x512.size x} {i03 : ∀ x, (![0, 384] : Fin 2 → ℕ) x + S128x128.size x ≤ S512x512.size x} {i10 : ∀ x, (![128, 0] : Fin 2 → ℕ) x + S128x128.size x ≤ S512x512.size x} {i11 : ∀ x, (![128, 128] : Fin 2 → ℕ) x + S128x128.size x ≤ S512x512.size x} {i12 : ∀ x, (![128, 256] : Fin 2 → ℕ) x + S128x128.size x ≤ S512x512.size x} {i13 : ∀ x, (![128, 384] : Fin 2 → ℕ) x + S128x128.size x ≤ S512x512.size x} {i20 : ∀ x, (![256, 0] : Fin 2 → ℕ) x + S128x128.size x ≤ S512x512.size x} {i21 : ∀ x, (![256, 128] : Fin 2 → ℕ) x + S128x128.size x ≤ S512x512.size x} {i22 : ∀ x, (![256, 256] : Fin 2 → ℕ) x + S128x128.size x ≤ S512x512.size x} {i23 : ∀ x, (![256, 384] : Fin 2 → ℕ) x + S128x128.size x ≤ S512x512.size x} {i30 : ∀ x, (![384, 0] : Fin 2 → ℕ) x + S128x128.size x ≤ S512x512.size x} {i31 : ∀ x, (![384, 128] : Fin 2 → ℕ) x + S128x128.size x ≤ S512x512.size x} {i32 : ∀ x, (![384, 256] : Fin 2 → ℕ) x + S128x128.size x ≤ S512x512.size x} {i33 : ∀ x, (![384, 384] : Fin 2 → ℕ) x + S128x128.size x ≤ S512x512.size x}
    (h00 : w00 = diagTile x7) (h01 : w01 = maskTile) (h02 : w02 = maskTile) (h03 : w03 = maskTile) (h10 : w10 = edgeTile x8) (h11 : w11 = diagTile x7) (h12 : w12 = maskTile) (h13 : w13 = maskTile) (h20 : w20 = farTile x9) (h21 : w21 = edgeTile x8) (h22 : w22 = diagTile x7) (h23 : w23 = maskTile) (h30 : w30 = farTile x9) (h31 : w31 = farTile x9) (h32 : w32 = edgeTile x8) (h33 : w33 = diagTile x7) :
    m.view.read (Elt F) (m.view.writes (Elt F) G [⟨Rect.unit (s := S512x512) ![384, 384] S128x128.size i33, w33⟩, ⟨Rect.unit (s := S512x512) ![384, 256] S128x128.size i32, w32⟩, ⟨Rect.unit (s := S512x512) ![384, 128] S128x128.size i31, w31⟩, ⟨Rect.unit (s := S512x512) ![384, 0] S128x128.size i30, w30⟩, ⟨Rect.unit (s := S512x512) ![256, 384] S128x128.size i23, w23⟩, ⟨Rect.unit (s := S512x512) ![256, 256] S128x128.size i22, w22⟩, ⟨Rect.unit (s := S512x512) ![256, 128] S128x128.size i21, w21⟩, ⟨Rect.unit (s := S512x512) ![256, 0] S128x128.size i20, w20⟩, ⟨Rect.unit (s := S512x512) ![128, 384] S128x128.size i13, w13⟩, ⟨Rect.unit (s := S512x512) ![128, 256] S128x128.size i12, w12⟩, ⟨Rect.unit (s := S512x512) ![128, 128] S128x128.size i11, w11⟩, ⟨Rect.unit (s := S512x512) ![128, 0] S128x128.size i10, w10⟩, ⟨Rect.unit (s := S512x512) ![0, 384] S128x128.size i03, w03⟩, ⟨Rect.unit (s := S512x512) ![0, 256] S128x128.size i02, w02⟩, ⟨Rect.unit (s := S512x512) ![0, 128] S128x128.size i01, w01⟩, ⟨Rect.unit (s := S512x512) ![0, 0] S128x128.size i00, w00⟩]) = tab0 x7 x8 x9 :=
  read_tiles m G _ h00 h01 h02 h03 h10 h11 h12 h13 h20 h21 h22 h23 h30 h31 h32 h33

theorem read_tab1 (m : Memref sig .tc .vmem S512x512 .f32) (G : BufTy.Contents (Elt F) m.view.ty) {x8 : Vec F S1x128x128 .f32} {x9 : Vec F S1x1x128 .f32}
    {w00 w01 w02 w03 w10 w11 w12 w13 w20 w21 w22 w23 w30 w31 w32 w33 : Vec F S128x128 .f32}
    {i00 : ∀ x, (![0, 0] : Fin 2 → ℕ) x + S128x128.size x ≤ S512x512.size x} {i01 : ∀ x, (![0, 128] : Fin 2 → ℕ) x + S128x128.size x ≤ S512x512.size x} {i02 : ∀ x, (![0, 256] : Fin 2 → ℕ) x + S128x128.size x ≤ S512x512.size x} {i03 : ∀ x, (![0, 384] : Fin 2 → ℕ) x + S128x128.size x ≤ S512x512.size x} {i10 : ∀ x, (![128, 0] : Fin 2 → ℕ) x + S128x128.size x ≤ S512x512.size x} {i11 : ∀ x, (![128, 128] : Fin 2 → ℕ) x + S128x128.size x ≤ S512x512.size x} {i12 : ∀ x, (![128, 256] : Fin 2 → ℕ) x + S128x128.size x ≤ S512x512.size x} {i13 : ∀ x, (![128, 384] : Fin 2 → ℕ) x + S128x128.size x ≤ S512x512.size x} {i20 : ∀ x, (![256, 0] : Fin 2 → ℕ) x + S128x128.size x ≤ S512x512.size x} {i21 : ∀ x, (![256, 128] : Fin 2 → ℕ) x + S128x128.size x ≤ S512x512.size x} {i22 : ∀ x, (![256, 256] : Fin 2 → ℕ) x + S128x128.size x ≤ S512x512.size x} {i23 : ∀ x, (![256, 384] : Fin 2 → ℕ) x + S128x128.size x ≤ S512x512.size x} {i30 : ∀ x, (![384, 0] : Fin 2 → ℕ) x + S128x128.size x ≤ S512x512.size x} {i31 : ∀ x, (![384, 128] : Fin 2 → ℕ) x + S128x128.size x ≤ S512x512.size x} {i32 : ∀ x, (![384, 256] : Fin 2 → ℕ) x + S128x128.size x ≤ S512x512.size x} {i33 : ∀ x, (![384, 384] : Fin 2 → ℕ) x + S128x128.size x ≤ S512x512.size x}
    (h00 : w00 = farTile x9) (h01 : w01 = farTile x9) (h02 : w02 = farTile x9) (h03 : w03 = edgeTile x8) (h10 : w10 = farTile x9) (h11 : w11 = farTile x9) (h12 : w12 = farTile x9) (h13 : w13 = farTile x9) (h20 : w20 = farTile x9) (h21 : w21 = farTile x9) (h22 : w22 = farTile x9) (h23 : w23 = farTile x9) (h30 : w30 = farTile x9) (h31 : w31 = farTile x9) (h32 : w32 = farTile x9) (h33 : w33 = farTile x9) :
    m.view.read (Elt F) (m.view.writes (Elt F) G [⟨Rect.unit (s := S512x512) ![384, 384] S128x128.size i33, w33⟩, ⟨Rect.unit (s := S512x512) ![384, 256] S128x128.size i32, w32⟩, ⟨Rect.unit (s := S512x512) ![384, 128] S128x128.size i31, w31⟩, ⟨Rect.unit (s := S512x512) ![384, 0] S128x128.size i30, w30⟩, ⟨Rect.unit (s := S512x512) ![256, 384] S128x128.size i23, w23⟩, ⟨Rect.unit (s := S512x512) ![256, 256] S128x128.size i22, w22⟩, ⟨Rect.unit (s := S512x512) ![256, 128] S128x128.size i21, w21⟩, ⟨Rect.unit (s := S512x512) ![256, 0] S128x128.size i20, w20⟩, ⟨Rect.unit (s := S512x512) ![128, 384] S128x128.size i13, w13⟩, ⟨Rect.unit (s := S512x512) ![128, 256] S128x128.size i12, w12⟩, ⟨Rect.unit (s := S512x512) ![128, 128] S128x128.size i11, w11⟩, ⟨Rect.unit (s := S512x512) ![128, 0] S128x128.size i10, w10⟩, ⟨Rect.unit (s := S512x512) ![0, 384] S128x128.size i03, w03⟩, ⟨Rect.unit (s := S512x512) ![0, 256] S128x128.size i02, w02⟩, ⟨Rect.unit (s := S512x512) ![0, 128] S128x128.size i01, w01⟩, ⟨Rect.unit (s := S512x512) ![0, 0] S128x128.size i00, w00⟩]) = tab1 x8 x9 :=
  read_tiles m G _ h00 h01 h02 h03 h10 h11 h12 h13 h20 h21 h22 h23 h30 h31 h32 h33

end Cert.KernelIdeal.Run

end
-- ==== Proof.KernelIdealFirst.lean ====
module

public import proofs.«01_k».proof.Proof.KernelIdealTables
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The kernel's body at a point of a first query tile: the inputs stay, and the output block ends at `outBlk` of them, of the values and of the tables, which are made here. -/
theorem body_first (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S1x1x2048x256 .bf16) (harg5 : arg5.IsWhole) (arg6 : Memref sig .tc .vmem S1x1x2048x256 .f32) (harg6 : arg6.IsWhole) (arg7 : Memref sig .tc .vmem S1x128x128 .f32) (harg7 : arg7.IsWhole) (arg8 : Memref sig .tc .vmem S1x128x128 .f32) (harg8 : arg8.IsWhole) (arg9 : Memref sig .tc .vmem S1x1x128 .f32) (harg9 : arg9.IsWhole) (arg10 : Memref sig .tc .vmem S4x128 .f32) (harg10 : arg10.IsWhole) (arg11 : Memref sig .tc .vmem S1x256 .f32) (harg11 : arg11.IsWhole) (arg12 : Memref sig .tc .vmem S1x512x256 .bf16) (harg12 : arg12.IsWhole) (arg13 : Memref sig .tc .vmem S2048x256 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S2x512x2048 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S2x512x256 .f32) (harg19 : arg19.IsWhole) (hc1 : cond1 i) (hc2 : ¬ k0_cond2 i = 1#1)
    (x3 : Vec F S1x512x256 .f32) (x4 : Vec F S1x512x256 .f32) (x5 : Vec F S1x1x2048x256 .bf16) (x6 : Vec F S1x1x2048x256 .f32) (x7 : Vec F S1x128x128 .f32) (x8 : Vec F S1x128x128 .f32) (x9 : Vec F S1x1x128 .f32) (x10 : Vec F S4x128 .f32) (x11 : Vec F S1x256 .f32) (E : Set ℕ) (hE : E = Set.univ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outBlk (i 2).val x3 x4 x5 x9 x10 x11 (k0_pay2 x6) (tab0 x7 x8 x9) (tab1 x8 x9)) ∗ owns (c : Thread nD τ) arg13 fullShare (k0_pay2 x6) ∗ owns (c : Thread nD τ) arg14 fullShare (tab0 x7 x8 x9) ∗ owns (c : Thread nD τ) arg15 fullShare (tab1 x8 x9) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_dattn0_p i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hE
  simp only [cc0_dattn0_p_eq_skeleton]; unfold cc0_dattn0_p_skel
  simp only [k0_part1_eq_skeleton, k0_part2_eq_skeleton, k0_part3_eq_skeleton, k0_part6_eq_skeleton, k0_part9_eq_skeleton, k0_part10_eq_skeleton, k0_part11_eq_skeleton, k0_part12_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  have htr2 := trips2_eq i
  have htr4 := trips4_eq i
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have e7 : k0_pay17 (k0_pay5 (arg7.view.readAt (Elt F) (Rect.unit (s := S1x128x128) ![0, 0, 0] S1x128x128.size inb_S1x128x128_S1x128x128_0_0_0).toLoadRect (harg7.unread x7))) = diagTile x7 := (congrArg (fun x => k0_pay17 (k0_pay5 x)) ((View.readAt_full _ _ _).trans (harg7.read_unread _)))
  have e8 : k0_pay15 (k0_pay6 (arg8.view.readAt (Elt F) (Rect.unit (s := S1x128x128) ![0, 0, 0] S1x128x128.size inb_S1x128x128_S1x128x128_0_0_0).toLoadRect (harg8.unread x8))) = edgeTile x8 := (congrArg (fun x => k0_pay15 (k0_pay6 x)) ((View.readAt_full _ _ _).trans (harg8.read_unread _)))
  have e9 : k0_pay62 (k0_pay3 (arg9.view.readAt (Elt F) (Rect.unit (s := S1x1x128) ![0, 0, 0] S1x1x1.size inb_S1x1x128_S1x1x1_0_0_0).toLoadRect (harg9.unread x9))) = farTile x9 := (congrArg (fun x => k0_pay62 (k0_pay3 x)) ((View.readAt_unit _ _ _ rfl _).trans (congrArg (fun x => VecWindow.window x _ _ _) (harg9.read_unread _))))
  isplitl [H12]
  · iexists _; isplitr; swap; · iexact H12
    ipureintro
    refine (View.read_writes_full _ _ _ _ _).trans ?_
    exact out_first i ((cond1_iff _).mp hc1) rfl rfl rfl rfl rfl rfl rfl rfl rfl rfl
      (congrArg k0_pay71 ((View.readAt_full _ _ _).trans (harg3.read_unread _))) (congrArg k0_pay72 ((View.readAt_full _ _ _).trans (harg3.read_unread _))) (congrArg k0_pay76 ((View.readAt_unit _ _ _ rfl _).trans (congrArg (fun x => VecWindow.window x _ _ _) (harg9.read_unread _))))
      ((View.readAt_full _ _ _).trans (read_tab0 arg14 _ e7 rfl rfl rfl e8 e7 rfl rfl e9 e8 e7 rfl e9 e9 e8 e7))
      (harg5.read_unread _) ((View.read_writes_full _ _ _ _ _).trans (congrArg k0_pay2 ((View.readAt_full _ _ _).trans (harg6.read_unread _)))) ((View.readAt_full _ _ _).trans (harg4.read_unread _)) ((View.readAt_full _ _ _).trans (harg11.read_unread _)) ((View.readAt_unit _ _ _ rfl _).trans (congrArg (fun x => VecWindow.window x _ _ _) (harg10.read_unread _))) ((View.readAt_unit _ _ _ rfl _).trans (congrArg (fun x => VecWindow.window x _ _ _) (harg10.read_unread _))) ((View.readAt_unit _ _ _ rfl _).trans (congrArg (fun x => VecWindow.window x _ _ _) (harg10.read_unread _))) ((View.readAt_unit _ _ _ rfl _).trans (congrArg (fun x => VecWindow.window x _ _ _) (harg10.read_unread _)))
  isplitl [H13]
  · iexists _; isplitr; swap; · iexact H13
    ipureintro; exact (View.read_writes_full _ _ _ _ _).trans (congrArg k0_pay2 ((View.readAt_full _ _ _).trans (harg6.read_unread _)))
  isplitl [H14]
  · iexists _; isplitr; swap; · iexact H14
    ipureintro; exact (read_tab0 arg14 _ e7 rfl rfl rfl e8 e7 rfl rfl e9 e8 e7 rfl e9 e9 e8 e7)
  isplitl [H15]
  · iexists _; isplitr; swap; · iexact H15
    ipureintro; exact (read_tab1 arg15 _ e9 e9 e9 e8 e9 e9 e9 e9 e9 e9 e9 e9 e9 e9 e9 e9)
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Run

end
-- ==== Proof.KernelIdealFrame.lean ====
module

public import proofs.«01_k».proof.Proof.KernelIdealLater
public import proofs.«01_k».proof.Proof.KernelIdealFirst
public import Idealize.ShloMosaic.Lib.Pipeline.ValueKit
public import Idealize.ShloMosaic.Lib.Exec
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The launch, with the output named -/

abbrev st0 (t : Fin cfg0.N) : Memref sig .tc .vmem S1x512x256 .f32 := win0_0.stage (cfg0.slots t 0)
abbrev st1 (t : Fin cfg0.N) : Memref sig .tc .vmem S1x512x256 .f32 := win0_1.stage (cfg0.slots t 1)
abbrev st2 (t : Fin cfg0.N) : Memref sig .tc .vmem S1x1x2048x256 .bf16 := win0_2.stage (cfg0.slots t 2)
abbrev st3 (t : Fin cfg0.N) : Memref sig .tc .vmem S1x1x2048x256 .f32 := win0_3.stage (cfg0.slots t 3)
abbrev st4 (t : Fin cfg0.N) : Memref sig .tc .vmem S1x128x128 .f32 := win0_4.stage (cfg0.slots t 4)
abbrev st5 (t : Fin cfg0.N) : Memref sig .tc .vmem S1x128x128 .f32 := win0_5.stage (cfg0.slots t 5)
abbrev st6 (t : Fin cfg0.N) : Memref sig .tc .vmem S1x1x128 .f32 := win0_6.stage (cfg0.slots t 6)
abbrev st7 (t : Fin cfg0.N) : Memref sig .tc .vmem S4x128 .f32 := win0_7.stage (cfg0.slots t 7)
abbrev st8 (t : Fin cfg0.N) : Memref sig .tc .vmem S1x256 .f32 := win0_8.stage (cfg0.slots t 8)
abbrev st9 (t : Fin cfg0.N) : Memref sig .tc .vmem S1x512x256 .bf16 := win0_9.stage (cfg0.slots t 9)
abbrev buf0 : Memref sig .tc .vmem S2048x256 .bf16 := Memref.whole cc0_scratch0
abbrev buf1 : Memref sig .tc .vmem S512x512 .f32 := Memref.whole cc0_scratch1
abbrev buf2 : Memref sig .tc .vmem S512x512 .f32 := Memref.whole cc0_scratch2
abbrev buf3 : Memref sig .tc .vmem S2x512x2048 .f32 := Memref.whole cc0_scratch3
abbrev buf4 : Memref sig .tc .vmem S2x512x128 .f32 := Memref.whole cc0_scratch4
abbrev buf5 : Memref sig .tc .vmem S2x512x128 .f32 := Memref.whole cc0_scratch5
abbrev buf6 : Memref sig .tc .vmem S2x512x256 .f32 := Memref.whole cc0_scratch6

/-- The region's invariant, with the scratch buffers as memrefs. -/
theorem rest_eq (c : Dev nD) :
    (Pipeline.ΦA spec0 c : sProp 𝕄) = iprop(iprop((∃ d, owns (c : Thread nD τ) buf0 fullShare d) ∗ (∃ d, owns (c : Thread nD τ) buf1 fullShare d) ∗ (∃ d, owns (c : Thread nD τ) buf2 fullShare d) ∗ (∃ d, owns (c : Thread nD τ) buf3 fullShare d) ∗ (∃ d, owns (c : Thread nD τ) buf4 fullShare d) ∗ (∃ d, owns (c : Thread nD τ) buf5 fullShare d) ∗ (∃ d, owns (c : Thread nD τ) buf6 fullShare d)) ∗ (∃ r, prngReg c r)) := by
  unfold Pipeline.ΦA; rw [scopedRest0_eq]; simp only [buf0, buf1, buf2, buf3, buf4, buf5, buf6, owns_whole]; try rfl

theorem qi_val (t : Fin cfg0.N) : ((grid0.coords t) 2).val = t.val % 4 := by
  revert t; decide +kernel

/-- The values' cast, -/
def kept0 (c : Dev nD) (t : Fin cfg0.N) : Vec F S2048x256 .bf16 := k0_pay2 (iblk m c 3 t)
/-- and the two tables of the bias near the diagonal, as the first point of a row of points leaves them. -/
def kept1 (c : Dev nD) (t : Fin cfg0.N) : Vec F S512x512 .f32 := tab0 (iblk m c 4 t) (iblk m c 5 t) (iblk m c 6 t)
def kept2 (c : Dev nD) (t : Fin cfg0.N) : Vec F S512x512 .f32 := tab1 (iblk m c 5 t) (iblk m c 6 t)

/-- What point `t` writes. -/
def outAt (c : Dev nD) (t : Fin cfg0.N) : Vec F S1x512x256 .bf16 :=
  outBlk ((grid0.coords t) 2).val (iblk m c 0 t) (iblk m c 1 t) (iblk m c 2 t) (iblk m c 6 t) (iblk m c 7 t) (iblk m c 8 t)
    (kept0 m c t) (kept1 m c t) (kept2 m c t)

theorem blk3_next (c : Dev nD) (n : ℕ) (h : n + 1 < cfg0.N) (h4 : (n + 1) % 4 ≠ 0) :
    iblk m c 3 ⟨n + 1, h⟩ = iblk m c 3 ⟨n, Nat.lt_of_succ_lt h⟩ := by
  have e := ((cfg0.win 3).index_eq_of_fetch rfl ⟨n + 1, h⟩ (Bool.eq_false_iff.mpr fun hf => h4 ((fetch0_3 _).mp hf))).2
  have e' : (cfg0.win 3).index ⟨n + 1, h⟩ = (cfg0.win 3).index ⟨n, Nat.lt_of_succ_lt h⟩ := e
  unfold iblk
  generalize V m c (Pipeline.arrRef spec0 3) = X
  funext y
  refine congrArg X (funext fun a => Fin.ext ?_)
  blk_simp [e']

theorem blk4_next (c : Dev nD) (n : ℕ) (h : n + 1 < cfg0.N) (h4 : (n + 1) % 4 ≠ 0) :
    iblk m c 4 ⟨n + 1, h⟩ = iblk m c 4 ⟨n, Nat.lt_of_succ_lt h⟩ := by
  have e := ((cfg0.win 4).index_eq_of_fetch rfl ⟨n + 1, h⟩ (Bool.eq_false_iff.mpr fun hf => h4 ((fetch0_4 _).mp hf))).2
  have e' : (cfg0.win 4).index ⟨n + 1, h⟩ = (cfg0.win 4).index ⟨n, Nat.lt_of_succ_lt h⟩ := e
  unfold iblk
  generalize V m c (Pipeline.arrRef spec0 4) = X
  funext y
  refine congrArg X (funext fun a => Fin.ext ?_)
  blk_simp [e']

theorem blk5_next (c : Dev nD) (n : ℕ) (h : n + 1 < cfg0.N) (h4 : (n + 1) % 4 ≠ 0) :
    iblk m c 5 ⟨n + 1, h⟩ = iblk m c 5 ⟨n, Nat.lt_of_succ_lt h⟩ := by
  have e := ((cfg0.win 5).index_eq_of_fetch rfl ⟨n + 1, h⟩ (Bool.eq_false_iff.mpr fun hf => h4 ((fetch0_5 _).mp hf))).2
  have e' : (cfg0.win 5).index ⟨n + 1, h⟩ = (cfg0.win 5).index ⟨n, Nat.lt_of_succ_lt h⟩ := e
  unfold iblk
  generalize V m c (Pipeline.arrRef spec0 5) = X
  funext y
  refine congrArg X (funext fun a => Fin.ext ?_)
  blk_simp [e']

theorem blk6_next (c : Dev nD) (n : ℕ) (h : n + 1 < cfg0.N) (h4 : (n + 1) % 4 ≠ 0) :
    iblk m c 6 ⟨n + 1, h⟩ = iblk m c 6 ⟨n, Nat.lt_of_succ_lt h⟩ := by
  have e := ((cfg0.win 6).index_eq_of_fetch rfl ⟨n + 1, h⟩ (Bool.eq_false_iff.mpr fun hf => h4 ((fetch0_6 _).mp hf))).2
  have e' : (cfg0.win 6).index ⟨n + 1, h⟩ = (cfg0.win 6).index ⟨n, Nat.lt_of_succ_lt h⟩ := e
  unfold iblk
  generalize V m c (Pipeline.arrRef spec0 6) = X
  funext y
  refine congrArg X (funext fun a => Fin.ext ?_)
  blk_simp [e']

/-- The region's invariant between two points: inside a row of points the three kept buffers are what its first point left. -/
def between (c : Dev nD) (n : ℕ) : sProp 𝕄 :=
  iprop(iprop((∃ d, ⌜∀ h : n < cfg0.N, n % 4 ≠ 0 → d = kept0 m c ⟨n, h⟩⌝ ∗ owns (c : Thread nD τ) buf0 fullShare d)
    ∗ (∃ d, ⌜∀ h : n < cfg0.N, n % 4 ≠ 0 → d = kept1 m c ⟨n, h⟩⌝ ∗ owns (c : Thread nD τ) buf1 fullShare d)
    ∗ (∃ d, ⌜∀ h : n < cfg0.N, n % 4 ≠ 0 → d = kept2 m c ⟨n, h⟩⌝ ∗ owns (c : Thread nD τ) buf2 fullShare d)
    ∗ (∃ d, owns (c : Thread nD τ) buf3 fullShare d) ∗ (∃ d, owns (c : Thread nD τ) buf4 fullShare d)
    ∗ (∃ d, owns (c : Thread nD τ) buf5 fullShare d) ∗ (∃ d, owns (c : Thread nD τ) buf6 fullShare d)) ∗ (∃ r, prngReg c r))

theorem kept0_next (c : Dev nD) (n : ℕ) (h : n + 1 < cfg0.N) (h4 : (n + 1) % 4 ≠ 0) :
    kept0 m c ⟨n, Nat.lt_of_succ_lt h⟩ = kept0 m c ⟨n + 1, h⟩ := by
  unfold kept0; rw [blk3_next m c n h h4]
theorem kept1_next (c : Dev nD) (n : ℕ) (h : n + 1 < cfg0.N) (h4 : (n + 1) % 4 ≠ 0) :
    kept1 m c ⟨n, Nat.lt_of_succ_lt h⟩ = kept1 m c ⟨n + 1, h⟩ := by
  unfold kept1; rw [blk4_next m c n h h4, blk5_next m c n h h4, blk6_next m c n h h4]
theorem kept2_next (c : Dev nD) (n : ℕ) (h : n + 1 < cfg0.N) (h4 : (n + 1) % 4 ≠ 0) :
    kept2 m c ⟨n, Nat.lt_of_succ_lt h⟩ = kept2 m c ⟨n + 1, h⟩ := by
  unfold kept2; rw [blk5_next m c n h h4, blk6_next m c n h h4]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ n := between m c n.val
  q w := Pipeline.shareOf spec0 w
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem found0 (c : Dev nD) (t : Fin cfg0.N) (d) : (dats m 0 c).before 0 t d = iblk m c 0 t :=
  before0_0_of m (dats m 0 c) (dats_A m c 0) (left0 m c) t d
theorem left1 (c : Dev nD) (t : Fin cfg0.N) : (dats m 0 c).after 1 t = iblk m c 1 t := by dsimp only [dats]
theorem found1 (c : Dev nD) (t : Fin cfg0.N) (d) : (dats m 0 c).before 1 t d = iblk m c 1 t :=
  before0_1_of m (dats m 0 c) (dats_A m c 1) (left1 m c) t d
theorem left2 (c : Dev nD) (t : Fin cfg0.N) : (dats m 0 c).after 2 t = iblk m c 2 t := by dsimp only [dats]
theorem found2 (c : Dev nD) (t : Fin cfg0.N) (d) : (dats m 0 c).before 2 t d = iblk m c 2 t :=
  before0_2_of m (dats m 0 c) (dats_A m c 2) (left2 m c) t d
theorem left3 (c : Dev nD) (t : Fin cfg0.N) : (dats m 0 c).after 3 t = iblk m c 3 t := by dsimp only [dats]
theorem found3 (c : Dev nD) (t : Fin cfg0.N) (d) : (dats m 0 c).before 3 t d = iblk m c 3 t :=
  before0_3_of m (dats m 0 c) (dats_A m c 3) (left3 m c) t d
theorem left4 (c : Dev nD) (t : Fin cfg0.N) : (dats m 0 c).after 4 t = iblk m c 4 t := by dsimp only [dats]
theorem found4 (c : Dev nD) (t : Fin cfg0.N) (d) : (dats m 0 c).before 4 t d = iblk m c 4 t :=
  before0_4_of m (dats m 0 c) (dats_A m c 4) (left4 m c) t d
theorem left5 (c : Dev nD) (t : Fin cfg0.N) : (dats m 0 c).after 5 t = iblk m c 5 t := by dsimp only [dats]
theorem found5 (c : Dev nD) (t : Fin cfg0.N) (d) : (dats m 0 c).before 5 t d = iblk m c 5 t :=
  before0_5_of m (dats m 0 c) (dats_A m c 5) (left5 m c) t d
theorem left6 (c : Dev nD) (t : Fin cfg0.N) : (dats m 0 c).after 6 t = iblk m c 6 t := by dsimp only [dats]
theorem found6 (c : Dev nD) (t : Fin cfg0.N) (d) : (dats m 0 c).before 6 t d = iblk m c 6 t :=
  before0_6_of m (dats m 0 c) (dats_A m c 6) (left6 m c) t d
theorem left7 (c : Dev nD) (t : Fin cfg0.N) : (dats m 0 c).after 7 t = iblk m c 7 t := by dsimp only [dats]
theorem found7 (c : Dev nD) (t : Fin cfg0.N) (d) : (dats m 0 c).before 7 t d = iblk m c 7 t :=
  before0_7_of m (dats m 0 c) (dats_A m c 7) (left7 m c) t d
theorem left8 (c : Dev nD) (t : Fin cfg0.N) : (dats m 0 c).after 8 t = iblk m c 8 t := by dsimp only [dats]
theorem found8 (c : Dev nD) (t : Fin cfg0.N) (d) : (dats m 0 c).before 8 t d = iblk m c 8 t :=
  before0_8_of m (dats m 0 c) (dats_A m c 8) (left8 m c) t d
theorem left9 (c : Dev nD) (t : Fin cfg0.N) : (dats m 0 c).after 9 t = outAt m c t := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ owns (c : Thread nD τ) (st7 t) fullShare ((dats m 0 c).after 7 t) ∗ owns (c : Thread nD τ) (st8 t) fullShare ((dats m 0 c).after 8 t) ∗ owns (c : Thread nD τ) (st9 t) fullShare ((dats m 0 c).after 9 t))

set_option maxHeartbeats 1600000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (dats m 0 c).owesAt () t.succ = (dats m 0 c).owesAt () t.castSucc from rfl,
    left0, left1, left2, left3, left4, left5, left6, left7, left8, left9]
  rw [show (dats m 0 c).Φ t.castSucc = between m c t.val from rfl, show (dats m 0 c).Φ t.succ = between m c (t.val + 1) from rfl]
  unfold between
  have hq := qi_val t
  by_cases h : cond1 (grid0.coords t)
  · iintro ⟨⟨⟨⟨%e0, %p0, HS0⟩, ⟨%e1, %p1, HS1⟩, ⟨%e2, %p2, HS2⟩, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ _ _ _ _ _ _ _ _ _ _ _ _ h (fun h2 => absurd ((cond1_iff _).mp h) (by have := (cond2_iff _).mp h2; omega)) (iblk m c 0 t) (iblk m c 1 t) (iblk m c 2 t) (iblk m c 3 t) (iblk m c 4 t) (iblk m c 5 t) (iblk m c 6 t) (iblk m c 7 t) (iblk m c 8 t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    isplitl [HS6]; · iexact HS6
    iintro ⟨H0, H1, H2, H3, H4, H5, H6, H7, H8, H9, HS0, HS1, HS2, HS3, HS4, HS5, HS6⟩
    isplitl [HS0 HS1 HS2 HS3 HS4 HS5 HS6 Hg]
    · isplitl [HS0 HS1 HS2 HS3 HS4 HS5 HS6]
      · isplitl [HS0]
        · iexists _; isplitr; swap; · iexact HS0
          ipureintro; exact fun hn h4 => kept0_next m c t.val hn h4
        isplitl [HS1]
        · iexists _; isplitr; swap; · iexact HS1
          ipureintro; exact fun hn h4 => kept1_next m c t.val hn h4
        isplitl [HS2]
        · iexists _; isplitr; swap; · iexact HS2
          ipureintro; exact fun hn h4 => kept2_next m c t.val hn h4
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨⟨%e0, %p0, HS0⟩, ⟨%e1, %p1, HS1⟩, ⟨%e2, %p2, HS2⟩, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have h0 : t.val % 4 ≠ 0 := fun e => h ((cond1_iff _).mpr (hq.trans e))
    obtain rfl := p0 t.isLt h0
    obtain rfl := p1 t.isLt h0
    obtain rfl := p2 t.isLt h0
    iapply (body_later c (grid0.coords t) _ _ _ _ _ _ _ _ _ _ _ _ _ _ _ _ _ _ _ _ _ _ _ _ _ _ _ _ _ _ _ _ _ _ h ((cond2_iff _).mpr (Nat.one_le_iff_ne_zero.mpr fun e => h ((cond1_iff _).mpr e))) (iblk m c 0 t) (iblk m c 1 t) (iblk m c 2 t) (iblk m c 3 t) (iblk m c 4 t) (iblk m c 5 t) (iblk m c 6 t) (iblk m c 7 t) (iblk m c 8 t) (kept0 m c t) (kept1 m c t) (kept2 m c t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, HS0, HS1, HS2, HS3, HS4, HS5, HS6⟩
    isplitl [HS0 HS1 HS2 HS3 HS4 HS5 HS6 Hg]
    · isplitl [HS0 HS1 HS2 HS3 HS4 HS5 HS6]
      · isplitl [HS0]
        · iexists _; isplitr; swap; · iexact HS0
          ipureintro; exact fun hn h4 => kept0_next m c t.val hn h4
        isplitl [HS1]
        · iexists _; isplitr; swap; · iexact HS1
          ipureintro; exact fun hn h4 => kept1_next m c t.val hn h4
        isplitl [HS2]
        · iexists _; isplitr; swap; · iexact HS2
          ipureintro; exact fun hn h4 => kept2_next m c t.val hn h4
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

theorem enter (c : Dev nD) : Pipeline.ΦA spec0 c ⊢ ((dats m 0 c).Φ 0 : sProp 𝕄) := by
  rw [rest_eq, show (dats m 0 c).Φ 0 = between m c 0 from rfl]
  unfold between
  iintro ⟨⟨⟨%d0, H0⟩, ⟨%d1, H1⟩, ⟨%d2, H2⟩, H3, H4, H5, H6⟩, Hg⟩
  isplitl [H0 H1 H2 H3 H4 H5 H6]
  · isplitl [H0]
    · iexists d0; isplitr; · ipureintro; exact fun _ h => absurd rfl h
      iexact H0
    isplitl [H1]
    · iexists d1; isplitr; · ipureintro; exact fun _ h => absurd rfl h
      iexact H1
    isplitl [H2]
    · iexists d2; isplitr; · ipureintro; exact fun _ h => absurd rfl h
      iexact H2
    isplitl [H3]; · iexact H3
    isplitl [H4]; · iexact H4
    isplitl [H5]; · iexact H5
    iexact H6
  iexact Hg

theorem leave (c : Dev nD) : ((dats m 0 c).Φ (Fin.last _) : sProp 𝕄) ⊢ Pipeline.ΦA spec0 c := by
  rw [rest_eq, show (dats m 0 c).Φ (Fin.last _) = between m c cfg0.N from rfl]
  unfold between
  iintro ⟨⟨⟨%d0, -, H0⟩, ⟨%d1, -, H1⟩, ⟨%d2, -, H2⟩, H3, H4, H5, H6⟩, Hg⟩
  isplitl [H0 H1 H2 H3 H4 H5 H6]
  · isplitl [H0]; · iexists d0; iexact H0
    isplitl [H1]; · iexists d1; iexact H1
    isplitl [H2]; · iexists d2; iexact H2
    isplitl [H3]; · iexact H3
    isplitl [H4]; · iexact H4
    isplitl [H5]; · iexact H5
    iexact H6
  iexact Hg

set_option backward.isDefEq.respectTransparency.types false in
/-- Every execution ends, with every array at what the blocks make of it and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m)
    (hin := enter m) (hout := leave m) (hQ' := fun _ h => h)

/-- The launch leaves the nine arguments as they were, the result at what the blocks make of it, and every counter at zero. -/
theorem launched : θ_run defs (onTc (τ := τ) (main (F := F))) ⟨m, fun _ => 0, ρ⟩ (fun r => (∀ c : Dev nD,
      r.2.mem ((c.tc : Thread nD τ).loc main_v113) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c).1 9,
     ((h.1 c).1 1).trans (((dats m 0 c).arrAt_in 1 rfl _).trans ((dats_A m c 1).trans (V_main_arg0 m c))),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c),
     ((h.1 c).2 main_arg6 (Pipeline.mem_restRefs_of main_arg6 (by decide) (by decide))).trans (V_main_arg6 m c),
     ((h.1 c).2 main_arg7 (Pipeline.mem_restRefs_of main_arg7 (by decide) (by decide))).trans (V_main_arg7 m c),
     ((h.1 c).2 main_arg8 (Pipeline.mem_restRefs_of main_arg8 (by decide) (by decide))).trans (V_main_arg8 m c)⟩, h.2⟩) (run_all m ρ)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (launched m ρ)

end Cert.KernelIdeal.Run

end
-- ==== Proof.Softmax.lean ====
module

public import Idealize.ShloMosaic.Lib.Pointwise
public import Idealize.ShloMosaic.Lib.Pipeline.ValueKit

@[expose] public section

/-! The difference of two softmaxes over the reals: dividing the weights before the sum with the values, or after it. -/

set_option maxRecDepth 16384

noncomputable section

namespace Cert.Attn

open Idealize.ShloMosaic

/-- The greatest score of a row. -/
def top {n : ℕ} (S : Fin n → EReal) : EReal := Finset.univ.sup S

/-- A key's weight before the division: the exponential of its score less the greatest. -/
def wt {n : ℕ} (S : Fin n → EReal) (k : Fin n) : EReal := Ideal.exp (S k - top S)

theorem top_real {n : ℕ} {S : Fin n → EReal} (h : ∀ k, S k ≠ ⊤) (k₀ : Fin n) (h₀ : S k₀ ≠ ⊥) :
    ∃ M : ℝ, top S = M ∧ ∃ k, S k = M := by
  obtain ⟨k, -, hk⟩ := Finset.exists_mem_eq_sup (Finset.univ : Finset (Fin n)) ⟨k₀, Finset.mem_univ _⟩ S
  have hle : S k₀ ≤ top S := Finset.le_sup (f := S) (Finset.mem_univ k₀)
  have hb : top S ≠ ⊥ := fun e => h₀ (le_bot_iff.mp (e ▸ hle))
  have ht : top S ≠ ⊤ := fun e => h k (hk ▸ e)
  refine ⟨(top S).toReal, (EReal.coe_toReal ht hb).symm, k, ?_⟩
  rw [EReal.coe_toReal ht hb]; exact hk.symm

theorem exp_sub_real (M : ℝ) (s : EReal) (h : s ≠ ⊤) : ∃ w : ℝ, 0 ≤ w ∧ Ideal.exp (s - M) = w := by
  induction s with
  | bot => exact ⟨0, le_rfl, by rw [EReal.bot_sub]; rfl⟩
  | top => exact absurd rfl h
  | coe x => exact ⟨Real.exp (x - M), (Real.exp_pos _).le, by rw [← EReal.coe_sub]; rfl⟩

/-- The weights are reals, and their sum is positive. -/
theorem wt_real {n : ℕ} {S : Fin n → EReal} (h : ∀ k, S k ≠ ⊤) (k₀ : Fin n) (h₀ : S k₀ ≠ ⊥) :
    ∃ w : Fin n → ℝ, (∀ k, wt S k = w k) ∧ 0 < ∑ k, w k := by
  obtain ⟨M, hM, k₁, hk₁⟩ := top_real h k₀ h₀
  have hw : ∀ k, ∃ w : ℝ, 0 ≤ w ∧ wt S k = w := fun k => by
    unfold wt; rw [hM]; exact exp_sub_real M _ (h k)
  choose w hw0 hw1 using hw
  refine ⟨w, hw1, ?_⟩
  have h1 : w k₁ = 1 := by
    have := hw1 k₁
    unfold wt at this
    rw [hM, hk₁, ← EReal.coe_sub, sub_self] at this
    have h2 : Ideal.exp ((0 : ℝ) : EReal) = ((1 : ℝ) : EReal) := by
      show ((Real.exp 0 : ℝ) : EReal) = _
      rw [Real.exp_zero]
    rw [h2] at this
    exact (EReal.coe_injective this).symm
  exact lt_of_lt_of_le (by rw [h1]; exact one_pos) (Finset.single_le_sum (f := w) (fun k _ => hw0 k) (Finset.mem_univ k₁))

theorem coe_sum {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- Dividing each weight by its row's sum before the sum with the values is dividing the sums after it. -/
theorem mix {n : ℕ} (S T : Fin n → EReal) (v : Fin n → EReal) (lam : EReal) (hS : ∀ k, S k ≠ ⊤) (hT : ∀ k, T k ≠ ⊤)
    (k₀ : Fin n) (hS₀ : S k₀ ≠ ⊥) (hT₀ : T k₀ ≠ ⊥) (hv : ∀ k, v k ≠ ⊤ ∧ v k ≠ ⊥) (hl : lam ≠ ⊤ ∧ lam ≠ ⊥) :
    (∑ k, wt S k * v k) * Ideal.div 1 (∑ k, wt S k) - lam * ((∑ k, wt T k * v k) * Ideal.div 1 (∑ k, wt T k))
      = ∑ k, v k * (Ideal.div (wt S k) (∑ k, wt S k) - lam * Ideal.div (wt T k) (∑ k, wt T k)) := by
  obtain ⟨a, ha, ha0⟩ := wt_real hS k₀ hS₀
  obtain ⟨b, hb, hb0⟩ := wt_real hT k₀ hT₀
  lift lam to ℝ using hl
  have hv' : ∀ k, v k = ((v k).toReal : EReal) := fun k => (EReal.coe_toReal (hv k).1 (hv k).2).symm
  generalize hx : (fun k => (v k).toReal) = x at *
  have hv'' : v = fun k => (x k : EReal) := by funext k; rw [hv' k, ← hx]
  subst hv''
  have e1 : (1 : EReal) = ((1 : ℝ) : EReal) := rfl
  simp only [ha, hb, ← coe_sum, ← EReal.coe_mul, e1, div_real _ _ ha0.ne', div_real _ _ hb0.ne', ← EReal.coe_sub]
  congr 1
  simp only [mul_sub, Finset.sum_sub_distrib, Finset.sum_mul, Finset.mul_sum]
  congr 1
  · exact Finset.sum_congr rfl fun k _ => by ring
  · exact Finset.sum_congr rfl fun k _ => by ring

/-- A row cut at `n`: the scores up to it, and nothing beyond. -/
theorem top_cut {n : ℕ} (N : ℕ) (hN : N ≤ n) (f : ℕ → EReal) (S : Fin n → EReal) (h : ∀ k : Fin n, k.val < N → S k = f k)
    (h' : ∀ k : Fin n, N ≤ k.val → S k = ⊥) : top S = (Finset.range N).sup f := by
  refine le_antisymm (Finset.sup_le fun k _ => ?_) (Finset.sup_le fun k hk => ?_)
  · by_cases hk : k.val < N
    · rw [h k hk]; exact Finset.le_sup (f := f) (Finset.mem_range.mpr hk)
    · rw [h' k (by omega)]; exact bot_le
  · have hk := Finset.mem_range.mp hk
    rw [← h ⟨k, by omega⟩ hk]; exact Finset.le_sup (f := S) (Finset.mem_univ _)

/-- The same of a sum whose terms beyond `N` are zero. -/
theorem sum_cut {n : ℕ} (N : ℕ) (hN : N ≤ n) (f : ℕ → EReal) (S : Fin n → EReal) (h : ∀ k : Fin n, k.val < N → S k = f k)
    (h' : ∀ k : Fin n, N ≤ k.val → S k = 0) : ∑ k, S k = ∑ k ∈ Finset.range N, f k := by
  have e : ∀ k : Fin n, S k = (fun k => if k < N then f k else 0) k.val := fun k => by
    show _ = if k.val < N then f k.val else 0
    split_ifs with hk
    · exact h k hk
    · exact h' k (by omega)
  rw [Finset.sum_congr rfl fun k _ => e k, Fin.sum_univ_eq_sum_range (fun k => if k < N then f k else 0) n,
    ← Finset.sum_subset (Finset.range_mono hN) (fun k _ hk => if_neg fun h => hk (Finset.mem_range.mpr h))]
  exact Finset.sum_congr rfl fun k hk => if_pos (Finset.mem_range.mp hk)

/-- Lane by lane, tile by tile, group by group: the sum over all keys. -/
theorem sum_lanes (N : ℕ) (f : ℕ → EReal) :
    ∑ l : Fin 128, ∑ j ∈ Finset.range N, ∑ s ∈ Finset.range 4, f (512 * j + (128 * s + l.val)) = ∑ k ∈ Finset.range (512 * N), f k := by
  rw [Finset.sum_comm, mul_comm, Finset.sum_range_mul_split]
  refine Finset.sum_congr rfl fun j _ => ?_
  rw [Finset.sum_comm, show (512 : ℕ) = 4 * 128 from rfl, Finset.sum_range_mul_split]
  refine Finset.sum_congr rfl fun s _ => ?_
  rw [Fin.sum_univ_eq_sum_range (fun l => f (4 * 128 * j + (128 * s + l)))]
  exact Finset.sum_congr rfl fun l _ => congrArg f (by ring)

theorem sup_lanes (N : ℕ) (f : ℕ → EReal) :
    (Finset.univ : Finset (Fin 128)).sup (fun l => (Finset.range N).sup fun j => (Finset.range 4).sup fun s => f (512 * j + (128 * s + l.val)))
      = (Finset.range (512 * N)).sup f := by
  refine le_antisymm (Finset.sup_le fun l _ => Finset.sup_le fun j hj => Finset.sup_le fun s hs => ?_) (Finset.sup_le fun k hk => ?_)
  · have := Finset.mem_range.mp hj; have := Finset.mem_range.mp hs; have := l.isLt
    exact Finset.le_sup (f := f) (Finset.mem_range.mpr (by omega))
  · have hk := Finset.mem_range.mp hk
    have e : k = 512 * (k / 512) + (128 * (k % 512 / 128) + k % 128) := by omega
    refine le_trans ?_ (Finset.le_sup (Finset.mem_univ (⟨k % 128, by omega⟩ : Fin 128)))
    refine le_trans ?_ (Finset.le_sup (Finset.mem_range.mpr (by omega : k / 512 < N)))
    refine le_trans ?_ (Finset.le_sup (Finset.mem_range.mpr (by omega : k % 512 / 128 < 4)))
    exact le_of_eq (congrArg f e)

end Cert.Attn

end

end
-- ==== Proof.KernelIdealRow.lean ====
module

public import proofs.«01_k».proof.Proof.KernelIdealTables
public import Idealize.ShloMosaic.Lib.Pointwise
public import Idealize.ShloMosaic.Lib.Pipeline.ValueKit
public import proofs.«01_k».proof.Proof.Softmax

@[expose] public section

set_option maxRecDepth 16384

noncomputable section

namespace Cert.KernelIdeal.Row

open Cert.KernelIdeal Cert.KernelIdeal.Gen Cert.KernelIdeal.Run
open Idealize.ShloMosaic Idealize.ShloMosaic.TcCoe

/-! # One query row of the kernel's body over the reals: its maximum, its sums, its output -/

theorem sup4 (f : ℕ → EReal) : (Finset.range 4).sup f = max (max (max (f 0) (f 1)) (f 2)) (f 3) := by
  refine le_antisymm (Finset.sup_le fun k hk => ?_) ?_
  · have := Finset.mem_range.mp hk
    interval_cases k <;> simp
  · simp only [max_le_iff]
    exact ⟨⟨⟨Finset.le_sup (f := f) (by decide), Finset.le_sup (f := f) (by decide)⟩, Finset.le_sup (f := f) (by decide)⟩, Finset.le_sup (f := f) (by decide)⟩

theorem fold_max {ι : Type} (s : Finset ι) (f : ι → EReal) : Finset.fold max (Ideal.ofBits FTy.f32 0xFF800000#32) f s = s.sup f := by
  have e : Ideal.ofBits FTy.f32 0xFF800000#32 = (⊥ : EReal) := by simp [Ideal.ofBits, Ideal.ieee]
  rw [e]; rfl

theorem named_mask : (Named.named (F := Ideal) κ "mask" (φ := .f32) 0xF149F2CA#32 : EReal) = ⊥ := by
  rfl

theorem mask_at (y : S2x512x128.Idx) : ((k0_pay73 (F := Ideal)) y : EReal) = ⊥ := by
  pointwise [k0_pay73]
  exact named_mask

theorem planeL_mask (a : Fin 2) (y : S1x512x128.Idx) : planeL (F := Ideal) (k0_pay73 (F := Ideal)) a y = (⊥ : EReal) := by
  fin_cases a <;> simp only [planeL, VecWindow.window] <;> exact mask_at _

theorem planeL_zero (a : Fin 2) (y : S1x512x128.Idx) : planeL (F := Ideal) (k0_pay74 (F := Ideal)) a y = (0 : EReal) := by
  have h : ∀ y : S2x512x128.Idx, ((k0_pay74 (F := Ideal)) y : EReal) = 0 := fun y => by pointwise [k0_pay74]
  fin_cases a <;> simp only [planeL, VecWindow.window] <;> exact h _

theorem planeA_zero (a : Fin 2) (y : S1x512x256.Idx) : planeA (F := Ideal) (k0_pay75 (F := Ideal)) a y = (0 : EReal) := by
  have h : ∀ y : S2x512x256.Idx, ((k0_pay75 (F := Ideal)) y : EReal) = 0 := fun y => by pointwise [k0_pay75]
  fin_cases a <;> simp only [planeA, VecWindow.window] <;> exact h _

theorem pay77_at (S : FVec Ideal S512x512 .f32) (M : FVec Ideal S1x512x128 .f32) (r : Fin 512) (l : Fin 128) (f : ℕ → EReal) (hS : ∀ c : Fin 512, S (ix2 r c) = f c.val) :
    k0_pay77 (F := Ideal) S M (ix3 0 r l) = max (M (ix3 0 r l)) ((Finset.range 4).sup fun s => f (128 * s + l.val)) := by
  pointwise [k0_pay77]
  rw [sup4, hS, hS, hS, hS, max_assoc, max_assoc, max_assoc, max_assoc, max_assoc]
  simp only [Nat.mul_zero, Nat.zero_add, Nat.mul_one, Nat.reduceMul]

theorem maxs_at (a : Fin 2) (S : ℕ → FVec Ideal S512x512 .f32) (f : ℕ → EReal) (r : Fin 512) (l : Fin 128) : ∀ N : ℕ,
    (∀ j < N, ∀ c : Fin 512, S j (ix2 r c) = f (512 * j + c.val)) →
    maxs (F := Ideal) (planeL (F := Ideal) (k0_pay73 (F := Ideal)) a) S N (ix3 0 r l) = (Finset.range N).sup fun j => (Finset.range 4).sup fun s => f (512 * j + (128 * s + l.val))
  | 0, _ => planeL_mask a _
  | N + 1, h => by
    rw [Finset.range_add_one, Finset.sup_insert]
    refine (pay77_at (S N) _ r l (fun c => f (512 * N + c)) fun c => h N (Nat.lt_succ_self N) c).trans ?_
    rw [maxs_at a S f r l N fun j hj c => h j (Nat.lt_succ_of_lt hj) c, max_comm]

/-- The maximum of a row's scores over the first `N` blocks. -/
def rtop (N : ℕ) (f : ℕ → EReal) : EReal := (Finset.range (512 * N)).sup f

/-- A weight of the row. -/
def rwt (N : ℕ) (f : ℕ → EReal) (k : ℕ) : EReal := Ideal.exp (f k - rtop N f)

theorem rowMax_at (a : Fin 2) (S : ℕ → FVec Ideal S512x512 .f32) (f : ℕ → EReal) (r : Fin 512) (l : Fin 128) (N : ℕ)
    (h : ∀ j < N, ∀ c : Fin 512, S j (ix2 r c) = f (512 * j + c.val)) :
    rowMax (F := Ideal) a S N (ix2 r l) = rtop N f := by
  have e : ∀ l' : Fin 128, maxs (F := Ideal) (planeL (F := Ideal) (k0_pay73 (F := Ideal)) a) S N (ix3 0 r l') = _ := fun l' => maxs_at a S f r l' N h
  unfold rowMax
  generalize maxs (F := Ideal) (planeL (F := Ideal) (k0_pay73 (F := Ideal)) a) S N = M at e
  pointwise [k0_pay89]
  rw [fold_max, rtop, ← Cert.Attn.sup_lanes]
  exact Finset.sup_congr rfl fun l' _ => e l'

theorem pay53_at (m : FVec Ideal S512x128 .f32) (S : FVec Ideal S512x512 .f32) (L : FVec Ideal S1x512x128 .f32) (r : Fin 512) (l : Fin 128) (f : ℕ → EReal) (M : EReal)
    (hS : ∀ c : Fin 512, S (ix2 r c) = f c.val) (hm : ∀ l, m (ix2 r l) = M) :
    k0_pay53 (F := Ideal) m (k0_pay79 S) L (ix3 0 r l) = L (ix3 0 r l) + ∑ s ∈ Finset.range 4, Ideal.exp (f (128 * s + l.val) - M) := by
  pointwise [k0_pay53, k0_pay79, k0_pay48, k0_pay49, k0_pay50, k0_pay51, k0_pay52]
  rw [hS, hS, hS, hS, hm]
  simp only [Finset.sum_range_succ, Finset.sum_range_zero, Nat.mul_zero, Nat.zero_add, Nat.mul_one, Nat.reduceMul, zero_add, add_assoc]

theorem sums_at (a : Fin 2) (m : FVec Ideal S512x128 .f32) (S : ℕ → FVec Ideal S512x512 .f32) (f : ℕ → EReal) (M : EReal) (r : Fin 512) (l : Fin 128) (hm : ∀ l, m (ix2 r l) = M) : ∀ N : ℕ,
    (∀ j < N, ∀ c : Fin 512, S j (ix2 r c) = f (512 * j + c.val)) →
    sums (F := Ideal) (planeL (F := Ideal) (k0_pay74 (F := Ideal)) a) m S N (ix3 0 r l) = ∑ j ∈ Finset.range N, ∑ s ∈ Finset.range 4, Ideal.exp (f (512 * j + (128 * s + l.val)) - M)
  | 0, _ => planeL_zero a _
  | N + 1, h => by
    rw [Finset.sum_range_succ]
    refine (pay53_at m (S N) _ r l (fun c => f (512 * N + c)) M (fun c => h N (Nat.lt_succ_self N) c) hm).trans ?_
    rw [sums_at a m S f M r l hm N fun j hj c => h j (Nat.lt_succ_of_lt hj) c]

theorem pay54_at (m : FVec Ideal S512x128 .f32) (S : FVec Ideal S512x512 .f32) (V : FVec Ideal S512x256 .bf16) (A : FVec Ideal S1x512x256 .f32) (r : Fin 512) (e : Fin 256) (f v : ℕ → EReal) (M : EReal)
    (hS : ∀ c : Fin 512, S (ix2 r c) = f c.val) (hV : ∀ c : Fin 512, V (ix2 c e) = v c.val) (hm : ∀ l, m (ix2 r l) = M) :
    k0_pay54 (F := Ideal) m V (k0_pay79 S) A (ix3 0 r e) = A (ix3 0 r e) + ∑ c ∈ Finset.range 512, Ideal.exp (f c - M) * v c := by
  pointwise [k0_pay54, k0_pay79, k0_pay48, k0_pay49, k0_pay50, k0_pay51, k0_pay52]
  refine congrArg _ ?_
  rw [← Fin.sum_univ_eq_sum_range (fun c => Ideal.exp (f c - M) * v c)]
  refine Finset.sum_congr rfl fun x _ => ?_
  rw [hV x]
  refine congrArg (· * v x.val) ?_
  have hx := x.isLt
  by_cases h1 : x.val < 128
  · rw [dif_pos h1, hS, hm]
  rw [dif_neg h1]
  by_cases h2 : x.val - 128 < 128
  · rw [dif_pos h2, hS, hm]
    exact congrArg (fun c => Ideal.exp (f c - M)) (show 128 + (x.val - 128) = x.val by omega)
  rw [dif_neg h2]
  by_cases h3 : x.val - 128 - 128 < 128
  · rw [dif_pos h3, hS, hm]
    exact congrArg (fun c => Ideal.exp (f c - M)) (show 256 + (x.val - 128 - 128) = x.val by omega)
  rw [dif_neg h3, hS, hm]
  exact congrArg (fun c => Ideal.exp (f c - M)) (show 384 + (x.val - 128 - 128 - 128) = x.val by omega)

theorem accs_at (a : Fin 2) (m : FVec Ideal S512x128 .f32) (V : ℕ → FVec Ideal S512x256 .bf16) (S : ℕ → FVec Ideal S512x512 .f32) (f v : ℕ → EReal) (M : EReal) (r : Fin 512) (e : Fin 256) (hm : ∀ l, m (ix2 r l) = M) : ∀ N : ℕ,
    (∀ j < N, ∀ c : Fin 512, S j (ix2 r c) = f (512 * j + c.val)) → (∀ j < N, ∀ c : Fin 512, V j (ix2 c e) = v (512 * j + c.val)) →
    accs (F := Ideal) (planeA (F := Ideal) (k0_pay75 (F := Ideal)) a) m V S N (ix3 0 r e) = ∑ k ∈ Finset.range (512 * N), Ideal.exp (f k - M) * v k
  | 0, _, _ => planeA_zero a _
  | N + 1, h, hv => by
    rw [Nat.mul_succ, Finset.sum_range_add]
    refine (pay54_at m (S N) (V N) _ r e (fun c => f (512 * N + c)) (fun c => v (512 * N + c)) M (fun c => h N (Nat.lt_succ_self N) c) (fun c => hv N (Nat.lt_succ_self N) c) hm).trans ?_
    rw [accs_at a m V S f v M r e hm N (fun j hj c => h j (Nat.lt_succ_of_lt hj) c) (fun j hj c => hv j (Nat.lt_succ_of_lt hj) c)]

/-- The reciprocal of a row's sum of weights. -/
theorem recip (a : Fin 2) (S : ℕ → FVec Ideal S512x512 .f32) (f : ℕ → EReal) (r : Fin 512) (N : ℕ)
    (h : ∀ j < N, ∀ c : Fin 512, S j (ix2 r c) = f (512 * j + c.val)) :
    Ideal.div 1 (∑ l : Fin 128, sums (F := Ideal) (planeL (F := Ideal) (k0_pay74 (F := Ideal)) a) (rowMax a S N) S N (ix3 0 r l)) = Ideal.div 1 (∑ k ∈ Finset.range (512 * N), rwt N f k) := by
  refine congrArg _ ?_
  refine (Finset.sum_congr rfl fun l _ => sums_at a _ S f (rtop N f) r l (fun l => rowMax_at a S f r l N h) N h).trans ?_
  exact Cert.Attn.sum_lanes N fun k => Ideal.exp (f k - rtop N f)

theorem pay106_at (L : FVec Ideal S1x512x128 .f32) (r : Fin 512) :
    k0_pay106 (F := Ideal) L (ix2 r 0) = Ideal.div 1 (∑ l : Fin 128, L (ix3 0 r l)) := by
  pointwise [k0_pay106]

theorem pay107_at (L : FVec Ideal S1x512x128 .f32) (r : Fin 512) :
    k0_pay107 (F := Ideal) L (ix2 r 0) = Ideal.div 1 (∑ l : Fin 128, L (ix3 0 r l)) := by
  pointwise [k0_pay107]

/-- The row's mixture of the values at one column. -/
def rmix (N : ℕ) (f0 f1 v : ℕ → EReal) (lam : EReal) : EReal :=
  (∑ k ∈ Finset.range (512 * N), rwt N f0 k * v k) * Ideal.div 1 (∑ k ∈ Finset.range (512 * N), rwt N f0 k)
    - lam * ((∑ k ∈ Finset.range (512 * N), rwt N f1 k * v k) * Ideal.div 1 (∑ k ∈ Finset.range (512 * N), rwt N f1 k))

/-- The norm, its scale, and the gate. -/
def post (o : Fin 256 → EReal) (g z : EReal) (e : Fin 256) : EReal :=
  o e * Ideal.rsqrt (Ideal.div (∑ x, o x * o x) (Ideal.ofBits .f32 0x43800000#32) + Ideal.ofBits .f32 0x358637BD#32) * g
    * Ideal.ofBits .f32 0x3F077F5A#32 * (z * Ideal.logistic z)

/-- The second softmax's coefficient. -/
def lamOf (a b c d : Fin 128 → EReal) : EReal :=
  Ideal.exp (∑ k, a k * b k) - Ideal.exp (∑ k, c k * d k) + Ideal.ofBits .f32 0x3EF1014C#32

theorem pay105_at (a b c d : FVec Ideal S1x128 .f32) :
    k0_pay105 (F := Ideal) a b c d (ix2 0 0) = lamOf (fun k => a (ix2 0 k)) (fun k => b (ix2 0 k)) (fun k => c (ix2 0 k)) (fun k => d (ix2 0 k)) := by
  pointwise [k0_pay105]
  rfl

theorem pay1_at (lam : FVec Ideal S1x1 .f32) (i0 i1 : FVec Ideal S512x1 .f32) (a0 a1 z : FVec Ideal S1x512x256 .f32) (g : FVec Ideal S1x256 .f32) (r : Fin 512) (e : Fin 256) :
    k0_pay1 (F := Ideal) lam i0 i1 a0 a1 g z (ix3 0 r e)
      = post (fun x => a0 (ix3 0 r x) * i0 (ix2 r 0) - lam (ix2 0 0) * (a1 (ix3 0 r x) * i1 (ix2 r 0))) (g (ix2 0 e)) (z (ix3 0 r e)) e := by
  pointwise [k0_pay1]
  rfl

theorem outOf_at (S0 S1 : ℕ → FVec Ideal S512x512 .f32) (V : ℕ → FVec Ideal S512x256 .bf16) (N : ℕ) (x10 : FVec Ideal S4x128 .f32) (x11 : FVec Ideal S1x256 .f32) (x4 : FVec Ideal S1x512x256 .f32)
    (r : Fin 512) (e : Fin 256) (f0 f1 : ℕ → EReal) (v : ℕ → Fin 256 → EReal)
    (h0 : ∀ j < N, ∀ c : Fin 512, S0 j (ix2 r c) = f0 (512 * j + c.val)) (h1 : ∀ j < N, ∀ c : Fin 512, S1 j (ix2 r c) = f1 (512 * j + c.val))
    (hv : ∀ j < N, ∀ (c : Fin 512) (x : Fin 256), V j (ix2 c x) = v (512 * j + c.val) x) :
    outOf (F := Ideal) S0 S1 V N x10 x11 x4 (ix3 0 r e)
      = post (fun x => rmix N f0 f1 (fun k => v k x) (lamOf (fun k => x10 (ix2 0 k)) (fun k => x10 (ix2 1 k)) (fun k => x10 (ix2 2 k)) (fun k => x10 (ix2 3 k))))
          (x11 (ix2 0 e)) (x4 (ix3 0 r e)) e := by
  unfold outOf
  rw [pay1_at, pay105_at, pay106_at, pay107_at, recip 0 S0 f0 r N h0, recip 1 S1 f1 r N h1]
  refine congrArg (fun o => post o _ _ e) (funext fun x => ?_)
  rw [accs_at 0 _ V S0 f0 (fun k => v k x) (rtop N f0) r x (fun l => rowMax_at 0 S0 f0 r l N h0) N h0 (fun j hj c => hv j hj c x),
    accs_at 1 _ V S1 f1 (fun k => v k x) (rtop N f1) r x (fun l => rowMax_at 1 S1 f1 r l N h1) N h1 (fun j hj c => hv j hj c x)]
  have w : ∀ (o : ℕ) (ho : o < 4) (inb : ∀ a, (![o, 0] : Fin 2 → ℕ) a + S1x128.size a ≤ S4x128.size a) (k : Fin 128),
      VecWindow.window (s := S4x128) x10 ![o, 0] S1x128.size inb (ix2 0 k) = x10 (ix2 ⟨o, ho⟩ k) := fun o ho inb k => by
    refine congrArg x10 ?_
    funext a; fin_cases a <;> apply Fin.ext <;> simp [VecWindow.window]
  have w0 : ∀ k, VecWindow.window (s := S4x128) x10 ![0, 0] S1x128.size inb_S4x128_S1x128_0_0 (ix2 0 k) = x10 (ix2 0 k) := w 0 (by decide) _
  have w1 : ∀ k, VecWindow.window (s := S4x128) x10 ![1, 0] S1x128.size inb_S4x128_S1x128_1_0 (ix2 0 k) = x10 (ix2 1 k) := w 1 (by decide) _
  have w2 : ∀ k, VecWindow.window (s := S4x128) x10 ![2, 0] S1x128.size inb_S4x128_S1x128_2_0 (ix2 0 k) = x10 (ix2 2 k) := w 2 (by decide) _
  have w3 : ∀ k, VecWindow.window (s := S4x128) x10 ![3, 0] S1x128.size inb_S4x128_S1x128_3_0 (ix2 0 k) = x10 (ix2 3 k) := w 3 (by decide) _
  simp only [w0, w1, w2, w3]
  rfl

theorem score_at (q : FVec Ideal S512x128 .bf16) (b : FVec Ideal S512x512 .f32) (kk : FVec Ideal S512x128 .bf16) (r c : Fin 512) :
    score (F := Ideal) q b kk (ix2 r c) = (∑ d : Fin 128, q (ix2 r d) * kk (ix2 c d)) * Ideal.ofBits .f32 0x3DB504F3#32 + b (ix2 r c) := by
  pointwise [score, k0_pay86]

end Cert.KernelIdeal.Row

end

end
-- ==== Proof.Bucket.lean ====
module

public import Idealize.ShloMosaic.Lib.Pointwise
public import Idealize.ShloMosaic.Lib.Pipeline.ValueKit
public import Idealize.ShloMosaic.Lib.ValueIdxCore

@[expose] public section

/-! The relative-position bucket of a distance, over the reals: sixteen exact buckets, then logarithmic ones, and from
distance 129 on the last. -/

set_option maxRecDepth 16384

noncomputable section

namespace Cert.Attn

open Idealize.ShloMosaic

/-- The bucket before the table is read. -/
def bkt0 (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32 (FloatOps.mulf (F := Ideal) (φ := .f32) (FloatOps.hostDivf (F := Ideal) (φ := .f32)
      (FloatOps.hostUnary (F := Ideal) .log (φ := .f32) (FloatOps.hostDivf (F := Ideal) (φ := .f32) (FloatOps.sitofp (F := Ideal) .f32 (IntOp.maxsi (IntOp.maxsi d 0#32) 1#32)) (FloatOps.ofBits (F := Ideal) .f32 0x41800000#32)))
      (FloatOps.ofBits (F := Ideal) .f32 0x40051592#32)) (FloatOps.ofBits (F := Ideal) .f32 0x41800000#32)))) 31#32)

/-- The bucket as a row number of the table, a negative one counted from the end. -/
def bkt (d : BitVec 32) : BitVec 32 :=
  Scalar.select (IntOp.cmpi .slt (bkt0 d) 0#32) (IntOp.addi (bkt0 d) 32#32) (bkt0 d)

theorem sixteen : Ideal.ofBits .f32 0x41800000#32 = ((16 : ℝ) : EReal) := by
  simp [Ideal.ofBits, Ideal.ieee]
  rw [← EReal.coe_mul]; norm_num

theorem log8 : Ideal.ofBits .f32 0x40051592#32 = ((8721810 / 4194304 : ℝ) : EReal) := by
  simp [Ideal.ofBits, Ideal.ieee]
  rw [← EReal.coe_mul]; norm_num

/-- The logarithmic part is at least fifteen and no overflow from distance 129 on. -/
theorem far_real (x : ℝ) (h : 129 ≤ x) (h' : x ≤ 2047) :
    15 ≤ Real.log (x / 16) / (8721810 / 4194304) * 16 ∧ Real.log (x / 16) / (8721810 / 4194304) * 16 ≤ 4000 := by
  have h8 : Real.log 8 ≤ Real.log (x / 16) := Real.log_le_log (by norm_num) (by linarith)
  have e8 : 2 ≤ Real.log 8 := by
    have a : Real.log ((21 / 20 : ℝ) ^ 42) ≤ Real.log 8 := Real.log_le_log (by norm_num) (by norm_num)
    have b := Real.one_sub_inv_le_log_of_pos (show (0 : ℝ) < 21 / 20 by norm_num)
    rw [Real.log_pow] at a
    norm_num at a b
    linarith
  have hu : Real.log (x / 16) ≤ x / 16 - 1 := Real.log_le_sub_one_of_pos (by linarith)
  constructor
  · rw [div_mul_eq_mul_div, le_div_iff₀ (by norm_num)]; nlinarith
  · rw [div_mul_eq_mul_div, div_le_iff₀ (by norm_num)]; nlinarith

theorem far_word (d : BitVec 32) (h : 129 ≤ d.toInt) (h' : d.toInt ≤ 2047) :
    IntOp.maxsi d 0#32 = d ∧ IntOp.maxsi d 1#32 = d ∧ IntOp.cmpi .slt d 16#32 = 0#1 := by
  have a : ∀ m : BitVec 32, m.toInt < 129 → m.slt d = true ∧ d.slt m = false := fun m hm => by
    simp only [BitVec.slt, decide_eq_true_eq, decide_eq_false_iff_not]; omega
  refine ⟨?_, ?_, ?_⟩
  · exact if_pos (a 0#32 (by decide)).1
  · exact if_pos (a 1#32 (by decide)).1
  · simp only [IntOp.cmpi, (a 16#32 (by decide)).2]; rfl

theorem bkt_far (d : BitVec 32) (h : 129 ≤ d.toInt) (h' : d.toInt ≤ 2047) : bkt d = 31#32 := by
  have key : bkt0 d = 31#32 := by
    obtain ⟨h0, h1, h2⟩ := far_word d h h'
    unfold bkt0
    rw [h0, h1, h2]
    show IntOp.minsi (IntOp.addi 16#32 (Ideal.fptosi 32 (Ideal.div (Ideal.log (Ideal.div ((d.toInt : ℝ) : EReal) (Ideal.ofBits .f32 0x41800000#32))) (Ideal.ofBits .f32 0x40051592#32) * Ideal.ofBits .f32 0x41800000#32))) 31#32 = 31#32
    have hx : (129 : ℝ) ≤ (d.toInt : ℝ) := by exact_mod_cast h
    have hx' : (d.toInt : ℝ) ≤ 2047 := by exact_mod_cast h'
    obtain ⟨f1, f2⟩ := far_real _ hx hx'
    generalize (d.toInt : ℝ) = x at *
    rw [sixteen, log8, Ideal.div_coe (y := 16) (by norm_num), ← EReal.coe_mul]
    have hl : Ideal.log ((x * (1 / 16) : ℝ) : EReal) = ((Real.log (x / 16) : ℝ) : EReal) := by
      rw [mul_one_div]
      exact if_neg (by linarith [div_pos (show (0:ℝ) < x by linarith) (show (0:ℝ) < 16 by norm_num)])
    rw [hl, Ideal.div_coe (by norm_num), ← EReal.coe_mul, ← EReal.coe_mul, mul_one_div]
    generalize Real.log (x / 16) / (8721810 / 4194304) * 16 = y at *
    have hf : ∃ z : ℤ, 15 ≤ z ∧ z ≤ 4000 ∧ Ideal.fptosi 32 ((y : ℝ) : EReal) = BitVec.ofInt 32 z := by
      refine ⟨⌊y⌋, Int.le_floor.mpr (by exact_mod_cast f1), ?_, ?_⟩
      · exact_mod_cast (Int.floor_le y).trans f2
      · have a : 15 ≤ ⌊y⌋ := Int.le_floor.mpr (by exact_mod_cast f1)
        have b : ⌊y⌋ ≤ 4000 := by exact_mod_cast (Int.floor_le y).trans f2
        rw [Ideal.fptosi, Ideal.toIntClamped_coe, if_pos (by linarith)]
        congr 1
        omega
    obtain ⟨z, z1, z2, hz⟩ := hf
    rw [hz]
    have ht : (16#32 + BitVec.ofInt 32 z).toInt = 16 + z := by
      rw [BitVec.toInt_add, BitVec.toInt_ofInt, show (16#32).toInt = 16 by decide, Int.bmod_eq_of_le (n := z) (by omega) (by omega), Int.bmod_eq_of_le (by omega) (by omega)]
    have hs : (16#32 + BitVec.ofInt 32 z).slt 31#32 = false := by
      simp only [BitVec.slt, ht, decide_eq_false_iff_not, show (31#32).toInt = 31 by decide]; omega
    show (if (16#32 + BitVec.ofInt 32 z).slt 31#32 then _ else _) = _
    rw [hs]; rfl
  unfold bkt
  rw [key]
  decide

/-- The table's row for a distance. -/
def row (d : BitVec 32) : Fin 32 := ⟨min (bkt d).toInt.toNat (32 - 1), by omega⟩

theorem row_far (d : BitVec 32) (h : 129 ≤ d.toInt) (h' : d.toInt ≤ 2047) : row d = 31 := by
  have e : ∀ x : BitVec 32, x = 31#32 → min x.toInt.toNat (32 - 1) = 31 := by rintro x rfl; decide
  exact Fin.ext (e _ (bkt_far d h h'))

/-! Rows taken from a table at an array of row numbers, each read signed and clamped into the table. -/

section Rows
variable {α : Type} {N C R S w : Nat}

theorem rows1_apply (g : GatherDims ⟨2, ![N, C]⟩ ⟨2, ![R, 1]⟩ ⟨2, ![R, C]⟩) (hg : ∃ wf, g = ⟨[1], [0], [], [], [0], 1, ![1, C], wf⟩) (hN : 0 < N)
    (x : (⟨2, ![N, C]⟩ : Shape).Idx → α) (idx : IVec ⟨2, ![R, 1]⟩ w) (t : Fin R) (h : Fin C) :
    Host.gather g x idx (ix2 t h) = x (ix2 ⟨min (idx (ix2 t 0)).toInt.toNat (N - 1), by omega⟩ h) := by
  obtain ⟨wf, rfl⟩ := hg
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    have hsi : ∀ q, GatherDims.siIdx (⟨[1], [0], [], [], [0], 1, ![1, C], wf⟩ : GatherDims ⟨2, ![N, C]⟩ ⟨2, ![R, 1]⟩ ⟨2, ![R, C]⟩) (ix2 t h) q = ix2 t 0 := fun q => by
      funext b; refine Fin.ext ?_
      match b with
      | ⟨0, _⟩ => rfl
      | ⟨1, _⟩ => exact Nat.lt_one_iff.mp (GatherDims.siIdx _ _ q ⟨1, _⟩).isLt
    rw [hsi]
    rfl
  · unfold GatherDims.start
    rw [dif_neg (show (1 : Fin 2) ∉ [0] by decide)]
    show 0 + 0 + _ = _
    unfold GatherDims.offCoord
    rw [dif_pos ((GatherDims.mem_sKept _ _).mpr ⟨show (1 : Fin 2) ∉ [0] by decide, List.not_mem_nil⟩)]
    show 0 + 0 + h.val = h.val
    omega

theorem rows2_apply (g : GatherDims ⟨2, ![N, C]⟩ ⟨3, ![R, S, 1]⟩ ⟨3, ![R, S, C]⟩) (hg : ∃ wf, g = ⟨[2], [0], [], [], [0], 2, ![1, C], wf⟩) (hN : 0 < N)
    (x : (⟨2, ![N, C]⟩ : Shape).Idx → α) (idx : IVec ⟨3, ![R, S, 1]⟩ w) (t : Fin R) (u : Fin S) (h : Fin C) :
    Host.gather g x idx (ix3 t u h) = x (ix2 ⟨min (idx (ix3 t u 0)).toInt.toNat (N - 1), by omega⟩ h) := by
  obtain ⟨wf, rfl⟩ := hg
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    have hsi : ∀ q, GatherDims.siIdx (⟨[2], [0], [], [], [0], 2, ![1, C], wf⟩ : GatherDims ⟨2, ![N, C]⟩ ⟨3, ![R, S, 1]⟩ ⟨3, ![R, S, C]⟩) (ix3 t u h) q = ix3 t u 0 := fun q => by
      funext b; refine Fin.ext ?_
      match b with
      | ⟨0, _⟩ => rfl
      | ⟨1, _⟩ => rfl
      | ⟨2, _⟩ => exact Nat.lt_one_iff.mp (GatherDims.siIdx _ _ q ⟨2, _⟩).isLt
    rw [hsi]
    rfl
  · unfold GatherDims.start
    rw [dif_neg (show (1 : Fin 2) ∉ [0] by decide)]
    show 0 + 0 + _ = _
    unfold GatherDims.offCoord
    rw [dif_pos ((GatherDims.mem_sKept _ _).mpr ⟨show (1 : Fin 2) ∉ [0] by decide, List.not_mem_nil⟩)]
    show 0 + 0 + h.val = h.val
    omega

end Rows

end Cert.Attn

end

end
-- ==== Proof.KernelIdealHost.lean ====
module

public import proofs.«01_k».proof.Proof.KernelIdealRow
public import proofs.«01_k».proof.Proof.Bucket
public import Idealize.ShloMosaic.Lib.Claim
public import Idealize.ShloMosaic.Lib.StableHlo.RunRead
public import proofs.«01_k».proof.Proof.Gen.KernelIdeal.Frame

@[expose] public section

set_option maxRecDepth 16384

/-! The arrays the host hands to the launch, read at an index: the bias tiles are the table's row at the bucket of the
distance, above the diagonal −∞. -/

noncomputable section

namespace Cert.KernelIdeal.Host

open Cert.KernelIdeal Cert.KernelIdeal.Gen Cert.KernelIdeal.Run
open Idealize.ShloMosaic Idealize.ShloMosaic.TcCoe

variable (m : (ℓ : Loc nD τ sig) → Buf (Elt Ideal) ℓ) (c : Dev nD)

/-- The distances −127 … 127. -/
def near : IVec S255 32 := addi (broadcastInDim S255 ![] bcast_S_S255 (constantI S_ 32 4294967169#32)) (iotaInDim S255 32 0)

/-- The distances 1 … 255. -/
def next : IVec S255 32 := addi near (broadcastInDim S255 ![] bcast_S_S255 (constantI S_ 32 128#32))

/-- The buckets of the distances. -/
def bkts (D : IVec S255 32) : IVec S255 32 := fun y => Cert.Attn.bkt (D y)

/-- The table's rows at the buckets of the distances, a column for each head. -/
def taken (X : FVec Ideal S32x12 .f32) (D : IVec S255 32) : FVec Ideal S12x255 .f32 :=
  transpose S12x255 [1, 0] (Host.gather gather_S32x12_S255x1_S255x12_1_0_n_n_0_1_112 X (broadcastInDim S255x1 ![0] bcast_S255_S255x1_0 (bkts D))) transposes_S255x12_S12x255_1_0

/-- −∞ at the negative distances. -/
def masked (G : FVec Ideal S12x255 .f32) : FVec Ideal S12x255 .f32 :=
  select (broadcastInDim S12x255 ![0, 1] bcast_S1x255_S12x255_0_1 (broadcastInDim S1x255 ![1] bcast_S255_S1x255_1 (cmpi .sge near (broadcastInDim S255 ![] bcast_S_S255 (constantI S_ 32 0#32)))))
    G (broadcastInDim S12x255 ![] bcast_S_S12x255 (constant (F := Ideal) S_ .f32 0xFF800000#32))

/-- A row of 255 values laid out as a 128 × 128 tile constant along its diagonals. -/
def hank (G : FVec Ideal S12x255 .f32) : FVec Ideal S12x128x128 .f32 :=
  Host.reverse [1] (extractStridedSlice S12x128x128 ![0, 0, 0] (shapeCast S12x128x256 (extractStridedSlice S12x32768 ![0, 0]
    (shapeCast S12x32895 (broadcastInDim S1x12x129x255 ![0, 1, 2, 3] bcast_S1x12x1x255_S1x12x129x255_0_1_2_3 (shapeCast S1x12x1x255 (Host.reverse [1] G) shapeCasts_S12x255_S1x12x1x255))
      shapeCasts_S1x12x129x255_S12x32895) slices_S12x32895_S12x32768_0_0) shapeCasts_S12x32768_S12x128x256) slices_S12x128x256_S12x128x128_0_0_0)

theorem concat4 (a b d e a' b' d' e' : FVec Ideal S1x128 .f32) (ha : a = a') (hb : b = b') (hd : d = d') (he : e = e') :
    concatenate S4x128 0 [⟨S1x128, a⟩, ⟨S1x128, b⟩, ⟨S1x128, d⟩, ⟨S1x128, e⟩] concatenates_S1x128_S1x128_S1x128_S1x128_S4x128_d0
      = concatenate S4x128 0 [⟨S1x128, a'⟩, ⟨S1x128, b'⟩, ⟨S1x128, d'⟩, ⟨S1x128, e'⟩] concatenates_S1x128_S1x128_S1x128_S1x128_S4x128_d0 := by
  subst ha hb hd he; rfl

/-- The keys as the launch reads them, from any keys. -/
def keysOf (X : FVec Ideal S4x2048x12x2x128 .f32) : FVec Ideal S4x12x2048x256 .bf16 :=
  truncf .bf16 (transpose S4x12x2048x256 [0, 2, 1, 3] (shapeCast S4x2048x12x256 X shapeCasts_S4x2048x12x2x128_S4x2048x12x256) transposes_S4x2048x12x256_S4x12x2048x256_0_2_1_3) bitsLt_bf16_f32

/-- The rows at the bucket of distance 129. -/
def farRow (X : FVec Ideal S32x12 .f32) (f : Fin 2 → ℤ) : FVec Ideal S12x1x128 .f32 :=
  broadcastInDim S12x1x128 ![0, 1, 2] bcast_S12x1x1_S12x1x128_0_1_2 (broadcastInDim S12x1x1 ![0] bcast_S12_S12x1x1_0
    (shapeCast S12 (Host.dynamicSlice S1x12 X f sliceFits_S32x12_S1x12) shapeCasts_S1x12_S12))

theorem farRow_congr (X : FVec Ideal S32x12 .f32) (f g : Fin 2 → ℤ) (h0 : f 0 = g 0) (h1 : f 1 = g 1) : farRow X f = farRow X g := by
  have h : f = g := by
    funext k
    match k with
    | ⟨0, _⟩ => exact h0
    | ⟨1, _⟩ => exact h1
  rw [h]

set_option maxHeartbeats 4000000 in
theorem v51_eq : V m c main_v51 = hank (masked (taken (m (c.tc.loc main_arg3)) near)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 4000000 in
theorem v89_eq : V m c main_v89 = hank (taken (m (c.tc.loc main_arg3)) next) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 1000000 in
theorem v111_eq : V m c main_v111 = farRow (m (c.tc.loc main_arg3)) ![(Cert.Attn.bkt 129#32).toInt, 0] := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp [StableHlo.unaryIndexed_result_read, StableHlo.indexContents_cons, StableHlo.indexContents_empty]
  refine (farRow_congr (m (c.tc.loc main_arg3)) _ _ ?_ ?_)
  · rfl
  · rfl

set_option maxHeartbeats 4000000 in
theorem v4_eq : V m c main_v4 = concatenate S4x128 0 [⟨S1x128, broadcastInDim S1x128 ![1] bcast_S128_S1x128_1 (m (c.tc.loc main_arg4) : FVec Ideal S128 .f32)⟩,
    ⟨S1x128, broadcastInDim S1x128 ![1] bcast_S128_S1x128_1 (m (c.tc.loc main_arg5) : FVec Ideal S128 .f32)⟩, ⟨S1x128, broadcastInDim S1x128 ![1] bcast_S128_S1x128_1 (m (c.tc.loc main_arg6) : FVec Ideal S128 .f32)⟩,
    ⟨S1x128, broadcastInDim S1x128 ![1] bcast_S128_S1x128_1 (m (c.tc.loc main_arg7) : FVec Ideal S128 .f32)⟩] concatenates_S1x128_S1x128_S1x128_S1x128_S4x128_d0 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  refine concat4 _ _ _ _ _ _ _ _ ?_ ?_ ?_ ?_
  · show StableHlo.upto _ _ _ (Proc.tc.devRef main_v0) = _
    after_reads_simp
  · show StableHlo.upto _ _ _ (Proc.tc.devRef main_v1) = _
    after_reads_simp
  · show StableHlo.upto _ _ _ (Proc.tc.devRef main_v2) = _
    after_reads_simp
  · show StableHlo.upto _ _ _ (Proc.tc.devRef main_v3) = _
    after_reads_simp

set_option maxHeartbeats 4000000 in
theorem v112_eq : V m c main_v112 = shapeCast S1x256 (m (c.tc.loc main_arg8) : FVec Ideal S256 .f32) shapeCasts_S256_S1x256 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

set_option maxHeartbeats 4000000 in
theorem v7_eq : V m c main_v7 = keysOf (m (c.tc.loc main_arg1)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  exact (rfl : _ = keysOf (m (c.tc.loc main_arg1)))

set_option maxHeartbeats 4000000 in
theorem v8_eq : V m c main_v8 = transpose S4x12x2048x256 [0, 2, 1, 3] (m (c.tc.loc main_arg2) : FVec Ideal S4x2048x12x256 .f32) transposes_S4x2048x12x256_S4x12x2048x256_0_2_1_3 := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

end Cert.KernelIdeal.Host
end
end
-- ==== Proof.KernelIdealTile.lean ====
module

public import proofs.«01_k».proof.Proof.KernelIdealHost

@[expose] public section

/-! The launch's arrays at an index. -/

set_option maxRecDepth 16384

noncomputable section

namespace Cert.KernelIdeal.Host

open Cert.KernelIdeal Cert.KernelIdeal.Gen Cert.KernelIdeal.Run
open Idealize.ShloMosaic Idealize.ShloMosaic.TcCoe

theorem hank_at (G : FVec Ideal S12x255 .f32) (h : Fin 12) (a b : Fin 128) :
    hank G (ix3 h a b) = G (ix2 h ⟨127 + a.val - b.val, by omega⟩) := by
  unfold hank
  pointwise
  refine (show _ = G (ix2 h (Fin.rev ⟨((Fin.rev a).val * 256 + b.val) % 255, Nat.mod_lt _ (by decide)⟩)) from rfl).trans ?_
  congr 2
  refine Fin.ext ?_
  simp only [Fin.val_rev]
  omega

theorem col_at (B : IVec S255 32) (f : Fin 255) : broadcastInDim S255x1 ![0] bcast_S255_S255x1_0 B (ix2 f 0) = B (ix1 f) := by pointwise

theorem rows_at (X : FVec Ideal S32x12 .f32) (B : IVec S255 32) (h : Fin 12) (f : Fin 255) :
    transpose S12x255 [1, 0] (Host.gather gather_S32x12_S255x1_S255x12_1_0_n_n_0_1_112 X (broadcastInDim S255x1 ![0] bcast_S255_S255x1_0 B)) transposes_S255x12_S12x255_1_0 (ix2 h f)
      = X (ix2 ⟨min (B (ix1 f)).toInt.toNat (32 - 1), by omega⟩ h) := by
  pointwise
  rw [Cert.Attn.rows1_apply gather_S32x12_S255x1_S255x12_1_0_n_n_0_1_112 ⟨_, rfl⟩ (by decide)]
  exact congrArg (fun z : BitVec 32 => X (ix2 ⟨min z.toInt.toNat (32 - 1), by omega⟩ h)) (col_at B f)

theorem taken_at (X : FVec Ideal S32x12 .f32) (D : IVec S255 32) (h : Fin 12) (f : Fin 255) :
    taken X D (ix2 h f) = X (ix2 (Cert.Attn.row (D (ix1 f))) h) :=
  rows_at X (bkts D) h f

theorem near_at (f : Fin 255) : near (ix1 f) = BitVec.ofInt 32 ((f.val : ℤ) - 127) := by
  unfold near
  pointwise
  revert f
  decide +kernel

theorem next_at (f : Fin 255) : next (ix1 f) = BitVec.ofInt 32 ((f.val : ℤ) + 1) := by
  unfold next
  pointwise
  rw [near_at]
  revert f
  decide +kernel

theorem masked_at (G : FVec Ideal S12x255 .f32) (h : Fin 12) (f : Fin 255) :
    masked G (ix2 h f) = if 127 ≤ f.val then G (ix2 h f) else (⊥ : EReal) := by
  have e : ∀ f : Fin 255, IntOp.cmpi .sge (BitVec.ofInt 32 ((f.val : ℤ) - 127)) 0#32 = if 127 ≤ f.val then 1#1 else 0#1 := by decide +kernel
  unfold masked
  pointwise
  rw [near_at, e]
  split
  · rfl
  · show Ideal.ofBits FTy.f32 4286578688#32 = ⊥
    simp [Ideal.ofBits, Ideal.ieee]

theorem far_at (X : FVec Ideal S32x12 .f32) (h : Fin 12) (l : Fin 128) :
    farRow X ![(Cert.Attn.bkt 129#32).toInt, 0] (ix3 h 0 l) = X (ix2 31 h) := by
  unfold farRow
  rw [Cert.Attn.bkt_far 129#32 (by decide) (by decide)]
  pointwise
  congr 2
  refine Fin.ext ?_
  show Host.clampedStart S32x12 S1x12 _ ![(31#32).toInt, 0] 1 + h.val = h.val
  rw [show Host.clampedStart S32x12 S1x12 _ ![(31#32).toInt, 0] 1 = 0 from rfl]
  omega

theorem keysOf_at (X : FVec Ideal S4x2048x12x2x128 .f32) (b : Fin 4) (h : Fin 12) (k : Fin 2048) (g : Fin 2) (d : Fin 128) (e : Fin 256) (he : e.val = 128 * g.val + d.val) :
    keysOf X (ix4 b h k e) = X (ix5 b k h g d) := by
  unfold keysOf
  pointwise
  congr 2
  · exact Fin.ext (show e.val / 128 = g.val by omega)
  · exact Fin.ext (show e.val % 128 = d.val by omega)

variable (m : (ℓ : Loc nD τ sig) → Buf (Elt Ideal) ℓ) (c : Dev nD)

/-- The bias table of device `c`. -/
abbrev tbl : FVec Ideal S32x12 .f32 := m (c.tc.loc main_arg3)

theorem bd_at (h : Fin 12) (a b : Fin 128) : V m c main_v51 (ix3 h a b)
    = if b.val ≤ a.val then tbl m c (ix2 (Cert.Attn.row (BitVec.ofInt 32 ((a.val : ℤ) - b.val))) h) else (⊥ : EReal) := by
  rw [v51_eq, hank_at, masked_at, taken_at, near_at]
  have e : (127 ≤ 127 + a.val - b.val) = (b.val ≤ a.val) := by apply propext; omega
  simp only [e]
  split
  · congr 4; show ((127 + a.val - b.val : ℕ) : ℤ) - 127 = a.val - b.val; omega
  · rfl

theorem be_at (h : Fin 12) (a b : Fin 128) : V m c main_v89 (ix3 h a b)
    = tbl m c (ix2 (Cert.Attn.row (BitVec.ofInt 32 (128 + (a.val : ℤ) - b.val))) h) := by
  rw [v89_eq, hank_at, taken_at, next_at]
  congr 4; show ((127 + a.val - b.val : ℕ) : ℤ) + 1 = 128 + a.val - b.val; omega

theorem bfar_at (h : Fin 12) (l : Fin 128) : V m c main_v111 (ix3 h 0 l) = tbl m c (ix2 31 h) := by
  rw [v111_eq, far_at]

theorem k_at (b : Fin 4) (h : Fin 12) (k : Fin 2048) (g : Fin 2) (d : Fin 128) (e : Fin 256) (he : e.val = 128 * g.val + d.val) :
    V m c main_v7 (ix4 b h k e) = (m (c.tc.loc main_arg1) : FVec Ideal S4x2048x12x2x128 .f32) (ix5 b k h g d) := by
  rw [v7_eq, keysOf_at _ _ _ _ _ _ _ he]

theorem v_at (b : Fin 4) (h : Fin 12) (k : Fin 2048) (e : Fin 256) :
    V m c main_v8 (ix4 b h k e) = (m (c.tc.loc main_arg2) : FVec Ideal S4x2048x12x256 .f32) (ix4 b k h e) := by
  rw [v8_eq]
  pointwise

theorem g_at (e : Fin 256) : V m c main_v112 (ix2 0 e) = (m (c.tc.loc main_arg8) : FVec Ideal S256 .f32) (ix1 e) := by
  rw [v112_eq]
  pointwise

theorem lam_at (k : Fin 128) : V m c main_v4 (ix2 0 k) = (m (c.tc.loc main_arg4) : FVec Ideal S128 .f32) (ix1 k)
    ∧ V m c main_v4 (ix2 1 k) = (m (c.tc.loc main_arg5) : FVec Ideal S128 .f32) (ix1 k)
    ∧ V m c main_v4 (ix2 2 k) = (m (c.tc.loc main_arg6) : FVec Ideal S128 .f32) (ix1 k)
    ∧ V m c main_v4 (ix2 3 k) = (m (c.tc.loc main_arg7) : FVec Ideal S128 .f32) (ix1 k) := by
  rw [v4_eq]
  refine ⟨?_, ?_, ?_, ?_⟩ <;> pointwise

end Cert.KernelIdeal.Host
end
end
-- ==== Proof.KernelIdealBlocks.lean ====
module

public import proofs.«01_k».proof.Proof.KernelIdealTile
public import proofs.«01_k».proof.Proof.KernelIdealFrame

@[expose] public section

/-! The blocks of the launch's windows at an index. -/

set_option maxRecDepth 16384

noncomputable section

namespace Cert.KernelIdeal.Host

open Cert.KernelIdeal Cert.KernelIdeal.Gen Cert.KernelIdeal.Run
open Idealize.ShloMosaic Idealize.ShloMosaic.TcCoe

variable (m : (ℓ : Loc nD τ sig) → Buf (Elt Ideal) ℓ) (c : Dev nD)

/-- The array's row, batch and head of a grid point. -/
def bOf (t : Fin cfg0.N) : Fin 4 := ⟨t.val / 48, by have h : t.val < 192 := t.isLt; omega⟩
def hOf (t : Fin cfg0.N) : Fin 12 := ⟨t.val / 4 % 12, by omega⟩
def qOf (t : Fin cfg0.N) (r : Fin 512) : Fin 2048 := ⟨512 * (t.val % 4) + r.val, by omega⟩

theorem idx0 : ∀ t : Fin cfg0.N, win0_0.index t = ![t.val / 48, t.val % 4, t.val / 4 % 12] := by decide +kernel
theorem idx1 : ∀ t : Fin cfg0.N, win0_1.index t = ![t.val / 48, t.val % 4, 12 + t.val / 4 % 12] := by decide +kernel
theorem idx2 : ∀ t : Fin cfg0.N, win0_2.index t = ![t.val / 48, t.val / 4 % 12, 0, 0] := by decide +kernel
theorem idx3 : ∀ t : Fin cfg0.N, win0_3.index t = ![t.val / 48, t.val / 4 % 12, 0, 0] := by decide +kernel
theorem idx4 : ∀ t : Fin cfg0.N, win0_4.index t = ![t.val / 4 % 12, 0, 0] := by decide +kernel
theorem idx5 : ∀ t : Fin cfg0.N, win0_5.index t = ![t.val / 4 % 12, 0, 0] := by decide +kernel
theorem idx6 : ∀ t : Fin cfg0.N, win0_6.index t = ![t.val / 4 % 12, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val / 48, t.val % 4, t.val / 4 % 12] := by decide +kernel

theorem v_arg0 : V m c main_arg0 = m (c.tc.loc main_arg0) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp

theorem blk0 (t : Fin cfg0.N) (r : Fin 512) (e : Fin 256) :
    iblk m c 0 t (ix3 0 r e) = (m (c.tc.loc main_arg0) : FVec Ideal S4x2048x8192 .f32) (ix3 (bOf t) (qOf t r) ⟨256 * (hOf t).val + e.val, by omega⟩) := by
  unfold iblk
  have hV : V m c (Pipeline.arrRef spec0 0) = m (c.tc.loc main_arg0) := v_arg0 m c
  generalize V m c (Pipeline.arrRef spec0 0) = X at hV ⊢
  subst hV
  blk_ext [idx0 t, bOf, qOf, hOf]

theorem blk1 (t : Fin cfg0.N) (r : Fin 512) (e : Fin 256) :
    iblk m c 1 t (ix3 0 r e) = (m (c.tc.loc main_arg0) : FVec Ideal S4x2048x8192 .f32) (ix3 (bOf t) (qOf t r) ⟨3072 + 256 * (hOf t).val + e.val, by omega⟩) := by
  unfold iblk
  have hV : V m c (Pipeline.arrRef spec0 1) = m (c.tc.loc main_arg0) := v_arg0 m c
  generalize V m c (Pipeline.arrRef spec0 1) = X at hV ⊢
  subst hV
  blk_ext [idx1 t, bOf, qOf, hOf]

theorem blk2 (t : Fin cfg0.N) (k : Fin 2048) (e : Fin 256) : iblk m c 2 t (ix4 0 0 k e) = V m c main_v7 (ix4 (bOf t) (hOf t) k e) := by
  obtain ⟨Y, hY⟩ : ∃ Y, V m c main_v7 = Y := ⟨_, rfl⟩
  rw [hY]
  unfold iblk
  have hV : V m c (Pipeline.arrRef spec0 2) = Y := hY
  generalize V m c (Pipeline.arrRef spec0 2) = X at hV ⊢
  subst hV
  blk_ext [idx2 t, bOf, qOf, hOf]

theorem blk3 (t : Fin cfg0.N) (k : Fin 2048) (e : Fin 256) : iblk m c 3 t (ix4 0 0 k e) = V m c main_v8 (ix4 (bOf t) (hOf t) k e) := by
  obtain ⟨Y, hY⟩ : ∃ Y, V m c main_v8 = Y := ⟨_, rfl⟩
  rw [hY]
  unfold iblk
  have hV : V m c (Pipeline.arrRef spec0 3) = Y := hY
  generalize V m c (Pipeline.arrRef spec0 3) = X at hV ⊢
  subst hV
  blk_ext [idx3 t, bOf, qOf, hOf]

theorem blk4 (t : Fin cfg0.N) (k e : Fin 128) : iblk m c 4 t (ix3 0 k e) = V m c main_v51 (ix3 (hOf t) k e) := by
  obtain ⟨Y, hY⟩ : ∃ Y, V m c main_v51 = Y := ⟨_, rfl⟩
  rw [hY]
  unfold iblk
  have hV : V m c (Pipeline.arrRef spec0 4) = Y := hY
  generalize V m c (Pipeline.arrRef spec0 4) = X at hV ⊢
  subst hV
  blk_ext [idx4 t, bOf, qOf, hOf]

theorem blk5 (t : Fin cfg0.N) (k e : Fin 128) : iblk m c 5 t (ix3 0 k e) = V m c main_v89 (ix3 (hOf t) k e) := by
  obtain ⟨Y, hY⟩ : ∃ Y, V m c main_v89 = Y := ⟨_, rfl⟩
  rw [hY]
  unfold iblk
  have hV : V m c (Pipeline.arrRef spec0 5) = Y := hY
  generalize V m c (Pipeline.arrRef spec0 5) = X at hV ⊢
  subst hV
  blk_ext [idx5 t, bOf, qOf, hOf]

theorem blk6 (t : Fin cfg0.N) (e : Fin 128) : iblk m c 6 t (ix3 0 0 e) = V m c main_v111 (ix3 (hOf t) 0 e) := by
  obtain ⟨Y, hY⟩ : ∃ Y, V m c main_v111 = Y := ⟨_, rfl⟩
  rw [hY]
  unfold iblk
  have hV : V m c (Pipeline.arrRef spec0 6) = Y := hY
  generalize V m c (Pipeline.arrRef spec0 6) = X at hV ⊢
  subst hV
  blk_ext [idx6 t, bOf, qOf, hOf]

theorem blk7 (t : Fin cfg0.N) (k : Fin 4) (e : Fin 128) : iblk m c 7 t (ix2 k e) = V m c main_v4 (ix2 k e) := by
  obtain ⟨Y, hY⟩ : ∃ Y, V m c main_v4 = Y := ⟨_, rfl⟩
  rw [hY]
  unfold iblk
  have hV : V m c (Pipeline.arrRef spec0 7) = Y := hY
  generalize V m c (Pipeline.arrRef spec0 7) = X at hV ⊢
  subst hV
  blk_ext [idx7 t, bOf, qOf, hOf]

theorem blk8 (t : Fin cfg0.N) (e : Fin 256) : iblk m c 8 t (ix2 0 e) = V m c main_v112 (ix2 0 e) := by
  obtain ⟨Y, hY⟩ : ∃ Y, V m c main_v112 = Y := ⟨_, rfl⟩
  rw [hY]
  unfold iblk
  have hV : V m c (Pipeline.arrRef spec0 8) = Y := hY
  generalize V m c (Pipeline.arrRef spec0 8) = X at hV ⊢
  subst hV
  blk_ext [idx8 t, bOf, qOf, hOf]
end Cert.KernelIdeal.Host
end
end
-- ==== Proof.Spec.lean ====
module

public import proofs.«01_k».proof.Proof.Bucket
public import proofs.«01_k».proof.Proof.Softmax

@[expose] public section

/-! The scores of the layer, from its arrays: a query half against a key half, scaled, plus the table's entry at the bucket
of the distance; −∞ at a later key. -/

noncomputable section

namespace Cert.Attn

open Idealize.ShloMosaic

/-- The bias of key `k` for query `Q`. -/
def bias (T : FVec Ideal ⟨2, ![32, 12]⟩ .f32) (h : Fin 12) (Q k : ℕ) : EReal :=
  if k ≤ Q then T (ix2 (row (BitVec.ofInt 32 ((Q : ℤ) - k))) h) else ⊥

/-- The score of key `k` for query `Q` in half `g` of head `h`. -/
def score (P : FVec Ideal ⟨3, ![4, 2048, 8192]⟩ .f32) (K : FVec Ideal ⟨5, ![4, 2048, 12, 2, 128]⟩ .f32) (T : FVec Ideal ⟨2, ![32, 12]⟩ .f32)
    (b : Fin 4) (h : Fin 12) (g : Fin 2) (Q k : Fin 2048) : EReal :=
  (∑ d : Fin 128, P (ix3 b Q ⟨256 * h.val + (128 * g.val + d.val), by omega⟩) * K (ix5 b k h g d)) * Ideal.ofBits .f32 0x3DB504F3#32 + bias T h Q.val k.val

/-- A family over the keys, as one over the naturals. -/
def ext (z : EReal) (S : Fin 2048 → EReal) (k : ℕ) : EReal := if hk : k < 2048 then S ⟨k, hk⟩ else z

theorem ext_at (z : EReal) (S : Fin 2048 → EReal) (k : Fin 2048) : ext z S k.val = S k := dif_pos k.isLt

theorem bias_far (T : FVec Ideal ⟨2, ![32, 12]⟩ .f32) (h : Fin 12) (Q k : ℕ) (hk : k + 129 ≤ Q) (hQ : Q < 2048) : bias T h Q k = T (ix2 31 h) := by
  unfold bias
  rw [if_pos (by omega), row_far]
  all_goals
    rw [BitVec.toInt_ofInt, Int.bmod_eq_of_le (by omega) (by omega)]
    omega

end Cert.Attn

end

end
-- ==== Proof.KernelIdealScore.lean ====
module

public import proofs.«01_k».proof.Proof.KernelIdealBlocks
public import proofs.«01_k».proof.Proof.Spec

@[expose] public section

/-! What the launch computes at a point of its grid, over the layer's arrays. -/

set_option maxRecDepth 16384

noncomputable section

namespace Cert.KernelIdeal.Host

open Cert.KernelIdeal Cert.KernelIdeal.Gen Cert.KernelIdeal.Run Cert.KernelIdeal.Row
open Idealize.ShloMosaic Idealize.ShloMosaic.TcCoe

theorem diag_at (x : FVec Ideal S1x128x128 .f32) (a b : Fin 128) : diagTile (F := Ideal) x (ix2 a b) = x (ix3 0 a b) := by
  pointwise [diagTile, k0_pay17, k0_pay5]

theorem edge_at (x : FVec Ideal S1x128x128 .f32) (a b : Fin 128) : edgeTile (F := Ideal) x (ix2 a b) = x (ix3 0 a b) := by
  pointwise [edgeTile, k0_pay15, k0_pay6]

theorem corner (x : FVec Ideal S1x1x128 .f32) (y : S1x1x1.Idx) : VecWindow.window (s := S1x1x128) x ![0, 0, 0] S1x1x1.size inb_S1x1x128_S1x1x1_0_0_0 y = x (ix3 0 0 0) := by
  refine congrArg x (funext fun a => Fin.ext ?_)
  have h : (y a).val = 0 := by
    have := (y a).isLt
    fin_cases a <;> exact Nat.lt_one_iff.mp this
  show (![0, 0, 0] : Fin 3 → ℕ) a + 1 * (y a).val = _
  rw [h]
  fin_cases a <;> rfl

theorem farTile_at (x : FVec Ideal S1x1x128 .f32) (a b : Fin 128) : farTile (F := Ideal) x (ix2 a b) = x (ix3 0 0 0) := by
  unfold farTile
  generalize hW : VecWindow.window (s := S1x1x128) x ![0, 0, 0] S1x1x1.size inb_S1x1x128_S1x1x1_0_0_0 = W
  have h : ∀ y, W y = x (ix3 0 0 0) := fun y => by rw [← hW]; exact corner x y
  pointwise [k0_pay62, k0_pay3]
  exact h _

theorem farOf_at (x : FVec Ideal S1x1x128 .f32) (r c : Fin 512) : broadcastTo S512x512 (farOf (F := Ideal) x) broadcasts_S1x1_S512x512 (ix2 r c) = x (ix3 0 0 0) := by
  unfold farOf
  generalize hW : VecWindow.window (s := S1x1x128) x ![0, 0, 0] S1x1x1.size inb_S1x1x128_S1x1x1_0_0_0 = W
  have h : ∀ y, W y = x (ix3 0 0 0) := fun y => by rw [← hW]; exact corner x y
  pointwise [k0_pay76]
  exact h _

theorem maskTile_at (a b : Fin 128) : maskTile (F := Ideal) (ix2 a b) = (⊥ : EReal) := by
  pointwise [maskTile, k0_pay11, k0_pay4]
  exact named_mask

theorem inTile_at (r c : Fin 512) : inTile (ix2 r c) = ix2 ⟨r.val % 128, by omega⟩ ⟨c.val % 128, by omega⟩ := by
  funext a
  fin_cases a <;> rfl

theorem q0_at (x : FVec Ideal S1x512x256 .f32) (r : Fin 512) (d : Fin 128) : k0_pay71 (F := Ideal) x (ix2 r d) = x (ix3 0 r ⟨d.val, by omega⟩) := by
  pointwise [k0_pay71, k0_pay70]

theorem q1_at (x : FVec Ideal S1x512x256 .f32) (r : Fin 512) (d : Fin 128) : k0_pay72 (F := Ideal) x (ix2 r d) = x (ix3 0 r ⟨128 + d.val, by omega⟩) := by
  pointwise [k0_pay72, k0_pay70]

theorem kblk_at (x : FVec Ideal S1x1x2048x256 .bf16) (j : ℕ) (hj : j < 4) (c : Fin 512) (e : Fin 256) :
    kblk (F := Ideal) x j (ix4 0 0 c e) = x (ix4 0 0 ⟨512 * j + c.val, by omega⟩ e) := by
  refine congrArg x (funext fun a => Fin.ext ?_)
  fin_cases a
  · rfl
  · rfl
  · show 512 * (j % 4) + 1 * c.val = 512 * j + c.val
    omega
  · show 0 + 1 * e.val = e.val
    omega

theorem k0_at (x : FVec Ideal S1x1x512x256 .bf16) (c : Fin 512) (d : Fin 128) : half0 (F := Ideal) x (ix2 c d) = x (ix4 0 0 c ⟨d.val, by omega⟩) := by
  pointwise [half0, k0_pay81]

theorem k1_at (x : FVec Ideal S1x1x512x256 .bf16) (c : Fin 512) (d : Fin 128) : k0_pay85 (F := Ideal) x (ix2 c d) = x (ix4 0 0 c ⟨128 + d.val, by omega⟩) := by
  pointwise [k0_pay85, k0_pay81]

theorem vblk_at (x : FVec Ideal S1x1x2048x256 .f32) (j : ℕ) (hj : j < 4) (c : Fin 512) (e : Fin 256) :
    vblk (F := Ideal) (k0_pay2 (F := Ideal) x) j (ix2 c e) = x (ix4 0 0 ⟨512 * j + c.val, by omega⟩ e) := by
  have h : ∀ k : Fin 2048, k0_pay2 (F := Ideal) x (ix2 k e) = x (ix4 0 0 k e) := fun k => by pointwise [k0_pay2]
  rw [← h]
  refine congrArg (k0_pay2 (F := Ideal) x) (funext fun a => Fin.ext ?_)
  fin_cases a
  · show 512 * (j % 4) + 1 * c.val = 512 * j + c.val
    omega
  · show 0 + 1 * e.val = e.val
    omega

variable (m : (ℓ : Loc nD τ sig) → Buf (Elt Ideal) ℓ) (c : Dev nD)

theorem x6_at (t : Fin cfg0.N) : iblk m c 6 t (ix3 0 0 0) = tbl m c (ix2 31 (hOf t)) := by
  rw [blk6, bfar_at]

theorem tab0_at (t : Fin cfg0.N) (r k : Fin 512) : kept1 m c t (ix2 r k) = Cert.Attn.bias (tbl m c) (hOf t) (qOf t r).val (512 * (t.val % 4) + k.val) := by
  have hq : (qOf t r).val = 512 * (t.val % 4) + r.val := rfl
  show (if r.val / 128 < k.val / 128 then maskTile (F := Ideal) else if r.val / 128 = k.val / 128 then diagTile (F := Ideal) (iblk m c 4 t) else if r.val / 128 = k.val / 128 + 1 then edgeTile (F := Ideal) (iblk m c 5 t) else farTile (F := Ideal) (iblk m c 6 t)) (inTile (ix2 r k)) = _
  rw [inTile_at, hq]
  by_cases h1 : r.val / 128 < k.val / 128
  · rw [if_pos h1, maskTile_at]
    exact (if_neg (by omega)).symm
  rw [if_neg h1]
  by_cases h2 : r.val / 128 = k.val / 128
  · rw [if_pos h2]
    refine (diag_at _ _ _).trans ((blk4 m c t _ _).trans ((bd_at m c _ _ _).trans ?_))
    unfold Cert.Attn.bias
    have e : (k.val % 128 ≤ r.val % 128) = (512 * (t.val % 4) + k.val ≤ 512 * (t.val % 4) + r.val) := by apply propext; omega
    have e' : ((r.val % 128 : ℕ) : ℤ) - ((k.val % 128 : ℕ) : ℤ) = ((512 * (t.val % 4) + r.val : ℕ) : ℤ) - ((512 * (t.val % 4) + k.val : ℕ) : ℤ) := by omega
    simp only [e, e']
  rw [if_neg h2]
  by_cases h3 : r.val / 128 = k.val / 128 + 1
  · rw [if_pos h3]
    refine (edge_at _ _ _).trans ((blk5 m c t _ _).trans ((be_at m c _ _ _).trans ?_))
    unfold Cert.Attn.bias
    rw [if_pos (by omega)]
    have e' : 128 + ((r.val % 128 : ℕ) : ℤ) - ((k.val % 128 : ℕ) : ℤ) = ((512 * (t.val % 4) + r.val : ℕ) : ℤ) - ((512 * (t.val % 4) + k.val : ℕ) : ℤ) := by omega
    simp only [e']
  · rw [if_neg h3]
    refine (farTile_at _ _ _).trans ((x6_at m c t).trans ?_)
    exact (Cert.Attn.bias_far _ _ _ _ (by omega) (by omega)).symm

theorem tab1_at (t : Fin cfg0.N) (r k : Fin 512) (j : ℕ) (hj : j + 1 = t.val % 4) : kept2 m c t (ix2 r k) = Cert.Attn.bias (tbl m c) (hOf t) (qOf t r).val (512 * j + k.val) := by
  have hq : (qOf t r).val = 512 * (t.val % 4) + r.val := rfl
  show (if r.val / 128 = 0 ∧ k.val / 128 = 3 then edgeTile (F := Ideal) (iblk m c 5 t) else farTile (F := Ideal) (iblk m c 6 t)) (inTile (ix2 r k)) = _
  rw [inTile_at, hq]
  by_cases h3 : r.val / 128 = 0 ∧ k.val / 128 = 3
  · rw [if_pos h3]
    refine (edge_at _ _ _).trans ((blk5 m c t _ _).trans ((be_at m c _ _ _).trans ?_))
    unfold Cert.Attn.bias
    rw [if_pos (by omega)]
    have e' : 128 + ((r.val % 128 : ℕ) : ℤ) - ((k.val % 128 : ℕ) : ℤ) = ((512 * (t.val % 4) + r.val : ℕ) : ℤ) - ((512 * j + k.val : ℕ) : ℤ) := by omega
    simp only [e']
  · rw [if_neg h3]
    refine (farTile_at _ _ _).trans ((x6_at m c t).trans ?_)
    exact (Cert.Attn.bias_far _ _ _ _ (by omega) (by omega)).symm

theorem bias_at (t : Fin cfg0.N) (r k : Fin 512) (j : ℕ) (hj : j < t.val % 4 + 1) :
    Run.bias (F := Ideal) (t.val % 4) (farOf (F := Ideal) (iblk m c 6 t)) (kept1 m c t) (kept2 m c t) j (ix2 r k)
      = Cert.Attn.bias (tbl m c) (hOf t) (qOf t r).val (512 * j + k.val) := by
  have hq : (qOf t r).val = 512 * (t.val % 4) + r.val := rfl
  unfold Run.bias
  by_cases h1 : j + 1 < t.val % 4
  · rw [if_pos h1]
    refine (farOf_at _ _ _).trans ((x6_at m c t).trans ?_)
    exact (Cert.Attn.bias_far _ _ _ _ (by omega) (by omega)).symm
  rw [if_neg h1]
  by_cases h2 : j + 1 = t.val % 4
  · rw [if_pos h2]; exact tab1_at m c t r k j h2
  · rw [if_neg h2, tab0_at]
    congr 2; omega

/-- The scores of a query row, over the naturals. -/
def fOf (g : Fin 2) (t : Fin cfg0.N) (r : Fin 512) : ℕ → EReal :=
  Cert.Attn.ext ⊥ (Cert.Attn.score (m (c.tc.loc main_arg0)) (m (c.tc.loc main_arg1)) (tbl m c) (bOf t) (hOf t) g (qOf t r))

theorem times_at (P : FVec Ideal S4x2048x8192 .f32) (K : FVec Ideal S4x2048x12x2x128 .f32) (b : Fin 4) (q : Fin 2048) (i i' : Fin 8192) (y : S4x2048x12x2x128.Idx)
    (h : i.val = i'.val) : P (ix3 b q i) * K y = P (ix3 b q i') * K y := by
  rw [Fin.ext h]

theorem sc0_at (t : Fin cfg0.N) (r k : Fin 512) (j : ℕ) (hj : j < t.val % 4 + 1) :
    sc0 (F := Ideal) (t.val % 4) (iblk m c 0 t) (iblk m c 2 t) (farOf (F := Ideal) (iblk m c 6 t)) (kept1 m c t) (kept2 m c t) j (ix2 r k) = fOf m c 0 t r (512 * j + k.val) := by
  unfold sc0
  rw [score_at, bias_at m c t r k j hj]
  refine Eq.trans ?_ (Cert.Attn.ext_at ⊥ _ ⟨512 * j + k.val, by omega⟩).symm
  unfold Cert.Attn.score
  refine congrArg (· * _ + _) (Finset.sum_congr rfl fun d _ => ?_)
  rw [q0_at, k0_at, kblk_at _ j (by omega), blk0, blk2, k_at m c _ _ _ 0 d _ (by simp)]
  refine times_at (m (c.tc.loc main_arg0)) (m (c.tc.loc main_arg1)) _ _ _ _ _ ?_
  show 256 * (hOf t).val + d.val = 256 * (hOf t).val + (128 * 0 + d.val)
  omega

theorem sc1_at (t : Fin cfg0.N) (r k : Fin 512) (j : ℕ) (hj : j < t.val % 4 + 1) :
    sc1 (F := Ideal) (t.val % 4) (iblk m c 0 t) (iblk m c 2 t) (farOf (F := Ideal) (iblk m c 6 t)) (kept1 m c t) (kept2 m c t) j (ix2 r k) = fOf m c 1 t r (512 * j + k.val) := by
  unfold sc1
  rw [score_at, bias_at m c t r k j hj]
  refine Eq.trans ?_ (Cert.Attn.ext_at ⊥ _ ⟨512 * j + k.val, by omega⟩).symm
  unfold Cert.Attn.score
  refine congrArg (· * _ + _) (Finset.sum_congr rfl fun d _ => ?_)
  rw [q1_at, k1_at, kblk_at _ j (by omega), blk0, blk2, k_at m c _ _ _ 1 d _ (by simp)]
  refine times_at (m (c.tc.loc main_arg0)) (m (c.tc.loc main_arg1)) _ _ _ _ _ ?_
  show 256 * (hOf t).val + (128 + d.val) = 256 * (hOf t).val + (128 * 1 + d.val)
  omega

/-- The values of a head, over the naturals. -/
def vOf (t : Fin cfg0.N) (k : ℕ) (x : Fin 256) : EReal :=
  Cert.Attn.ext 0 (fun k => (m (c.tc.loc main_arg2) : FVec Ideal S4x2048x12x256 .f32) (ix4 (bOf t) k (hOf t) x)) k

theorem v_blk (t : Fin cfg0.N) (j : ℕ) (hj : j < 4) (k : Fin 512) (x : Fin 256) : vblk (F := Ideal) (kept0 m c t) j (ix2 k x) = vOf m c t (512 * j + k.val) x := by
  refine (vblk_at (iblk m c 3 t) j hj k x).trans ((blk3 m c t _ _).trans ((v_at m c _ _ _ _).trans ?_))
  exact (Cert.Attn.ext_at 0 (fun k => (m (c.tc.loc main_arg2) : FVec Ideal S4x2048x12x256 .f32) (ix4 (bOf t) k (hOf t) x)) ⟨512 * j + k.val, by omega⟩).symm

/-- The weight of the second softmax. -/
def lamAt : EReal := lamOf (fun k => (m (c.tc.loc main_arg4) : FVec Ideal S128 .f32) (ix1 k)) (fun k => (m (c.tc.loc main_arg5) : FVec Ideal S128 .f32) (ix1 k))
  (fun k => (m (c.tc.loc main_arg6) : FVec Ideal S128 .f32) (ix1 k)) (fun k => (m (c.tc.loc main_arg7) : FVec Ideal S128 .f32) (ix1 k))

theorem lam_blk (t : Fin cfg0.N) : lamOf (fun k => iblk m c 7 t (ix2 0 k)) (fun k => iblk m c 7 t (ix2 1 k)) (fun k => iblk m c 7 t (ix2 2 k)) (fun k => iblk m c 7 t (ix2 3 k)) = lamAt m c := by
  unfold lamAt
  have h0 : (fun k => iblk m c 7 t (ix2 0 k)) = (fun k => (m (c.tc.loc main_arg4) : FVec Ideal S128 .f32) (ix1 k)) := funext fun k => (blk7 m c t 0 k).trans (lam_at m c k).1
  have h1 : (fun k => iblk m c 7 t (ix2 1 k)) = (fun k => (m (c.tc.loc main_arg5) : FVec Ideal S128 .f32) (ix1 k)) := funext fun k => (blk7 m c t 1 k).trans (lam_at m c k).2.1
  have h2 : (fun k => iblk m c 7 t (ix2 2 k)) = (fun k => (m (c.tc.loc main_arg6) : FVec Ideal S128 .f32) (ix1 k)) := funext fun k => (blk7 m c t 2 k).trans (lam_at m c k).2.2.1
  have h3 : (fun k => iblk m c 7 t (ix2 3 k)) = (fun k => (m (c.tc.loc main_arg7) : FVec Ideal S128 .f32) (ix1 k)) := funext fun k => (blk7 m c t 3 k).trans (lam_at m c k).2.2.2
  rw [h0, h1, h2, h3]

theorem out_at (t : Fin cfg0.N) (r : Fin 512) (e : Fin 256) : outAt m c t (ix3 0 r e)
    = post (fun x => rmix (t.val % 4 + 1) (fOf m c 0 t r) (fOf m c 1 t r) (fun k => vOf m c t k x) (lamAt m c))
        ((m (c.tc.loc main_arg8) : FVec Ideal S256 .f32) (ix1 e))
        ((m (c.tc.loc main_arg0) : FVec Ideal S4x2048x8192 .f32) (ix3 (bOf t) (qOf t r) ⟨3072 + 256 * (hOf t).val + e.val, by omega⟩)) e := by
  have h0 := fun (j : ℕ) (hj : j < t.val % 4 + 1) (k : Fin 512) => sc0_at m c t r k j hj
  have h1 := fun (j : ℕ) (hj : j < t.val % 4 + 1) (k : Fin 512) => sc1_at m c t r k j hj
  have hv := fun (j : ℕ) (hj : j < t.val % 4 + 1) (k : Fin 512) (x : Fin 256) => v_blk m c t j (by omega) k x
  have hl := lam_blk m c t
  have hg := (blk8 m c t e).trans (g_at m c e)
  have hz := blk1 m c t r e
  have hq := qi_val t
  unfold outAt
  generalize kept0 m c t = X13 at hv ⊢
  generalize kept1 m c t = X14 at h0 h1 ⊢
  generalize kept2 m c t = X15 at h0 h1 ⊢
  generalize iblk m c 0 t = x3 at h0 h1 ⊢
  generalize iblk m c 1 t = x4 at hz ⊢
  generalize iblk m c 2 t = x5 at h0 h1 ⊢
  generalize iblk m c 6 t = x9 at h0 h1 ⊢
  generalize iblk m c 7 t = x10 at hl ⊢
  generalize iblk m c 8 t = x11 at hg ⊢
  unfold outBlk
  rw [hq]
  refine (outOf_at _ _ _ _ x10 x11 x4 r e (fOf m c 0 t r) (fOf m c 1 t r) (vOf m c t) h0 h1 hv).trans ?_
  rw [hl, hg, hz]

end Cert.KernelIdeal.Host
end
end
-- ==== Proof.ReferenceScore.lean ====
module

public import proofs.«01_k».proof.Proof.Gen.ReferenceIdeal.Read
public import proofs.«01_k».proof.Proof.Spec

@[expose] public section

/-! The scores of the reference, by index. -/

set_option maxRecDepth 16384

noncomputable section

namespace Cert.ReferenceIdeal.Row

open Cert.ReferenceIdeal Cert.ReferenceIdeal.Gen Cert.ReferenceIdeal.Read
open Idealize.ShloMosaic Idealize.ShloMosaic.TcCoe

theorem word_sub (a b : ℕ) : IntOp.subi (BitVec.ofNat 32 a) (BitVec.ofNat 32 b) = BitVec.ofInt 32 ((a : ℤ) - b) := by
  show BitVec.ofNat 32 a - BitVec.ofNat 32 b = _
  apply BitVec.eq_of_toInt_eq
  rw [BitVec.toInt_sub, BitVec.toInt_ofNat', BitVec.toInt_ofNat', BitVec.toInt_ofInt]
  simp

theorem dist_at (Q k : Fin 2048) : val_main_v19 (F := Ideal) (ix2 Q k) = BitVec.ofInt 32 ((Q.val : ℤ) - k.val) := by
  simp only [val_main_v19_apply, val_main_v17_apply, val_main_v18_apply, val_main_v15_apply, val_main_v16_apply, val_main_v3_apply]
  exact word_sub Q.val k.val

theorem bkt_at (y : S2048x2048.Idx) : val_main_v44 (F := Ideal) y = Cert.Attn.bkt (val_main_v19 (F := Ideal) y) := by
  simp only [val_main_v44_apply, val_main_v43_apply, val_main_v42_apply, val_main_c_11_apply, val_main_v41_apply, val_main_v40_apply, val_main_c_10_apply, val_main_v39_apply, val_main_v38_apply, val_main_v37_apply, val_main_c_9_apply, val_main_v36_apply, val_main_v35_apply, val_main_c_8_apply, val_main_v34_apply, val_main_v33_apply, val_main_c_7_apply, val_main_v32_apply, val_main_v31_apply, val_main_v30_apply, val_main_cst_6_apply, val_main_v29_apply, val_main_v28_apply, val_main_cst_5_apply, val_main_v27_apply, val_main_v26_apply, val_main_v25_apply, val_main_cst_4_apply, val_main_v24_apply, val_main_v23_apply, val_main_v22_apply, val_main_c_3_apply, val_main_v21_apply, val_main_v20_apply, val_main_c_apply]
  generalize val_main_v19 (F := Ideal) y = d
  rfl

theorem table_at (x3 : FVec Ideal S32x12 .f32) (h : Fin 12) (Q k : Fin 2048) :
    val_main_v47 (F := Ideal) x3 (ix3 h Q k) = x3 (ix2 (Cert.Attn.row (BitVec.ofInt 32 ((Q.val : ℤ) - k.val))) h) := by
  have hb : val_main_v45 (F := Ideal) (ix3 Q k 0) = Cert.Attn.bkt (BitVec.ofInt 32 ((Q.val : ℤ) - k.val)) := by
    rw [val_main_v45_apply, bkt_at, ← dist_at Q k]; exact congrArg (fun y => Cert.Attn.bkt (val_main_v19 (F := Ideal) y)) (funext fun a => by fin_cases a <;> rfl)
  rw [val_main_v47_apply]
  have hi : idx_main_v47 (ix3 h Q k) = ix3 Q k h := by funext a; fin_cases a <;> rfl
  rw [hi]
  unfold val_main_v46
  generalize val_main_v45 (F := Ideal) = B at hb
  refine (Cert.Attn.rows2_apply _ ⟨_, rfl⟩ (by decide) x3 B Q k h).trans ?_
  refine congrArg (fun y => x3 (ix2 y h)) (Fin.ext ?_)
  show min (B (ix3 Q k 0)).toInt.toNat (32 - 1) = min (Cert.Attn.bkt (BitVec.ofInt 32 ((Q.val : ℤ) - k.val))).toInt.toNat (32 - 1)
  rw [hb]

theorem causal_at (Q k : Fin 2048) : val_main_v49 (F := Ideal) (ix2 Q k) = if k.val ≤ Q.val then 1#1 else 0#1 := by
  rw [val_main_v49_apply, dist_at, val_main_v48_apply, val_main_c_12_apply]
  have e : (BitVec.ofInt 32 ((Q.val : ℤ) - k.val)).toInt = (Q.val : ℤ) - k.val := by
    rw [BitVec.toInt_ofInt, Int.bmod_eq_of_le (by omega) (by omega)]
  show BitVec.ofBool (BitVec.sle 0#32 (BitVec.ofInt 32 ((Q.val : ℤ) - k.val))) = _
  unfold BitVec.sle
  rw [e]
  by_cases hk : k.val ≤ Q.val
  · rw [if_pos hk, decide_eq_true (by simp; omega)]; rfl
  · rw [if_neg hk, decide_eq_false (by simp; omega)]; rfl

theorem query_at (x0 : FVec Ideal S4x2048x8192 .f32) (b : Fin 4) (Q : Fin 2048) (h : Fin 12) (g : Fin 2) (d : Fin 128) :
    val_main_v1 (F := Ideal) x0 (ix5 b Q h g d) = x0 (ix3 b Q ⟨256 * h.val + (128 * g.val + d.val), by omega⟩) := by
  have e : val_main_v1 (F := Ideal) x0 (ix5 b Q h g d) = val_main_v0 (F := Ideal) x0 (ix3 b Q ⟨256 * h.val + (128 * g.val + d.val), by omega⟩) := by
    unfold val_main_v1
    generalize val_main_v0 (F := Ideal) x0 = y
    refine shapeCast_apply y shapeCasts_S4x2048x3072_S4x2048x12x2x128 _ _ ?_
    rw [Shape.rowMajor_val_three, Shape.rowMajor_val_five]
    show (b.val * 2048 + Q.val) * 3072 + (256 * h.val + (128 * g.val + d.val)) = (((b.val * 2048 + Q.val) * 12 + h.val) * 2 + g.val) * 128 + d.val
    omega
  rw [e, val_main_v0_apply]
  refine congrArg x0 (funext fun a => by fin_cases a <;> rfl)

theorem dot_at (x0 : FVec Ideal S4x2048x8192 .f32) (x1 : FVec Ideal S4x2048x12x2x128 .f32) (b : Fin 4) (h : Fin 12) (g : Fin 2) (Q k : Fin 2048) :
    val_main_v12 (F := Ideal) x0 x1 (ix5 b h g Q k) = ∑ d : Fin 128, x0 (ix3 b Q ⟨256 * h.val + (128 * g.val + d.val), by omega⟩) * x1 (ix5 b k h g d) := by
  rw [val_main_v12_apply]
  refine Finset.sum_congr rfl fun d _ => ?_
  have hl : lidx_main_v12 (ix5 b h g Q k) d = ix5 b Q h g d := by funext a; fin_cases a <;> rfl
  have hr : ridx_main_v12 (ix5 b h g Q k) d = ix5 b k h g d := by funext a; fin_cases a <;> rfl
  rw [hl, hr, query_at]

theorem minus_inf : Ideal.ofBits FTy.f32 0xFF800000#32 = (⊥ : EReal) := by
  simp [Ideal.ofBits, Ideal.ieee]

theorem score_at (x0 : FVec Ideal S4x2048x8192 .f32) (x1 : FVec Ideal S4x2048x12x2x128 .f32) (x3 : FVec Ideal S32x12 .f32) (b : Fin 4) (h : Fin 12) (g : Fin 2) (Q k : Fin 2048) :
    val_main_v54 (F := Ideal) x0 x1 x3 (ix5 b h g Q k) = Cert.Attn.score x0 x1 x3 b h g Q k := by
  have h1 : val_main_call1_v1 (F := Ideal) (ix5 b h g Q k) = if k.val ≤ Q.val then 1#1 else 0#1 := by
    rw [val_main_call1_v1_apply, val_main_v50_apply, ← causal_at Q k]
    exact congrArg (val_main_v49 (F := Ideal)) (funext fun a => by fin_cases a <;> rfl)
  have h2 : val_main_v52 (F := Ideal) x3 (ix5 b h g Q k) = x3 (ix2 (Cert.Attn.row (BitVec.ofInt 32 ((Q.val : ℤ) - k.val))) h) := by
    rw [val_main_v52_apply, val_main_v51_apply, ← table_at x3 h Q k]
    exact congrArg (val_main_v47 (F := Ideal) x3) (funext fun a => by fin_cases a <;> rfl)
  have h3 : val_main_call1_v2 (F := Ideal) (ix5 b h g Q k) = (⊥ : EReal) := by
    rw [val_main_call1_v2_apply, val_main_call1_v0_apply, val_main_cst_13_apply]; exact minus_inf
  rw [val_main_v54_apply, h1, h3, val_main_v53_apply, h2, val_main_v14_apply, val_main_v13_apply, val_main_cst_2_apply, dot_at]
  unfold Cert.Attn.score Cert.Attn.bias
  by_cases hk : k.val ≤ Q.val
  · rw [if_pos hk, if_pos hk]; rfl
  · rw [if_neg hk, if_neg hk, EReal.add_bot]; rfl

theorem fold_sup {ι : Type} (s : Finset ι) (f : ι → EReal) : Finset.fold max (Ideal.ofBits FTy.f32 0xFF800000#32) f s = s.sup f := by
  rw [minus_inf]; rfl

theorem max_at (x0 : FVec Ideal S4x2048x8192 .f32) (x1 : FVec Ideal S4x2048x12x2x128 .f32) (x3 : FVec Ideal S32x12 .f32) (b : Fin 4) (h : Fin 12) (g : Fin 2) (Q : Fin 2048) :
    val_main_v57 (F := Ideal) x0 x1 x3 (ix4 b h g Q) = Cert.Attn.top (Cert.Attn.score x0 x1 x3 b h g Q) := by
  have hm : val_main_v55 (F := Ideal) x0 x1 x3 (ix4 b h g Q) = Cert.Attn.top (Cert.Attn.score x0 x1 x3 b h g Q) := by
    have hs := score_at x0 x1 x3 b h g Q
    unfold val_main_v55 val_main_cst_14
    generalize val_main_v54 (F := Ideal) x0 x1 x3 = y at hs ⊢
    pointwise
    rw [fold_sup]
    exact Finset.sup_congr rfl fun k _ => hs k
  rw [val_main_v57_apply, hm, val_main_v56_apply, val_main_cst_15_apply]
  show max (Ideal.ofBits FTy.f32 0xFF800000#32) _ = _
  rw [minus_inf]
  exact max_eq_right bot_le

end Cert.ReferenceIdeal.Row
end
end
-- ==== Proof.ReferenceRow.lean ====
module

public import proofs.«01_k».proof.Proof.ReferenceScore
public import proofs.«01_k».proof.Proof.KernelIdealRow

@[expose] public section

/-! The reference's result, by index. -/

set_option maxRecDepth 16384

noncomputable section

namespace Cert.ReferenceIdeal.Row

open Cert.ReferenceIdeal Cert.ReferenceIdeal.Gen Cert.ReferenceIdeal.Read
open Idealize.ShloMosaic Idealize.ShloMosaic.TcCoe
open Cert.Attn (score wt top)
open Cert.KernelIdeal.Row (post lamOf)

theorem zero_bits : (FloatOps.ofBits (F := Ideal) .f32 0x00000000#32 : EReal) = 0 := by
  show Ideal.ofBits .f32 0x00000000#32 = 0
  simp [Ideal.ofBits, Ideal.ieee]

theorem one_bits : (FloatOps.ofBits (F := Ideal) .f32 0x3F800000#32 : EReal) = 1 := by
  show Ideal.ofBits .f32 0x3F800000#32 = 1
  simp [Ideal.ofBits, Ideal.ieee]
  rw [← EReal.coe_mul]; norm_num

theorem wt_at (x0 : FVec Ideal S4x2048x8192 .f32) (x1 : FVec Ideal S4x2048x12x2x128 .f32) (x3 : FVec Ideal S32x12 .f32) (b : Fin 4) (h : Fin 12) (g : Fin 2) (Q k : Fin 2048) :
    val_main_v61 (F := Ideal) x0 x1 x3 (ix5 b h g Q k) = wt (score x0 x1 x3 b h g Q) k := by
  have e : val_main_v59 (F := Ideal) x0 x1 x3 (ix5 b h g Q k) = top (score x0 x1 x3 b h g Q) := by
    rw [val_main_v59_apply, val_main_v58_apply, ← max_at x0 x1 x3 b h g Q]
    exact congrArg (val_main_v57 (F := Ideal) x0 x1 x3) (funext fun a => by fin_cases a <;> rfl)
  rw [val_main_v61_apply, val_main_v60_apply, e, score_at]
  rfl

theorem part_at (x0 : FVec Ideal S4x2048x8192 .f32) (x1 : FVec Ideal S4x2048x12x2x128 .f32) (x3 : FVec Ideal S32x12 .f32) (b : Fin 4) (h : Fin 12) (g : Fin 2) (Q k : Fin 2048) :
    val_main_v65 (F := Ideal) x0 x1 x3 (ix5 b h g Q k) = Ideal.div (wt (score x0 x1 x3 b h g Q) k) (∑ k, wt (score x0 x1 x3 b h g Q) k) := by
  have e : val_main_v62 (F := Ideal) x0 x1 x3 (ix4 b h g Q) = ∑ k, wt (score x0 x1 x3 b h g Q) k := by
    rw [val_main_v62_apply, val_main_cst_16_apply, zero_bits, zero_add]
    refine Finset.sum_congr rfl fun k _ => ?_
    rw [← wt_at]
    exact congrArg (val_main_v61 (F := Ideal) x0 x1 x3) (funext fun a => by fin_cases a <;> rfl)
  have e' : val_main_v64 (F := Ideal) x0 x1 x3 (ix5 b h g Q k) = ∑ k, wt (score x0 x1 x3 b h g Q) k := by
    rw [val_main_v64_apply, val_main_v63_apply, ← e]
    exact congrArg (val_main_v62 (F := Ideal) x0 x1 x3) (funext fun a => by fin_cases a <;> rfl)
  rw [val_main_v65_apply, e', wt_at]
  rfl

theorem half_cast (y : FVec Ideal S4x12x1x2048x2048 .f32) (b : Fin 4) (h : Fin 12) (Q k : Fin 2048) :
    shapeCast S4x12x2048x2048 y shapeCasts_S4x12x1x2048x2048_S4x12x2048x2048 (ix4 b h Q k) = y (ix5 b h 0 Q k) := by
  pointwise

theorem first_at (x0 : FVec Ideal S4x2048x8192 .f32) (x1 : FVec Ideal S4x2048x12x2x128 .f32) (x3 : FVec Ideal S32x12 .f32) (b : Fin 4) (h : Fin 12) (Q k : Fin 2048) :
    val_main_v67 (F := Ideal) x0 x1 x3 (ix4 b h Q k) = val_main_v65 (F := Ideal) x0 x1 x3 (ix5 b h 0 Q k) := by
  refine (half_cast (val_main_v66 (F := Ideal) x0 x1 x3) b h Q k).trans ?_
  rw [val_main_v66_apply]
  exact congrArg (val_main_v65 (F := Ideal) x0 x1 x3) (funext fun a => by fin_cases a <;> rfl)

theorem second_at (x0 : FVec Ideal S4x2048x8192 .f32) (x1 : FVec Ideal S4x2048x12x2x128 .f32) (x3 : FVec Ideal S32x12 .f32) (b : Fin 4) (h : Fin 12) (Q k : Fin 2048) :
    val_main_v69 (F := Ideal) x0 x1 x3 (ix4 b h Q k) = val_main_v65 (F := Ideal) x0 x1 x3 (ix5 b h 1 Q k) := by
  refine (half_cast (val_main_v68 (F := Ideal) x0 x1 x3) b h Q k).trans ?_
  rw [val_main_v68_apply]
  exact congrArg (val_main_v65 (F := Ideal) x0 x1 x3) (funext fun a => by fin_cases a <;> rfl)

theorem sum128 (f : S128.Idx → EReal) : ∑ j, f j = ∑ k : Fin 128, f (ix1 k) :=
  (Equiv.sum_comp (⟨fun k => ix1 k, fun j => j 0, fun k => rfl, fun j => by funext a; fin_cases a; rfl⟩ : Fin 128 ≃ S128.Idx) f).symm

/-- The reference's coefficient of the second softmax. -/
def lam (x4 x5 x6 x7 : FVec Ideal S128 .f32) : EReal := lamOf (fun k => x4 (ix1 k)) (fun k => x5 (ix1 k)) (fun k => x6 (ix1 k)) (fun k => x7 (ix1 k))

theorem lam_at (x4 x5 x6 x7 : FVec Ideal S128 .f32) (y : S4x12x2048x2048.Idx) : val_main_v70 (F := Ideal) x4 x5 x6 x7 y = lam x4 x5 x6 x7 := by
  rw [val_main_v70_apply, val_main_v11_apply, val_main_v10_apply, val_main_v6_apply, val_main_v9_apply, val_main_v5_apply, val_main_v8_apply,
    val_main_cst_apply, val_main_cst_0_apply, val_main_cst_1_apply, zero_bits, zero_add, zero_add, sum128, sum128]
  rfl

/-- The mixture of the values with the difference of the two softmaxes. -/
def mixed (x0 : FVec Ideal S4x2048x8192 .f32) (x1 : FVec Ideal S4x2048x12x2x128 .f32) (x2 : FVec Ideal S4x2048x12x256 .f32) (x3 : FVec Ideal S32x12 .f32) (l : EReal)
    (b : Fin 4) (h : Fin 12) (Q : Fin 2048) (x : Fin 256) : EReal :=
  ∑ k : Fin 2048, x2 (ix4 b k h x) * (Ideal.div (wt (score x0 x1 x3 b h 0 Q) k) (∑ k, wt (score x0 x1 x3 b h 0 Q) k)
    - l * Ideal.div (wt (score x0 x1 x3 b h 1 Q) k) (∑ k, wt (score x0 x1 x3 b h 1 Q) k))

theorem mixed_at (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32)
    (b : Fin 4) (h : Fin 12) (Q : Fin 2048) (x : Fin 256) :
    val_main_v74 (F := Ideal) x0 x1 x2 x3 x4 x5 x6 x7 (ix4 b Q h x) = mixed x0 x1 x2 x3 (lam x4 x5 x6 x7) b h Q x := by
  have hi : idx_main_v74 (ix4 b Q h x) = ix4 b h x Q := by funext a; fin_cases a <;> rfl
  rw [val_main_v74_apply, hi, val_main_v73_apply]
  refine Finset.sum_congr rfl fun k _ => ?_
  have hl : lidx_main_v73 (ix4 b h x Q) k = ix4 b k h x := by funext a; fin_cases a <;> rfl
  have hr : ridx_main_v73 (ix4 b h x Q) k = ix4 b h Q k := by funext a; fin_cases a <;> rfl
  rw [hl, hr, val_main_v72_apply, val_main_v71_apply, lam_at, first_at, second_at, part_at, part_at]
  rfl

theorem square_at (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32)
    (b : Fin 4) (h : Fin 12) (Q : Fin 2048) :
    val_main_v76 (F := Ideal) x0 x1 x2 x3 x4 x5 x6 x7 (ix3 b Q h) = ∑ x, mixed x0 x1 x2 x3 (lam x4 x5 x6 x7) b h Q x * mixed x0 x1 x2 x3 (lam x4 x5 x6 x7) b h Q x := by
  rw [val_main_v76_apply, val_main_cst_17_apply, zero_bits, zero_add]
  refine Finset.sum_congr rfl fun x _ => ?_
  have hi : idx_main_v76 (ix3 b Q h) x = ix4 b Q h x := by funext a; fin_cases a <;> rfl
  rw [hi, val_main_v75_apply, mixed_at]
  rfl

theorem norm_at (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32)
    (b : Fin 4) (h : Fin 12) (Q : Fin 2048) (x : Fin 256) :
    val_main_v83 (F := Ideal) x0 x1 x2 x3 x4 x5 x6 x7 (ix4 b Q h x)
      = Ideal.rsqrt (Ideal.div (∑ x, mixed x0 x1 x2 x3 (lam x4 x5 x6 x7) b h Q x * mixed x0 x1 x2 x3 (lam x4 x5 x6 x7) b h Q x) (Ideal.ofBits .f32 0x43800000#32) + Ideal.ofBits .f32 0x358637BD#32) := by
  have hi : idx_main_v77 (idx_main_v83 (ix4 b Q h x)) = ix3 b Q h := by funext a; fin_cases a <;> rfl
  rw [val_main_v83_apply, val_main_v82_apply, val_main_v81_apply, val_main_v79_apply, val_main_v77_apply, hi, square_at, val_main_v78_apply, val_main_v80_apply,
    val_main_cst_18_apply, val_main_cst_19_apply]
  rfl

theorem scaled_at (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32) (x8 : FVec Ideal S256 .f32)
    (b : Fin 4) (h : Fin 12) (Q : Fin 2048) (x : Fin 256) :
    val_main_v89 (F := Ideal) x0 x1 x2 x3 x4 x5 x6 x7 x8 (ix4 b Q h x)
      = mixed x0 x1 x2 x3 (lam x4 x5 x6 x7) b h Q x
        * Ideal.rsqrt (Ideal.div (∑ x, mixed x0 x1 x2 x3 (lam x4 x5 x6 x7) b h Q x * mixed x0 x1 x2 x3 (lam x4 x5 x6 x7) b h Q x) (Ideal.ofBits .f32 0x43800000#32) + Ideal.ofBits .f32 0x358637BD#32)
        * x8 (ix1 x) * Ideal.ofBits .f32 0x3F077F5A#32 := by
  have hi : idx_main_v85 (idx_main_v86 (ix4 b Q h x)) = ix1 x := by funext a; fin_cases a; rfl
  rw [val_main_v89_apply, val_main_v87_apply, val_main_v84_apply, mixed_at, norm_at, val_main_v86_apply, val_main_v85_apply, hi, val_main_v88_apply, val_main_cst_20_apply]
  rfl

theorem result_at (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32) (x8 : FVec Ideal S256 .f32)
    (b : Fin 4) (h : Fin 12) (Q : Fin 2048) (e : Fin 256) :
    val_main_v93 (F := Ideal) x0 x1 x2 x3 x4 x5 x6 x7 x8 (ix3 b Q ⟨256 * h.val + e.val, by omega⟩)
      = post (mixed x0 x1 x2 x3 (lam x4 x5 x6 x7) b h Q) (x8 (ix1 e)) (x0 (ix3 b Q ⟨3072 + 256 * h.val + e.val, by omega⟩)) e := by
  have h90 : val_main_v90 (F := Ideal) x0 x1 x2 x3 x4 x5 x6 x7 x8 (ix3 b Q ⟨256 * h.val + e.val, by omega⟩) = val_main_v89 (F := Ideal) x0 x1 x2 x3 x4 x5 x6 x7 x8 (ix4 b Q h e) := by
    unfold val_main_v90
    generalize val_main_v89 (F := Ideal) x0 x1 x2 x3 x4 x5 x6 x7 x8 = y
    refine shapeCast_apply y shapeCasts_S4x2048x12x256_S4x2048x3072 _ _ ?_
    rw [Shape.rowMajor_val_three, Shape.rowMajor_val_four]
    show ((b.val * 2048 + Q.val) * 12 + h.val) * 256 + e.val = (b.val * 2048 + Q.val) * 3072 + (256 * h.val + e.val)
    omega
  have h2 : val_main_v2 (F := Ideal) x0 (ix3 b Q ⟨256 * h.val + e.val, by omega⟩) = x0 (ix3 b Q ⟨3072 + 256 * h.val + e.val, by omega⟩) := by
    rw [val_main_v2_apply]
    refine congrArg x0 (funext fun a => ?_)
    fin_cases a
    · rfl
    · rfl
    · exact Fin.ext (by show 3072 + (256 * h.val + e.val) = 3072 + 256 * h.val + e.val; omega)
  rw [val_main_v93_apply, val_main_v92_apply, h90, scaled_at, val_main_v91_apply, val_main_call2_v5_apply, val_main_call2_v4_apply, val_main_call2_v3_apply,
    val_main_call2_v2_apply, val_main_call2_v1_apply, val_main_call2_v0_apply, val_main_call2_cst_apply, val_main_call2_cst_0_apply, h2, one_bits]
  rfl

end Cert.ReferenceIdeal.Row
end
end
-- ==== Proof.Finite.lean ====
module

public import proofs.«01_k».proof.Proof.ReferenceRow
public import proofs.«01_k».proof.Proof.Gen.Pre_finite_operands
public import Idealize.ShloMosaic.Lib.ReduceAll

@[expose] public section

/-! Finite operands: the scores are no +∞, the diagonal's are real, and the row cut at the query's block is the whole row. -/

set_option maxRecDepth 16384

noncomputable section

namespace Cert.Attn

open Idealize.ShloMosaic
open Cert.KernelIdeal.Row (lamOf rtop rwt rmix)

/-- A real number among the extended ones. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.exp {x : EReal} (hx : Real' x) : Real' (Ideal.exp x) := by
  obtain ⟨a, rfl⟩ := hx; exact ⟨Real.exp a, rfl⟩

theorem Real'.sum {n : ℕ} {f : Fin n → EReal} (h : ∀ k, Real' (f k)) : Real' (∑ k, f k) := by
  choose w hw using h
  exact ⟨∑ k, w k, by rw [coe_sum]; exact Finset.sum_congr rfl fun k _ => hw k⟩

theorem Real'.ne {x : EReal} (hx : Real' x) : x ≠ ⊤ ∧ x ≠ ⊥ := by
  obtain ⟨a, rfl⟩ := hx; exact ⟨EReal.coe_ne_top a, EReal.coe_ne_bot a⟩

theorem scale_real : Real' (Ideal.ofBits .f32 0x3DB504F3#32) := by
  refine ⟨(11863283 / 134217728 : ℝ), ?_⟩
  simp [Ideal.ofBits, Ideal.ieee]
  rw [← EReal.coe_mul]; norm_num

theorem init_real : Real' (Ideal.ofBits .f32 0x3EF1014C#32) := by
  refine ⟨(15794508 / 33554432 : ℝ), ?_⟩
  simp [Ideal.ofBits, Ideal.ieee]
  rw [← EReal.coe_mul]; norm_num

theorem lamOf_real (a b c d : Fin 128 → EReal) (ha : ∀ k, Real' (a k)) (hb : ∀ k, Real' (b k)) (hc : ∀ k, Real' (c k)) (hd : ∀ k, Real' (d k)) : Real' (lamOf a b c d) :=
  (Real'.sub (Real'.sum fun k => (ha k).mul (hb k)).exp (Real'.sum fun k => (hc k).mul (hd k)).exp).add init_real

section
variable (P : FVec Ideal ⟨3, ![4, 2048, 8192]⟩ .f32) (K : FVec Ideal ⟨5, ![4, 2048, 12, 2, 128]⟩ .f32) (T : FVec Ideal ⟨2, ![32, 12]⟩ .f32)
  (hP : ∀ (b : Fin 4) (q : Fin 2048) (e : Fin 8192), e.val < 3072 → Real' (P (ix3 b q e))) (hK : ∀ y, Real' (K y)) (hT : ∀ y, Real' (T y))
  (b : Fin 4) (h : Fin 12) (g : Fin 2) (Q k : Fin 2048)
include hP hK hT

theorem score_real (hk : k.val ≤ Q.val) : Real' (score P K T b h g Q k) := by
  unfold score bias
  rw [if_pos hk]
  refine ((Real'.sum fun d => (hP b Q _ ?_).mul (hK _)).mul scale_real).add (hT _)
  show 256 * h.val + (128 * g.val + d.val) < 3072
  omega

theorem score_ne_top : score P K T b h g Q k ≠ ⊤ := by
  by_cases hk : k.val ≤ Q.val
  · exact (score_real P K T hP hK hT b h g Q k hk).ne.1
  · unfold score bias
    rw [if_neg hk, EReal.add_bot]
    exact bot_ne_top

end

theorem score_later (P : FVec Ideal ⟨3, ![4, 2048, 8192]⟩ .f32) (K : FVec Ideal ⟨5, ![4, 2048, 12, 2, 128]⟩ .f32) (T : FVec Ideal ⟨2, ![32, 12]⟩ .f32)
    (b : Fin 4) (h : Fin 12) (g : Fin 2) (Q k : Fin 2048) (hk : Q.val < k.val) : score P K T b h g Q k = ⊥ := by
  unfold score bias
  rw [if_neg (by omega), EReal.add_bot]

/-- The weights of a row cut after its last key. -/
theorem cut {N : ℕ} (hN : 512 * N ≤ 2048) (S : Fin 2048 → EReal) (hS : ∀ k : Fin 2048, 512 * N ≤ k.val → S k = ⊥) :
    rtop N (ext ⊥ S) = top S ∧ (∑ k ∈ Finset.range (512 * N), rwt N (ext ⊥ S) k = ∑ k, wt S k)
      ∧ ∀ v : Fin 2048 → EReal, ∑ k ∈ Finset.range (512 * N), rwt N (ext ⊥ S) k * ext 0 v k = ∑ k, wt S k * v k := by
  have ht : rtop N (ext ⊥ S) = top S := (top_cut (512 * N) hN (ext ⊥ S) S (fun k _ => (ext_at ⊥ S k).symm) hS).symm
  have hw : ∀ k : Fin 2048, wt S k = rwt N (ext ⊥ S) k.val := fun k => by unfold rwt wt; rw [ht, ext_at]
  have h0 : ∀ k : Fin 2048, 512 * N ≤ k.val → wt S k = 0 := fun k hk => by
    unfold wt; rw [hS k hk, EReal.bot_sub]; rfl
  refine ⟨ht, ?_, fun v => ?_⟩
  · exact (sum_cut (512 * N) hN _ _ (fun k _ => hw k) h0).symm
  · refine (sum_cut (512 * N) hN (fun k => rwt N (ext ⊥ S) k * ext 0 v k) _ (fun k _ => ?_) fun k hk => ?_).symm
    · rw [hw, ext_at]
    · rw [h0 k hk, zero_mul]

theorem rmix_eq {N : ℕ} (hN : 512 * N ≤ 2048) (S T : Fin 2048 → EReal) (v : Fin 2048 → EReal) (l : EReal) (hSc : ∀ k : Fin 2048, 512 * N ≤ k.val → S k = ⊥)
    (hTc : ∀ k : Fin 2048, 512 * N ≤ k.val → T k = ⊥) (hS : ∀ k, S k ≠ ⊤) (hT : ∀ k, T k ≠ ⊤) (k₀ : Fin 2048) (hS₀ : S k₀ ≠ ⊥) (hT₀ : T k₀ ≠ ⊥)
    (hv : ∀ k, v k ≠ ⊤ ∧ v k ≠ ⊥) (hl : l ≠ ⊤ ∧ l ≠ ⊥) :
    rmix N (ext ⊥ S) (ext ⊥ T) (ext 0 v) l = ∑ k, v k * (Ideal.div (wt S k) (∑ k, wt S k) - l * Ideal.div (wt T k) (∑ k, wt T k)) := by
  rw [← mix S T v l hS hT k₀ hS₀ hT₀ hv hl]
  unfold rmix
  obtain ⟨-, s1, s2⟩ := cut hN S hSc
  obtain ⟨-, t1, t2⟩ := cut hN T hTc
  rw [s1, s2 v, t1, t2 v]

theorem infinity : Ideal.ofBits .f32 0x7F800000#32 = (⊤ : EReal) := by
  simp [Ideal.ofBits, Ideal.ieee]

theorem real_of_lt (x : EReal) (h : FloatOps.cmpf (F := Ideal) (φ := .f32) .olt (FloatOps.hostAbsf (F := Ideal) (φ := .f32) x) (Ideal.ofBits .f32 0x7F800000#32) = 1#1) : Real' x := by
  rw [infinity] at h
  have h' : max x (-x) < ⊤ := by
    by_contra hn
    have : FloatOps.cmpf (F := Ideal) (φ := .f32) .olt (FloatOps.hostAbsf (F := Ideal) (φ := .f32) x) ⊤ = 0#1 := by
      show Ideal.cmp .olt (max x (-x)) ⊤ = 0#1
      simp only [Ideal.cmp]
      rw [decide_eq_false hn]; rfl
    rw [this] at h
    exact absurd h (by decide)
  induction x with
  | bot => exact absurd h' (by simp)
  | top => exact absurd h' (by simp)
  | coe r => exact ⟨r, rfl⟩

end Cert.Attn

namespace Cert.Pre_finite_operands

open Cert.Pre_finite_operands.Gen
open Idealize.ShloMosaic
open Cert.Attn (Real' real_of_lt)

attribute [local instance] Cert.Pre_finite_operands.Gen.facts

instance : Subsingleton S_.Idx := ⟨fun a b => funext fun k => k.elim0⟩

theorem all_real {s : Shape} (x : FVec Ideal s .f32) (B : FVec Ideal s .f32) (hB : ∀ y, B y = Ideal.ofBits .f32 0x7F800000#32) {axes : List (Fin s.rank)} (h : s.ReducesTo axes S_) (hu : 0 < S_.numel) (init : S_.Idx → BitVec 1)
    (j : S_.Idx) (e : Host.reduce IntOp.andi (cmpf .olt (Host.absf x) B) init h hu j = 1#1) (y : s.Idx) : Real' (x y) := by
  have h1 := Host.reduce_andi_all _ init h hu j e y
  refine real_of_lt (x y) ?_
  rw [← hB y]; exact h1

theorem operands (x0 : FVec Ideal S4x2048x8192 .f32) (x1 : FVec Ideal S4x2048x12x2x128 .f32) (x2 : FVec Ideal S4x2048x12x256 .f32) (x3 : FVec Ideal S32x12 .f32) (x4 x5 x6 x7 : FVec Ideal S128 .f32) (x8 : FVec Ideal S256 .f32)
    (h : fn (F := Ideal) x0 x1 x2 x3 x4 x5 x6 x7 x8 = fun _ => 1#1) :
    (∀ (b : Fin 4) (q : Fin 2048) (e : Fin 8192), e.val < 3072 → Real' (x0 (ix3 b q e))) ∧ (∀ y, Real' (x1 y)) ∧ (∀ y, Real' (x2 y)) ∧ (∀ y, Real' (x3 y))
      ∧ (∀ y, Real' (x4 y)) ∧ (∀ y, Real' (x5 y)) ∧ (∀ y, Real' (x6 y)) ∧ (∀ y, Real' (x7 y)) := by
  have h0 := congrFun h ix0
  unfold fn at h0
  dsimp only at h0
  unfold fn_part1 at h0
  dsimp only at h0
  unfold fn_part2 at h0
  dsimp only at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun b q e he => ?_, all_real x1 _ (fun _ => rfl) _ _ _ _ h1, all_real x2 _ (fun _ => rfl) _ _ _ _ h2, all_real x3 _ (fun _ => rfl) _ _ _ _ h3,
    all_real x4 _ (fun _ => rfl) _ _ _ _ h4, all_real x5 _ (fun _ => rfl) _ _ _ _ h5, all_real x6 _ (fun _ => rfl) _ _ _ _ h6, all_real x7 _ (fun _ => rfl) _ _ _ _ h7⟩
  have hq := all_real _ _ (fun _ => rfl) _ _ _ _ h0 (ix3 b q ⟨e.val, he⟩)
  have hi : extractStridedSlice S4x2048x3072 ![0, 0, 0] x0 Facts.slices_S4x2048x8192_S4x2048x3072_0_0_0 (ix3 b q ⟨e.val, he⟩) = x0 (ix3 b q e) := by pointwise
  rw [← hi]; exact hq

end Cert.Pre_finite_operands
end
end
-- ==== Proof.KernelIdealValue.lean ====
module

public import proofs.«01_k».proof.Proof.KernelIdealScore
public import proofs.«01_k».proof.Proof.ReferenceRow
public import proofs.«01_k».proof.Proof.Finite

@[expose] public section

/-! The launch's result array is the reference's value of the same arguments. -/

set_option maxRecDepth 16384

noncomputable section

namespace Cert.KernelIdeal.Host

open Cert.KernelIdeal Cert.KernelIdeal.Gen Cert.KernelIdeal.Run Cert.KernelIdeal.Row
open Idealize.ShloMosaic Idealize.ShloMosaic.TcCoe
open Cert.Attn (Real')

/-- The reference's value of a device's arguments. -/
def refOf (m : (ℓ : Loc nD τ sig) → Buf (Elt Ideal) ℓ) (c : Dev nD) : FVec Ideal S4x2048x3072 .bf16 :=
  Cert.ReferenceIdeal.Read.val_main_v93 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))

variable (m : (ℓ : Loc nD τ sig) → Buf (Elt Ideal) ℓ) (c : Dev nD)

theorem row_value (x0 : FVec Ideal S4x2048x8192 .f32) (x1 : FVec Ideal S4x2048x12x2x128 .f32) (x2 : FVec Ideal S4x2048x12x256 .f32) (x3 : FVec Ideal S32x12 .f32) (l : EReal)
    (hP : ∀ (b : Fin 4) (q : Fin 2048) (e : Fin 8192), e.val < 3072 → Real' (x0 (ix3 b q e))) (hK : ∀ y, Real' (x1 y)) (hV : ∀ y, Real' (x2 y)) (hT : ∀ y, Real' (x3 y)) (hl : Real' l)
    (b : Fin 4) (h : Fin 12) (Q : Fin 2048) (n : ℕ) (hn : n < 4) (hQ : Q.val < 512 * (n + 1)) (x : Fin 256) :
    rmix (n + 1) (Cert.Attn.ext ⊥ (Cert.Attn.score x0 x1 x3 b h 0 Q)) (Cert.Attn.ext ⊥ (Cert.Attn.score x0 x1 x3 b h 1 Q)) (Cert.Attn.ext 0 (fun k => x2 (ix4 b k h x))) l
      = Cert.ReferenceIdeal.Row.mixed x0 x1 x2 x3 l b h Q x :=
  Cert.Attn.rmix_eq (by omega) _ _ _ l (fun k hk => Cert.Attn.score_later x0 x1 x3 b h 0 Q k (by omega)) (fun k hk => Cert.Attn.score_later x0 x1 x3 b h 1 Q k (by omega))
    (fun k => Cert.Attn.score_ne_top x0 x1 x3 hP hK hT b h 0 Q k) (fun k => Cert.Attn.score_ne_top x0 x1 x3 hP hK hT b h 1 Q k) Q
    (Cert.Attn.score_real x0 x1 x3 hP hK hT b h 0 Q Q le_rfl).ne.2 (Cert.Attn.score_real x0 x1 x3 hP hK hT b h 1 Q Q le_rfl).ne.2 (fun k => (hV _).ne) hl.ne

/-- The operands that a value needs finite. -/
def Finite : Prop :=
  (∀ (b : Fin 4) (q : Fin 2048) (e : Fin 8192), e.val < 3072 → Real' ((m (c.tc.loc main_arg0) : FVec Ideal S4x2048x8192 .f32) (ix3 b q e)))
    ∧ (∀ y, Real' ((m (c.tc.loc main_arg1) : FVec Ideal S4x2048x12x2x128 .f32) y)) ∧ (∀ y, Real' ((m (c.tc.loc main_arg2) : FVec Ideal S4x2048x12x256 .f32) y))
    ∧ (∀ y, Real' ((m (c.tc.loc main_arg3) : FVec Ideal S32x12 .f32) y))
    ∧ (∀ y, Real' ((m (c.tc.loc main_arg4) : FVec Ideal S128 .f32) y)) ∧ (∀ y, Real' ((m (c.tc.loc main_arg5) : FVec Ideal S128 .f32) y))
    ∧ (∀ y, Real' ((m (c.tc.loc main_arg6) : FVec Ideal S128 .f32) y)) ∧ (∀ y, Real' ((m (c.tc.loc main_arg7) : FVec Ideal S128 .f32) y))

theorem point (hf : Finite m c) (t : Fin cfg0.N) (r : Fin 512) (e : Fin 256) :
    outAt m c t (ix3 0 r e) = refOf m c (ix3 (bOf t) (qOf t r) ⟨256 * (hOf t).val + e.val, by omega⟩) := by
  obtain ⟨hP, hK, hV, hT, h4, h5, h6, h7⟩ := hf
  refine (out_at m c t r e).trans (Eq.trans ?_ (Cert.ReferenceIdeal.Row.result_at _ _ _ _ _ _ _ _ _ (bOf t) (hOf t) (qOf t r) e).symm)
  refine congrArg (fun o => post o ((m (c.tc.loc main_arg8) : FVec Ideal S256 .f32) (ix1 e)) ((m (c.tc.loc main_arg0) : FVec Ideal S4x2048x8192 .f32) (ix3 (bOf t) (qOf t r) ⟨3072 + 256 * (hOf t).val + e.val, by omega⟩)) e) (funext fun x => ?_)
  have hq : (qOf t r).val = 512 * (t.val % 4) + r.val := rfl
  exact row_value _ _ _ _ _ hP hK hV hT (Cert.Attn.lamOf_real _ _ _ _ (fun k => h4 _) (fun k => h5 _) (fun k => h6 _) (fun k => h7 _)) (bOf t) (hOf t) (qOf t r) (t.val % 4) (by omega) (by omega) x

theorem array_eq (hf : Finite m c) : (dats m 0 c).arrAt 9 cfg0.N = refOf m c := by
  refine (dats m 0 c).arrAt_eq_of_covers 9 _ (by decide +kernel) fun t hfl y => ?_
  blk_simp
  rw [left9]
  have hy : y = ix3 0 (y 1) (y 2) := by
    funext a
    fin_cases a
    · exact Fin.ext (Nat.lt_one_iff.mp (y 0).isLt)
    · rfl
    · rfl
  rw [hy]
  refine (point m c hf t (y 1) (y 2)).trans ?_
  refine congrArg (refOf m c) ?_
  blk_ext [idx9 t]
  · rfl
  · show 512 * (t.val % 4) + (y 1).val = t.val % 4 * 512 + (y 1).val
    omega
  · show 256 * (t.val / 4 % 12) + (y 2).val = t.val / 4 % 12 * 256 + (y 2).val
    omega

end Cert.KernelIdeal.Host
end
end
-- ==== Proof.Kernel2IdealOut.lean ====
module

public import proofs.«01_k».proof.Proof.Gen.Kernel2Ideal.Frame
public import Idealize.ShloMosaic.Lib.Pipeline.ValueKit
public import Idealize.ShloMosaic.Lib.Pointwise

@[expose] public section

/-! What the projection's body leaves: the normalised rows in the scratch, and the rows' product with the block of the
weights. -/

set_option maxRecDepth 16384

noncomputable section

namespace Cert.Kernel2Ideal.Row

open Cert.Kernel2Ideal Cert.Kernel2Ideal.Gen
open Idealize.ShloMosaic Idealize.ShloMosaic.TcCoe Idealize.ShloMosaic.Tactic

/-- A row's normaliser: the reciprocal root of its mean square. -/
def inv (x0 : FVec Ideal S512x4096 .f32) (r : Fin 512) : EReal :=
  Ideal.rsqrt (Ideal.div (∑ k : Fin 4096, x0 (ix2 r k) * x0 (ix2 r k)) (Ideal.ofBits .f32 0x45800000#32) + Ideal.ofBits .f32 0x358637BD#32)

/-- A normalised row, scaled. -/
def nrow (x0 : FVec Ideal S512x4096 .f32) (x1 : FVec Ideal S1x4096 .f32) (r : Fin 512) (k : Fin 4096) : EReal :=
  x0 (ix2 r k) * inv x0 r * x1 (ix2 0 k)

theorem inv_at (x0 : FVec Ideal S512x4096 .f32) (r : Fin 512) : k0_pay4 (F := Ideal) x0 (ix2 r 0) = inv x0 r := by
  pointwise [k0_pay4, inv]

theorem chunk_at (v : FVec Ideal S512x1 .f32) (a : FVec Ideal S512x256 .f32) (b : FVec Ideal S1x256 .f32) (r : Fin 512) (q : Fin 256) :
    k0_pay10 (F := Ideal) v a b (ix2 r q) = a (ix2 r q) * v (ix2 r 0) * b (ix2 0 q) := by
  pointwise [k0_pay10]

theorem add_at (A : FVec Ideal S512x1024 .f32) (h : FVec Ideal S512x256 .bf16) (w : FVec Ideal S256x1024 .bf16) (r : Fin 512) (n : Fin 1024) :
    k0_pay2 (F := Ideal) A h w (ix2 r n) = A (ix2 r n) + ∑ q : Fin 256, h (ix2 r q) * w (ix2 q n) := by
  pointwise [k0_pay2]

theorem full_at (h : FVec Ideal S512x4096 .bf16) (w : FVec Ideal S4096x1024 .bf16) (r : Fin 512) (n : Fin 1024) :
    k0_pay3 (F := Ideal) h w (ix2 r n) = ∑ k : Fin 4096, h (ix2 r k) * w (ix2 k n) := by
  pointwise [k0_pay3]

theorem first_at (x0 : FVec Ideal S512x4096 .f32) (a : FVec Ideal S512x256 .f32) (b : FVec Ideal S1x256 .f32) (w : FVec Ideal S256x1024 .bf16) (r : Fin 512) (n : Fin 1024) :
    k0_pay7 (F := Ideal) x0 a b w (ix2 r n) = ∑ q : Fin 256, k0_pay10 (F := Ideal) (k0_pay4 (F := Ideal) x0) a b (ix2 r q) * w (ix2 q n) := by
  have e : k0_pay5 (F := Ideal) x0 a b = k0_pay10 (F := Ideal) (k0_pay4 (F := Ideal) x0) a b := rfl
  unfold k0_pay7
  rw [e]
  generalize k0_pay10 (F := Ideal) (k0_pay4 (F := Ideal) x0) a b = h
  pointwise

/-- A function of the columns at a number. -/
def upTo (f : Fin 4096 → EReal) (k : ℕ) : EReal := if h : k < 4096 then f ⟨k, h⟩ else 0

theorem upTo_at (f : Fin 4096 → EReal) {k : ℕ} (h : k < 4096) : upTo f k = f ⟨k, h⟩ := dif_pos h

theorem upTo_sum (f : Fin 4096 → EReal) : ∑ k ∈ Finset.range 4096, upTo f k = ∑ k, f k := by
  rw [← Fin.sum_univ_eq_sum_range]
  exact Finset.sum_congr rfl fun k _ => dif_pos k.isLt

section
variable (x0 : FVec Ideal S512x4096 .f32) (x1 : FVec Ideal S1x4096 .f32) (x2 : FVec Ideal S4096x1024 .bf16)

/-- The columns `o … o + 255` of the rows, of the scale, and those rows of the weights. -/
abbrev cutX (o : ℕ) (i0 : ∀ a, ![0, o] a + ![512, 256] a ≤ S512x4096.size a) : FVec Ideal S512x256 .f32 :=
  View.ld (Val := Elt Ideal) (e' := .f32) x0 (Rect.unit (s := S512x4096) ![0, o] ![512, 256] i0)
abbrev cutG (o : ℕ) (i1 : ∀ a, ![0, o] a + ![1, 256] a ≤ S1x4096.size a) : FVec Ideal S1x256 .f32 :=
  View.ld (Val := Elt Ideal) (e' := .f32) x1 (Rect.unit (s := S1x4096) ![0, o] ![1, 256] i1)
abbrev cutW (o : ℕ) (i2 : ∀ a, ![o, 0] a + ![256, 1024] a ≤ S4096x1024.size a) : FVec Ideal S256x1024 .bf16 :=
  View.ld (Val := Elt Ideal) (e' := .bf16) x2 (Rect.unit (s := S4096x1024) ![o, 0] ![256, 1024] i2)

/-- The columns `o … o + 255` of the normalised rows. -/
theorem cols_at (o : ℕ) (ho : o + 256 ≤ 4096) (i0 : ∀ a, ![0, o] a + ![512, 256] a ≤ S512x4096.size a) (i1 : ∀ a, ![0, o] a + ![1, 256] a ≤ S1x4096.size a)
    (r : Fin 512) (q : Fin 256) :
    k0_pay10 (F := Ideal) (k0_pay4 (F := Ideal) x0) (cutX x0 o i0) (cutG x1 o i1) (ix2 r q)
      = nrow x0 x1 r ⟨o + q.val, by omega⟩ := by
  refine (chunk_at _ _ _ r q).trans ?_
  rw [inv_at]
  have e0 : cutX x0 o i0 (ix2 r q) = x0 (ix2 r ⟨o + q.val, by omega⟩) :=
    View.ld_unit_apply_of (Val := Elt Ideal) (S := S512x4096) (e := .f32) x0 ![0, o] ![512, 256] i0 (ix2 r q) (ix2 r ⟨o + q.val, by omega⟩) fun a => by fin_cases a <;> simp [ix2]
  have e1 : cutG x1 o i1 (ix2 0 q) = x1 (ix2 0 ⟨o + q.val, by omega⟩) :=
    View.ld_unit_apply_of (Val := Elt Ideal) (S := S1x4096) (e := .f32) x1 ![0, o] ![1, 256] i1 (ix2 0 q) (ix2 0 ⟨o + q.val, by omega⟩) fun a => by fin_cases a <;> simp [ix2]
  exact congrArg₂ (· * ·) (congrArg (· * inv x0 r) e0) e1

theorem dot_at (o : ℕ) (ho : o + 256 ≤ 4096) (i0 : ∀ a, ![0, o] a + ![512, 256] a ≤ S512x4096.size a) (i1 : ∀ a, ![0, o] a + ![1, 256] a ≤ S1x4096.size a)
    (i2 : ∀ a, ![o, 0] a + ![256, 1024] a ≤ S4096x1024.size a) (r : Fin 512) (n : Fin 1024) :
    ∑ q : Fin 256, k0_pay10 (F := Ideal) (k0_pay4 (F := Ideal) x0) (cutX x0 o i0) (cutG x1 o i1) (ix2 r q)
        * cutW x2 o i2 (ix2 q n)
      = ∑ q ∈ Finset.range 256, upTo (fun k => nrow x0 x1 r k * x2 (ix2 k n)) (o + q) := by
  rw [← Fin.sum_univ_eq_sum_range (fun q => upTo (fun k => nrow x0 x1 r k * x2 (ix2 k n)) (o + q))]
  refine Finset.sum_congr rfl fun q _ => ?_
  have hq : o + q.val < 4096 := by omega
  have e2 : cutW x2 o i2 (ix2 q n) = x2 (ix2 ⟨o + q.val, hq⟩ n) :=
    View.ld_unit_apply_of (Val := Elt Ideal) (S := S4096x1024) (e := .bf16) x2 ![o, 0] ![256, 1024] i2 (ix2 q n) (ix2 ⟨o + q.val, hq⟩ n) fun a => by fin_cases a <;> simp [ix2]
  exact (congrArg₂ (· * ·) (cols_at x0 x1 o ho i0 i1 r q) e2).trans (upTo_at (fun k => nrow x0 x1 r k * x2 (ix2 k n)) hq).symm

theorem more_at (A : FVec Ideal S512x1024 .f32) (o : ℕ) (ho : o + 256 ≤ 4096) (i0 : ∀ a, ![0, o] a + ![512, 256] a ≤ S512x4096.size a) (i1 : ∀ a, ![0, o] a + ![1, 256] a ≤ S1x4096.size a)
    (i2 : ∀ a, ![o, 0] a + ![256, 1024] a ≤ S4096x1024.size a) (r : Fin 512) (n : Fin 1024) (N : ℕ) (hN : o = N * 256)
    (hA : A (ix2 r n) = ∑ a ∈ Finset.range N, ∑ q ∈ Finset.range 256, upTo (fun k => nrow x0 x1 r k * x2 (ix2 k n)) (a * 256 + q)) :
    k0_pay2 (F := Ideal) A (k0_pay10 (F := Ideal) (k0_pay4 (F := Ideal) x0) (cutX x0 o i0) (cutG x1 o i1))
        (cutW x2 o i2) (ix2 r n)
      = ∑ a ∈ Finset.range (N + 1), ∑ q ∈ Finset.range 256, upTo (fun k => nrow x0 x1 r k * x2 (ix2 k n)) (a * 256 + q) := by
  refine (add_at _ _ _ r n).trans ?_
  rw [Finset.sum_range_succ, hA, dot_at x0 x1 x2 o ho i0 i1 i2 r n, hN]

/-- The stored columns are the columns. -/
theorem stored_at (o : ℕ) (ho : o + 256 ≤ 4096) (i0 : ∀ a, ![0, o] a + ![512, 256] a ≤ S512x4096.size a) (i1 : ∀ a, ![0, o] a + ![1, 256] a ≤ S1x4096.size a)
    (x : S512x256.Idx) :
    k0_pay11 (F := Ideal) (k0_pay4 (F := Ideal) x0) (cutX x0 o i0) (cutG x1 o i1) x
      = (fun y : S512x4096.Idx => nrow x0 x1 (y 0) (y 1)) ((Rect.unit (s := S512x4096) ![0, o] ![512, 256] i0).emb x) := by
  have e : ∀ h : FVec Ideal S512x256 .bf16, shapeCast S512x256 h shapeCasts_S512x256_S512x256 = h := fun h => by
    funext y
    obtain ⟨r, q, rfl⟩ : ∃ r q, y = ix2 r q := ⟨y 0, y 1, by funext a; fin_cases a <;> rfl⟩
    pointwise
  unfold k0_pay11
  refine (congrFun (e _) x).trans ?_
  obtain ⟨r, q, rfl⟩ : ∃ r q, x = ix2 r q := ⟨x 0, x 1, by funext a; fin_cases a <;> rfl⟩
  refine (cols_at x0 x1 o ho i0 i1 r q).trans ?_
  refine congrArg₂ (nrow x0 x1) (Fin.ext ?_) (Fin.ext ?_)
  · simp [ix2]
  · simp [ix2]
end

section
variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x4096 .bf16) (harg6 : arg6.IsWhole)
  (x0 : Vec Ideal S512x4096 .f32) (x1 : Vec Ideal S1x4096 .f32) (x2 : Vec Ideal S4096x1024 .bf16) (xs0 : Vec Ideal S512x4096 .bf16)

theorem out_later (hc0 : ¬cond0_0 i) (hc1 : cond0_1 i) :
    out0_B_3 c i arg2 harg2 arg3 harg3 arg4 harg4 arg5 harg5 arg6 harg6 hc0 hc1 x0 x1 x2 xs0 = k0_pay3 xs0 x2 := by
  frame_out

/-- The first column of a row block: the rows' product with the weights, 256 rows of the weights at a time. -/
theorem out_first (hc0 : cond0_0 i) (hc1 : ¬cond0_1 i) (r : Fin 512) (n : Fin 1024) :
    out0_A_3 c i arg2 harg2 arg3 harg3 arg4 harg4 arg5 harg5 arg6 harg6 hc0 hc1 x0 x1 x2 (ix2 r n) = ∑ k : Fin 4096, nrow x0 x1 r k * x2 (ix2 k n) := by
  have h0 : k0_pay7 (F := Ideal) x0 (View.ld x0 (Rect.unit ![0, 0] ![512, 256] inb_S512x4096_S512x256_0_0)) (View.ld x1 (Rect.unit ![0, 0] ![1, 256] inb_S1x4096_S1x256_0_0)) (View.ld x2 (Rect.unit ![0, 0] ![256, 1024] inb_S4096x1024_S256x1024_0_0)) (ix2 r n) = ∑ a ∈ Finset.range 1, ∑ q ∈ Finset.range 256, upTo (fun k => nrow x0 x1 r k * x2 (ix2 k n)) (a * 256 + q) := by
    refine (first_at _ _ _ _ r n).trans ((dot_at x0 x1 x2 0 (by decide) _ _ _ r n).trans ?_)
    simp only [Finset.sum_range_one, Nat.zero_mul]
  have h1 := more_at x0 x1 x2 _ 256 (by decide) inb_S512x4096_S512x256_0_256 inb_S1x4096_S1x256_0_256 inb_S4096x1024_S256x1024_256_0 r n 1 rfl h0
  have h2 := more_at x0 x1 x2 _ 512 (by decide) inb_S512x4096_S512x256_0_512 inb_S1x4096_S1x256_0_512 inb_S4096x1024_S256x1024_512_0 r n 2 rfl h1
  have h3 := more_at x0 x1 x2 _ 768 (by decide) inb_S512x4096_S512x256_0_768 inb_S1x4096_S1x256_0_768 inb_S4096x1024_S256x1024_768_0 r n 3 rfl h2
  have h4 := more_at x0 x1 x2 _ 1024 (by decide) inb_S512x4096_S512x256_0_1024 inb_S1x4096_S1x256_0_1024 inb_S4096x1024_S256x1024_1024_0 r n 4 rfl h3
  have h5 := more_at x0 x1 x2 _ 1280 (by decide) inb_S512x4096_S512x256_0_1280 inb_S1x4096_S1x256_0_1280 inb_S4096x1024_S256x1024_1280_0 r n 5 rfl h4
  have h6 := more_at x0 x1 x2 _ 1536 (by decide) inb_S512x4096_S512x256_0_1536 inb_S1x4096_S1x256_0_1536 inb_S4096x1024_S256x1024_1536_0 r n 6 rfl h5
  have h7 := more_at x0 x1 x2 _ 1792 (by decide) inb_S512x4096_S512x256_0_1792 inb_S1x4096_S1x256_0_1792 inb_S4096x1024_S256x1024_1792_0 r n 7 rfl h6
  have h8 := more_at x0 x1 x2 _ 2048 (by decide) inb_S512x4096_S512x256_0_2048 inb_S1x4096_S1x256_0_2048 inb_S4096x1024_S256x1024_2048_0 r n 8 rfl h7
  have h9 := more_at x0 x1 x2 _ 2304 (by decide) inb_S512x4096_S512x256_0_2304 inb_S1x4096_S1x256_0_2304 inb_S4096x1024_S256x1024_2304_0 r n 9 rfl h8
  have h10 := more_at x0 x1 x2 _ 2560 (by decide) inb_S512x4096_S512x256_0_2560 inb_S1x4096_S1x256_0_2560 inb_S4096x1024_S256x1024_2560_0 r n 10 rfl h9
  have h11 := more_at x0 x1 x2 _ 2816 (by decide) inb_S512x4096_S512x256_0_2816 inb_S1x4096_S1x256_0_2816 inb_S4096x1024_S256x1024_2816_0 r n 11 rfl h10
  have h12 := more_at x0 x1 x2 _ 3072 (by decide) inb_S512x4096_S512x256_0_3072 inb_S1x4096_S1x256_0_3072 inb_S4096x1024_S256x1024_3072_0 r n 12 rfl h11
  have h13 := more_at x0 x1 x2 _ 3328 (by decide) inb_S512x4096_S512x256_0_3328 inb_S1x4096_S1x256_0_3328 inb_S4096x1024_S256x1024_3328_0 r n 13 rfl h12
  have h14 := more_at x0 x1 x2 _ 3584 (by decide) inb_S512x4096_S512x256_0_3584 inb_S1x4096_S1x256_0_3584 inb_S4096x1024_S256x1024_3584_0 r n 14 rfl h13
  have h15 := more_at x0 x1 x2 _ 3840 (by decide) inb_S512x4096_S512x256_0_3840 inb_S1x4096_S1x256_0_3840 inb_S4096x1024_S256x1024_3840_0 r n 15 rfl h14
  refine Eq.trans (Eq.trans ?_ h15) ((Finset.sum_range_mul_split 16 256 (upTo fun k => nrow x0 x1 r k * x2 (ix2 k n))).symm.trans (upTo_sum _))
  refine congrFun ?_ (ix2 r n)
  frame_out
  rfl

theorem kept_first (hc0 : cond0_0 i) (hc1 : ¬cond0_1 i) (r : Fin 512) (k : Fin 4096) :
    sout0_A_0 c i arg2 harg2 arg3 harg3 arg4 harg4 arg5 harg5 arg6 harg6 hc0 hc1 x0 x1 x2 (ix2 r k) = nrow x0 x1 r k := by
  suffices h : sout0_A_0 c i arg2 harg2 arg3 harg3 arg4 harg4 arg5 harg5 arg6 harg6 hc0 hc1 x0 x1 x2 = fun y : S512x4096.Idx => nrow x0 x1 (y 0) (y 1) from congrFun h _
  frame_out
  funext y
  refine View.canon_apply_of_pieces (Val := Elt Ideal) (S := S512x4096) (e := .bf16) (fun y : S512x4096.Idx => nrow x0 x1 (y 0) (y 1)) _ ?_ y (View.cover_of_tiledL (s := S512x4096) _ ![512, 256] (by sl_kernel_rfl) y)
  refine List.forall_mem_cons.mpr ⟨stored_at x0 x1 3840 (by decide) _ _, ?_⟩
  refine List.forall_mem_cons.mpr ⟨stored_at x0 x1 3584 (by decide) _ _, ?_⟩
  refine List.forall_mem_cons.mpr ⟨stored_at x0 x1 3328 (by decide) _ _, ?_⟩
  refine List.forall_mem_cons.mpr ⟨stored_at x0 x1 3072 (by decide) _ _, ?_⟩
  refine List.forall_mem_cons.mpr ⟨stored_at x0 x1 2816 (by decide) _ _, ?_⟩
  refine List.forall_mem_cons.mpr ⟨stored_at x0 x1 2560 (by decide) _ _, ?_⟩
  refine List.forall_mem_cons.mpr ⟨stored_at x0 x1 2304 (by decide) _ _, ?_⟩
  refine List.forall_mem_cons.mpr ⟨stored_at x0 x1 2048 (by decide) _ _, ?_⟩
  refine List.forall_mem_cons.mpr ⟨stored_at x0 x1 1792 (by decide) _ _, ?_⟩
  refine List.forall_mem_cons.mpr ⟨stored_at x0 x1 1536 (by decide) _ _, ?_⟩
  refine List.forall_mem_cons.mpr ⟨stored_at x0 x1 1280 (by decide) _ _, ?_⟩
  refine List.forall_mem_cons.mpr ⟨stored_at x0 x1 1024 (by decide) _ _, ?_⟩
  refine List.forall_mem_cons.mpr ⟨stored_at x0 x1 768 (by decide) _ _, ?_⟩
  refine List.forall_mem_cons.mpr ⟨stored_at x0 x1 512 (by decide) _ _, ?_⟩
  refine List.forall_mem_cons.mpr ⟨stored_at x0 x1 256 (by decide) _ _, ?_⟩
  refine List.forall_mem_cons.mpr ⟨stored_at x0 x1 0 (by decide) _ _, ?_⟩
  exact fun p hp => absurd hp List.not_mem_nil
end
end Cert.Kernel2Ideal.Row
end
end
-- ==== Proof.Reference2Row.lean ====
module

public import proofs.«01_k».proof.Proof.Gen.Reference2Ideal.Read
public import Idealize.ShloMosaic.Lib.Pointwise
public import Idealize.ShloMosaic.Lib.Pipeline.ValueKit

@[expose] public section

/-! The reference projection's result, by index. -/

set_option maxRecDepth 16384

noncomputable section

namespace Cert.Reference2Ideal.Row

open Cert.Reference2Ideal Cert.Reference2Ideal.Gen Cert.Reference2Ideal.Read
open Idealize.ShloMosaic Idealize.ShloMosaic.TcCoe

/-- A row of the activations, normalised and scaled. -/
def normed (x : FVec Ideal S4x2048x4096 .f32) (g : FVec Ideal S4096 .f32) (b : Fin 4) (q : Fin 2048) (k : Fin 4096) : EReal :=
  x (ix3 b q k) * Ideal.rsqrt (Ideal.div (∑ k : Fin 4096, x (ix3 b q k) * x (ix3 b q k)) (Ideal.ofBits .f32 0x45800000#32) + Ideal.ofBits .f32 0x358637BD#32) * g (ix1 k)

variable (x : FVec Ideal S4x2048x4096 .f32) (g : FVec Ideal S4096 .f32) (w : FVec Ideal S4096x11264 .f32)

theorem square_at (b : Fin 4) (q : Fin 2048) : val_main_v1 (F := Ideal) x (ix2 b q) = ∑ k : Fin 4096, x (ix3 b q k) * x (ix3 b q k) := by
  have z : (FloatOps.ofBits (F := Ideal) .f32 0x00000000#32 : EReal) = 0 := by
    show Ideal.ofBits .f32 0x00000000#32 = 0
    simp [Ideal.ofBits, Ideal.ieee]
  rw [val_main_v1_apply, val_main_cst_apply, z, zero_add]
  refine Finset.sum_congr rfl fun k _ => ?_
  have e : idx_main_v1 (ix2 b q) k = ix3 b q k := by funext a; fin_cases a <;> rfl
  rw [e, val_main_v0_apply]
  rfl

theorem inverse_at (b : Fin 4) (q : Fin 2048) (k : Fin 4096) : val_main_v8 (F := Ideal) x (ix3 b q k)
    = Ideal.rsqrt (Ideal.div (∑ k : Fin 4096, x (ix3 b q k) * x (ix3 b q k)) (Ideal.ofBits .f32 0x45800000#32) + Ideal.ofBits .f32 0x358637BD#32) := by
  have e : idx_main_v2 (idx_main_v8 (ix3 b q k)) = ix2 b q := by funext a; fin_cases a <;> rfl
  rw [val_main_v8_apply, val_main_v7_apply, val_main_v6_apply, val_main_v5_apply, val_main_cst_1_apply, val_main_v4_apply, val_main_v3_apply, val_main_cst_0_apply, val_main_v2_apply, e, square_at]
  rfl

theorem normed_at (b : Fin 4) (q : Fin 2048) (k : Fin 4096) : val_main_v12 (F := Ideal) x g (ix3 b q k) = normed x g b q k := by
  have e : idx_main_v10 (idx_main_v11 (ix3 b q k)) = ix1 k := by funext a; fin_cases a; rfl
  rw [val_main_v12_apply, val_main_v9_apply, val_main_v11_apply, val_main_v10_apply, e, inverse_at]
  rfl

theorem result_at (R : Fin 8192) (n : Fin 11264) : val_main_v14 (F := Ideal) x g w (ix2 R n)
    = ∑ k : Fin 4096, normed x g ⟨R.val / 2048, by omega⟩ ⟨R.val % 2048, by omega⟩ k * w (ix2 k n) := by
  have e : idx_main_v14 (ix2 R n) = ix3 ⟨R.val / 2048, by omega⟩ ⟨R.val % 2048, by omega⟩ n := by
    have hn := n.isLt
    funext a
    fin_cases a
    · exact Fin.ext (show (R.val * 11264 + n.val) / 23068672 = R.val / 2048 by omega)
    · exact Fin.ext (show (R.val * 11264 + n.val) / 11264 % 2048 = R.val % 2048 by omega)
    · exact Fin.ext (show (R.val * 11264 + n.val) % 11264 = n.val by omega)
  rw [val_main_v14_apply, e, val_main_v13_apply]
  refine Finset.sum_congr rfl fun k _ => ?_
  rw [← normed_at]
  refine congrArg₂ (fun i j => val_main_v12 (F := Ideal) x g i * w j) ?_ ?_ <;> (funext a; fin_cases a <;> rfl)

end Cert.Reference2Ideal.Row
end
end
-- ==== Proof.Kernel2IdealValue.lean ====
module

public import proofs.«01_k».proof.Proof.Kernel2IdealOut
public import proofs.«01_k».proof.Proof.Reference2Row
public import Idealize.ShloMosaic.Lib.Claim
public import Idealize.ShloMosaic.Lib.StableHlo.RunRead

@[expose] public section

/-! The projection's result array, by index: the blocks its windows read, and what each point of the grid leaves. -/

set_option maxRecDepth 16384

noncomputable section

namespace Cert.Kernel2Ideal.Row

open Cert.Kernel2Ideal Cert.Kernel2Ideal.Gen
open Idealize.ShloMosaic Idealize.ShloMosaic.TcCoe Idealize.SL.Sem
open Cert.Reference2Ideal.Row (normed)

variable (m : (ℓ : Loc nD τ sig) → Buf (Elt Ideal) ℓ) (c : Dev nD)

theorem host0 : V m c main_v0 = shapeCast S8192x4096 (m (c.tc.loc main_arg0) : FVec Ideal S4x2048x4096 .f32) shapeCasts_S4x2048x4096_S8192x4096 := by
  simp only [V, hostOps0, List.flatten_cons, List.flatten_nil, List.append_nil, List.cons_append, List.nil_append]
  after_reads_simp
  rfl

theorem host1 : V m c main_v2 = shapeCast S1x4096 (m (c.tc.loc main_arg1) : FVec Ideal S4096 .f32) shapeCasts_S4096_S1x4096 := by
  simp only [V, hostOps0, List.flatten_cons, List.flatten_nil, List.append_nil, List.cons_append, List.nil_append]
  after_reads_simp
  rfl

theorem host2 : V m c main_v1 = (truncf .bf16 (m (c.tc.loc main_arg2) : FVec Ideal S4096x11264 .f32) bitsLt_bf16_f32 : FVec Ideal S4096x11264 .bf16) := by
  simp only [V, hostOps0, List.flatten_cons, List.flatten_nil, List.append_nil, List.cons_append, List.nil_append]
  after_reads_simp

theorem flat0 (X : FVec Ideal S4x2048x4096 .f32) (R : Fin 8192) (k : Fin 4096) :
    shapeCast S8192x4096 X shapeCasts_S4x2048x4096_S8192x4096 (ix2 R k) = X (ix3 ⟨R.val / 2048, by omega⟩ ⟨R.val % 2048, by omega⟩ k) := by
  pointwise

theorem flat1 (X : FVec Ideal S4096 .f32) (k : Fin 4096) : shapeCast S1x4096 X shapeCasts_S4096_S1x4096 (ix2 0 k) = X (ix1 k) := by
  pointwise

theorem idx0 : ∀ t : Fin cfg0.N, win0_0.index t = ![t.val / 11, 0] := by decide +kernel
theorem idx1 : ∀ t : Fin cfg0.N, win0_1.index t = ![0, 0] := by decide +kernel
theorem idx2 : ∀ t : Fin cfg0.N, win0_2.index t = ![0, t.val % 11] := by decide +kernel
theorem idx3 : ∀ t : Fin cfg0.N, win0_3.index t = ![t.val / 11, t.val % 11] := by decide +kernel

/-- The row and the column of a grid point's block in the arrays. -/
def rOf (t : Fin cfg0.N) (r : Fin 512) : Fin 8192 := ⟨512 * (t.val / 11) + r.val, by have h : t.val < 176 := t.isLt; omega⟩
def nOf (t : Fin cfg0.N) (n : Fin 1024) : Fin 11264 := ⟨1024 * (t.val % 11) + n.val, by omega⟩

theorem read0 (t : Fin cfg0.N) (r : Fin 512) (k : Fin 4096) : iblk m c 0 t (ix2 r k) = V m c main_v0 (ix2 (rOf t r) k) := by
  obtain ⟨Y, hY⟩ : ∃ Y, V m c main_v0 = Y := ⟨_, rfl⟩
  rw [hY]
  unfold iblk
  have hV : V m c (Pipeline.arrRef spec0 0) = Y := hY
  generalize V m c (Pipeline.arrRef spec0 0) = X at hV ⊢
  subst hV
  blk_ext [idx0 t, rOf]

theorem read1 (t : Fin cfg0.N) (k : Fin 4096) : iblk m c 1 t (ix2 0 k) = V m c main_v2 (ix2 0 k) := by
  obtain ⟨Y, hY⟩ : ∃ Y, V m c main_v2 = Y := ⟨_, rfl⟩
  rw [hY]
  unfold iblk
  have hV : V m c (Pipeline.arrRef spec0 1) = Y := hY
  generalize V m c (Pipeline.arrRef spec0 1) = X at hV ⊢
  subst hV
  blk_ext [idx1 t]

theorem read2 (t : Fin cfg0.N) (k : Fin 4096) (n : Fin 1024) : iblk m c 2 t (ix2 k n) = V m c main_v1 (ix2 k (nOf t n)) := by
  obtain ⟨Y, hY⟩ : ∃ Y, V m c main_v1 = Y := ⟨_, rfl⟩
  rw [hY]
  unfold iblk
  have hV : V m c (Pipeline.arrRef spec0 2) = Y := hY
  generalize V m c (Pipeline.arrRef spec0 2) = X at hV ⊢
  subst hV
  blk_ext [idx2 t, nOf]

/-- The normalised rows of a device's activations, all rows in one list. -/
def rows (R : Fin 8192) (k : Fin 4096) : EReal :=
  normed (m (c.tc.loc main_arg0)) (m (c.tc.loc main_arg1)) ⟨R.val / 2048, by omega⟩ ⟨R.val % 2048, by omega⟩ k

theorem nrow_eq (x0 : FVec Ideal S512x4096 .f32) (x1 : FVec Ideal S1x4096 .f32) (r : Fin 512) (k : Fin 4096) (x : FVec Ideal S4x2048x4096 .f32) (g : FVec Ideal S4096 .f32) (b : Fin 4) (q : Fin 2048)
    (h0 : ∀ k, x0 (ix2 r k) = x (ix3 b q k)) (h1 : ∀ k, x1 (ix2 0 k) = g (ix1 k)) : nrow x0 x1 r k = normed x g b q k := by
  unfold nrow inv normed
  simp only [h0, h1]

theorem blk0 (t : Fin cfg0.N) (r : Fin 512) (k : Fin 4096) : iblk m c 0 t (ix2 r k)
    = (m (c.tc.loc main_arg0) : FVec Ideal S4x2048x4096 .f32) (ix3 ⟨(rOf t r).val / 2048, by omega⟩ ⟨(rOf t r).val % 2048, by omega⟩ k) :=
  (read0 m c t r k).trans ((congrFun (host0 m c) _).trans (flat0 _ _ k))

theorem blk1 (t : Fin cfg0.N) (k : Fin 4096) : iblk m c 1 t (ix2 0 k) = (m (c.tc.loc main_arg1) : FVec Ideal S4096 .f32) (ix1 k) :=
  (read1 m c t k).trans ((congrFun (host1 m c) _).trans (flat1 _ k))

theorem blk2 (t : Fin cfg0.N) (k : Fin 4096) (n : Fin 1024) : iblk m c 2 t (ix2 k n) = (m (c.tc.loc main_arg2) : FVec Ideal S4096x11264 .f32) (ix2 k (nOf t n)) :=
  (read2 m c t k n).trans (congrFun (host2 m c) _)

theorem nrow_blk (t : Fin cfg0.N) (r : Fin 512) (k : Fin 4096) : nrow (iblk m c 0 t) (iblk m c 1 t) r k = rows m c (rOf t r) k :=
  nrow_eq _ _ r k _ _ _ _ (fun k => blk0 m c t r k) fun k => blk1 m c t k

theorem kept_A (t : Fin cfg0.N) (h0 : t.val % 11 = 0) (r : Fin 512) (k : Fin 4096) : (outsAt0 m c t.val t.isLt).2 (ix2 r k) = rows m c (rOf t r) k := by
  rw [outsAt0_A m c t h0 (by omega)]
  dsimp only
  rw [kept_first]
  exact nrow_blk m c t r k

theorem kept_B (t : Fin cfg0.N) (h0 : ¬t.val % 11 = 0) : (outsAt0 m c t.val t.isLt).2 = (outsAt0 m c (t.val - 1) (lt_of_le_of_lt (Nat.sub_le _ _) t.isLt)).2 := by
  rw [outsAt0_B m c t h0 (by omega)]
  rfl

/-- At every point the scratch holds its row block's normalised rows. -/
theorem kept (n : ℕ) : ∀ (hn : n < cfg0.N) (r : Fin 512) (k : Fin 4096), (outsAt0 m c n hn).2 (ix2 r k) = rows m c (rOf ⟨n, hn⟩ r) k := by
  induction n with
  | zero => exact fun hn r k => kept_A m c ⟨0, hn⟩ rfl r k
  | succ n ih =>
    intro hn r k
    by_cases h0 : (n + 1) % 11 = 0
    · exact kept_A m c ⟨n + 1, hn⟩ h0 r k
    · refine (congrFun (kept_B m c ⟨n + 1, hn⟩ h0) _).trans ((ih (by omega) r k).trans ?_)
      refine congrArg (fun R => rows m c R k) (Fin.ext ?_)
      show 512 * (n / 11) + r.val = 512 * ((n + 1) / 11) + r.val
      have : (n + 1) / 11 = n / 11 := by omega
      rw [this]

/-- What a point leaves in its output block. -/
theorem out_at (t : Fin cfg0.N) (r : Fin 512) (n : Fin 1024) : (outsAt0 m c t.val t.isLt).1 (ix2 r n)
    = ∑ k : Fin 4096, rows m c (rOf t r) k * (m (c.tc.loc main_arg2) : FVec Ideal S4096x11264 .f32) (ix2 k (nOf t n)) := by
  by_cases h0 : t.val % 11 = 0
  · rw [outsAt0_A m c t h0 (by omega)]
    dsimp only
    rw [out_first]
    refine Finset.sum_congr rfl fun k _ => ?_
    exact congrArg₂ (· * ·) (nrow_blk m c t r k) (blk2 m c t k n)
  · have hk : ∀ k, (outsAt0 m c (t.val - 1) (lt_of_le_of_lt (Nat.sub_le _ _) t.isLt)).2 (ix2 r k) = rows m c (rOf t r) k := fun k =>
      (congrFun (kept_B m c t h0) _).symm.trans (kept m c t.val t.isLt r k)
    rw [outsAt0_B m c t h0 (by omega)]
    dsimp only
    rw [out_later]
    refine (full_at _ _ r n).trans (Finset.sum_congr rfl fun k _ => ?_)
    exact congrArg₂ (· * ·) (hk k) (blk2 m c t k n)

/-- The reference's value of a device's arguments. -/
def refOf : FVec Ideal S8192x11264 .f32 :=
  Cert.Reference2Ideal.Read.val_main_v14 (F := Ideal) (m (c.tc.loc main_arg0)) (m (c.tc.loc main_arg1)) (m (c.tc.loc main_arg2))

theorem array_eq : (dats m 0 c).arrAt 3 cfg0.N = refOf m c := by
  refine (dats m 0 c).arrAt_eq_of_covers 3 _ (by decide +kernel) fun t hfl y => ?_
  blk_simp
  rw [after0_3]
  have hy : y = ix2 (y 0) (y 1) := by
    funext a
    fin_cases a <;> rfl
  rw [hy]
  refine (out_at m c t (y 0) (y 1)).trans ((Cert.Reference2Ideal.Row.result_at _ _ _ (rOf t (y 0)) (nOf t (y 1))).symm.trans ?_)
  refine congrArg (refOf m c) ?_
  blk_ext [idx3 t]
  · show 512 * (t.val / 11) + (y 0).val = t.val / 11 * 512 + (y 0).val
    omega
  · show 1024 * (t.val % 11) + (y 1).val = t.val % 11 * 1024 + (y 1).val
    omega

theorem launched (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ ∀ c : Dev nD, r.2.mem ((c.tc : Thread nD τ).loc main_v3) = (dats m 0 c).arrAt 3 cfg0.N) :=
  θ_run_and (unchanged m ρ) ((θ_run defs _ _).mono (fun _ h c => (h c).1 3) (run_main m ρ))

end Cert.Kernel2Ideal.Row
end
end
-- ==== Proof.Reference3Row.lean ====
module

public import proofs.«01_k».proof.Proof.Gen.Reference3Ideal.Read
public import Idealize.ShloMosaic.Lib.Pointwise
public import Idealize.ShloMosaic.Lib.Pipeline.ValueKit

@[expose] public section

/-! The reference output projection's result, by index. -/

set_option maxRecDepth 16384

noncomputable section

namespace Cert.Reference3Ideal.Row

open Cert.Reference3Ideal Cert.Reference3Ideal.Gen Cert.Reference3Ideal.Read
open Idealize.ShloMosaic Idealize.ShloMosaic.TcCoe

variable (a : FVec Ideal S4x2048x3072 .f32) (b : FVec Ideal S4x2048x1024 .f32) (w : FVec Ideal S4096x4096 .f32) (x : FVec Ideal S4x2048x4096 .f32)

theorem joined_left (p : Fin 4) (q : Fin 2048) (k : Fin 3072) : val_main_v0 (F := Ideal) a b (ix3 p q ⟨k.val, by omega⟩) = a (ix3 p q k) :=
  concatenate_pair_apply_left (t := S4x2048x4096) 2 a b _ _ rfl (ix3 p q k) fun d => by fin_cases d <;> rfl

theorem joined_right (p : Fin 4) (q : Fin 2048) (k : Fin 1024) : val_main_v0 (F := Ideal) a b (ix3 p q ⟨3072 + k.val, by omega⟩) = b (ix3 p q k) := by
  refine concatenate_pair_apply_right (t := S4x2048x4096) 2 a b _ _ rfl rfl (ix3 p q k) ?_ ?_
  · intro d hd
    fin_cases d
    · rfl
    · rfl
    · exact absurd rfl hd
  · exact Nat.add_comm k.val 3072

/-- The result: the residual plus the two parts' products with their rows of the weights. -/
theorem result_at (R : Fin 8192) (n : Fin 4096) : val_main_v3 (F := Ideal) a b w x (ix2 R n)
    = x (ix3 ⟨R.val / 2048, by omega⟩ ⟨R.val % 2048, by omega⟩ n)
      + (∑ k : Fin 3072, a (ix3 ⟨R.val / 2048, by omega⟩ ⟨R.val % 2048, by omega⟩ k) * w (ix2 ⟨k.val, by omega⟩ n)
        + ∑ k : Fin 1024, b (ix3 ⟨R.val / 2048, by omega⟩ ⟨R.val % 2048, by omega⟩ k) * w (ix2 ⟨3072 + k.val, by omega⟩ n)) := by
  have e : idx_main_v3 (ix2 R n) = ix3 ⟨R.val / 2048, by omega⟩ ⟨R.val % 2048, by omega⟩ n := by
    have hn := n.isLt
    funext a
    fin_cases a
    · exact Fin.ext (show (R.val * 4096 + n.val) / 8388608 = R.val / 2048 by omega)
    · exact Fin.ext (show (R.val * 4096 + n.val) / 4096 % 2048 = R.val % 2048 by omega)
    · exact Fin.ext (show (R.val * 4096 + n.val) % 4096 = n.val by omega)
  rw [val_main_v3_apply, e, val_main_v2_apply, val_main_v1_apply]
  refine congrArg (x _ + ·) ?_
  have t : ∀ k : Fin 4096, val_main_v0 (F := Ideal) a b (lidx_main_v1 (ix3 ⟨R.val / 2048, by omega⟩ ⟨R.val % 2048, by omega⟩ n) k) * w (ridx_main_v1 (ix3 ⟨R.val / 2048, by omega⟩ ⟨R.val % 2048, by omega⟩ n) k)
      = val_main_v0 (F := Ideal) a b (ix3 ⟨R.val / 2048, by omega⟩ ⟨R.val % 2048, by omega⟩ k) * w (ix2 k n) := fun k => by
    refine congrArg₂ (fun i j => val_main_v0 (F := Ideal) a b i * w j) ?_ ?_ <;> (funext a; fin_cases a <;> rfl)
  refine (Finset.sum_congr rfl fun k _ => t k).trans ?_
  refine (Fin.sum_univ_add (a := 3072) (b := 1024) fun k : Fin 4096 => val_main_v0 (F := Ideal) a b (ix3 ⟨R.val / 2048, by omega⟩ ⟨R.val % 2048, by omega⟩ k) * w (ix2 k n)).trans ?_
  refine congrArg₂ (· + ·) (Finset.sum_congr rfl fun k _ => ?_) (Finset.sum_congr rfl fun k _ => ?_)
  · exact congrArg (· * w (ix2 ⟨k.val, by omega⟩ n)) (joined_left a b _ _ k)
  · exact congrArg (· * w (ix2 ⟨3072 + k.val, by omega⟩ n)) (joined_right a b _ _ k)

end Cert.Reference3Ideal.Row
end
end
-- ==== Proof.Kernel3IdealValue.lean ====
module

public import proofs.«01_k».proof.Proof.Gen.Kernel3Ideal.Frame
public import proofs.«01_k».proof.Proof.Reference3Row
public import Idealize.ShloMosaic.Lib.Claim
public import Idealize.ShloMosaic.Lib.StableHlo.RunRead

@[expose] public section

/-! The output projection's result array, by index. -/

set_option maxRecDepth 16384

noncomputable section

namespace Cert.Kernel3Ideal.Out

open Cert.Kernel3Ideal Cert.Kernel3Ideal.Gen
open Idealize.ShloMosaic Idealize.ShloMosaic.TcCoe Idealize.ShloMosaic.Tactic Idealize.SL.Sem

theorem sum_at (a : FVec Ideal S512x3072 .bf16) (u : FVec Ideal S3072x1024 .bf16) (b : FVec Ideal S512x1024 .bf16) (v : FVec Ideal S1024x1024 .bf16) (x : FVec Ideal S512x1024 .f32)
    (r : Fin 512) (n : Fin 1024) : k0_pay1 (F := Ideal) a u b v x (ix2 r n)
      = x (ix2 r n) + (∑ k : Fin 3072, a (ix2 r k) * u (ix2 k n) + ∑ k : Fin 1024, b (ix2 r k) * v (ix2 k n)) := by
  pointwise [k0_pay1]

/-- What the body leaves in its output block. -/
theorem out_eq (x0 : FVec Ideal S512x3072 .bf16) (x1 : FVec Ideal S512x1024 .bf16) (x2 : FVec Ideal S4096x1024 .bf16) (x3 : FVec Ideal S512x1024 .f32) (r : Fin 512) (n : Fin 1024) :
    out0_4 (F := Ideal) x0 x1 x2 x3 (ix2 r n)
      = x3 (ix2 r n) + (∑ k : Fin 3072, x0 (ix2 r k) * x2 (ix2 ⟨k.val, by omega⟩ n) + ∑ k : Fin 1024, x1 (ix2 r k) * x2 (ix2 ⟨3072 + k.val, by omega⟩ n)) := by
  have e : out0_4 (F := Ideal) x0 x1 x2 x3 = k0_pay1 (F := Ideal) x0 (View.ld x2 r0_1) x1 (View.ld x2 r0_3) x3 := by
    frame_out
  rw [e, sum_at]
  refine congrArg (x3 (ix2 r n) + ·) (congrArg₂ (· + ·) (Finset.sum_congr rfl fun k _ => congrArg (x0 (ix2 r k) * ·) ?_) (Finset.sum_congr rfl fun k _ => congrArg (x1 (ix2 r k) * ·) ?_))
  · exact View.ld_unit_apply_of (Val := Elt Ideal) (S := S4096x1024) (e := .bf16) x2 ![0, 0] ![3072, 1024] _ (ix2 k n) (ix2 ⟨k.val, by omega⟩ n) fun a => by fin_cases a <;> simp [ix2]
  · exact View.ld_unit_apply_of (Val := Elt Ideal) (S := S4096x1024) (e := .bf16) x2 ![3072, 0] ![1024, 1024] _ (ix2 k n) (ix2 ⟨3072 + k.val, by omega⟩ n) fun a => by fin_cases a <;> simp [ix2]

variable (m : (ℓ : Loc nD τ sig) → Buf (Elt Ideal) ℓ) (c : Dev nD)

theorem host0 : V m c main_v1 = (truncf .bf16 (shapeCast S8192x3072 (m (c.tc.loc main_arg0) : FVec Ideal S4x2048x3072 .f32) shapeCasts_S4x2048x3072_S8192x3072) bitsLt_bf16_f32 : FVec Ideal S8192x3072 .bf16) := by
  simp only [V, hostOps0, List.flatten_cons, List.flatten_nil, List.append_nil, List.cons_append, List.nil_append]
  after_reads_simp
  rfl

theorem host1 : V m c main_v3 = (truncf .bf16 (shapeCast S8192x1024 (m (c.tc.loc main_arg1) : FVec Ideal S4x2048x1024 .f32) shapeCasts_S4x2048x1024_S8192x1024) bitsLt_bf16_f32 : FVec Ideal S8192x1024 .bf16) := by
  simp only [V, hostOps0, List.flatten_cons, List.flatten_nil, List.append_nil, List.cons_append, List.nil_append]
  after_reads_simp
  rfl

theorem host2 : V m c main_v4 = (truncf .bf16 (m (c.tc.loc main_arg2) : FVec Ideal S4096x4096 .f32) bitsLt_bf16_f32 : FVec Ideal S4096x4096 .bf16) := by
  simp only [V, hostOps0, List.flatten_cons, List.flatten_nil, List.append_nil, List.cons_append, List.nil_append]
  after_reads_simp

theorem host3 : V m c main_v5 = shapeCast S8192x4096 (m (c.tc.loc main_arg3) : FVec Ideal S4x2048x4096 .f32) shapeCasts_S4x2048x4096_S8192x4096 := by
  simp only [V, hostOps0, List.flatten_cons, List.flatten_nil, List.append_nil, List.cons_append, List.nil_append]
  after_reads_simp
  rfl

theorem flat0 (X : FVec Ideal S4x2048x3072 .f32) (R : Fin 8192) (k : Fin 3072) :
    shapeCast S8192x3072 X shapeCasts_S4x2048x3072_S8192x3072 (ix2 R k) = X (ix3 ⟨R.val / 2048, by omega⟩ ⟨R.val % 2048, by omega⟩ k) := by
  pointwise

theorem flat1 (X : FVec Ideal S4x2048x1024 .f32) (R : Fin 8192) (k : Fin 1024) :
    shapeCast S8192x1024 X shapeCasts_S4x2048x1024_S8192x1024 (ix2 R k) = X (ix3 ⟨R.val / 2048, by omega⟩ ⟨R.val % 2048, by omega⟩ k) := by
  pointwise

theorem flat3 (X : FVec Ideal S4x2048x4096 .f32) (R : Fin 8192) (k : Fin 4096) :
    shapeCast S8192x4096 X shapeCasts_S4x2048x4096_S8192x4096 (ix2 R k) = X (ix3 ⟨R.val / 2048, by omega⟩ ⟨R.val % 2048, by omega⟩ k) := by
  pointwise

theorem idx0 : ∀ t : Fin cfg0.N, win0_0.index t = ![t.val / 4, 0] := by decide +kernel
theorem idx1 : ∀ t : Fin cfg0.N, win0_1.index t = ![t.val / 4, 0] := by decide +kernel
theorem idx2 : ∀ t : Fin cfg0.N, win0_2.index t = ![0, t.val % 4] := by decide +kernel
theorem idx3 : ∀ t : Fin cfg0.N, win0_3.index t = ![t.val / 4, t.val % 4] := by decide +kernel
theorem idx4 : ∀ t : Fin cfg0.N, win0_4.index t = ![t.val / 4, t.val % 4] := by decide +kernel

/-- The row and the column of a grid point's block in the arrays. -/
def rOf (t : Fin cfg0.N) (r : Fin 512) : Fin 8192 := ⟨512 * (t.val / 4) + r.val, by have h : t.val < 64 := t.isLt; omega⟩
def nOf (t : Fin cfg0.N) (n : Fin 1024) : Fin 4096 := ⟨1024 * (t.val % 4) + n.val, by omega⟩

theorem read0 (t : Fin cfg0.N) (r : Fin 512) (k : Fin 3072) : iblk m c 0 t (ix2 r k) = V m c main_v1 (ix2 (rOf t r) k) := by
  obtain ⟨Y, hY⟩ : ∃ Y, V m c main_v1 = Y := ⟨_, rfl⟩
  rw [hY]
  unfold iblk
  have hV : V m c (Pipeline.arrRef spec0 0) = Y := hY
  generalize V m c (Pipeline.arrRef spec0 0) = X at hV ⊢
  subst hV
  blk_ext [idx0 t, rOf]

theorem read1 (t : Fin cfg0.N) (r : Fin 512) (k : Fin 1024) : iblk m c 1 t (ix2 r k) = V m c main_v3 (ix2 (rOf t r) k) := by
  obtain ⟨Y, hY⟩ : ∃ Y, V m c main_v3 = Y := ⟨_, rfl⟩
  rw [hY]
  unfold iblk
  have hV : V m c (Pipeline.arrRef spec0 1) = Y := hY
  generalize V m c (Pipeline.arrRef spec0 1) = X at hV ⊢
  subst hV
  blk_ext [idx1 t, rOf]

theorem read2 (t : Fin cfg0.N) (k : Fin 4096) (n : Fin 1024) : iblk m c 2 t (ix2 k n) = V m c main_v4 (ix2 k (nOf t n)) := by
  obtain ⟨Y, hY⟩ : ∃ Y, V m c main_v4 = Y := ⟨_, rfl⟩
  rw [hY]
  unfold iblk
  have hV : V m c (Pipeline.arrRef spec0 2) = Y := hY
  generalize V m c (Pipeline.arrRef spec0 2) = X at hV ⊢
  subst hV
  blk_ext [idx2 t, nOf]

theorem read3 (t : Fin cfg0.N) (r : Fin 512) (n : Fin 1024) : iblk m c 3 t (ix2 r n) = V m c main_v5 (ix2 (rOf t r) (nOf t n)) := by
  obtain ⟨Y, hY⟩ : ∃ Y, V m c main_v5 = Y := ⟨_, rfl⟩
  rw [hY]
  unfold iblk
  have hV : V m c (Pipeline.arrRef spec0 3) = Y := hY
  generalize V m c (Pipeline.arrRef spec0 3) = X at hV ⊢
  subst hV
  blk_ext [idx3 t, rOf, nOf]

theorem blk0 (t : Fin cfg0.N) (r : Fin 512) (k : Fin 3072) : iblk m c 0 t (ix2 r k)
    = (m (c.tc.loc main_arg0) : FVec Ideal S4x2048x3072 .f32) (ix3 ⟨(rOf t r).val / 2048, by omega⟩ ⟨(rOf t r).val % 2048, by omega⟩ k) :=
  (read0 m c t r k).trans ((congrFun (host0 m c) _).trans (flat0 _ _ k))

theorem blk1 (t : Fin cfg0.N) (r : Fin 512) (k : Fin 1024) : iblk m c 1 t (ix2 r k)
    = (m (c.tc.loc main_arg1) : FVec Ideal S4x2048x1024 .f32) (ix3 ⟨(rOf t r).val / 2048, by omega⟩ ⟨(rOf t r).val % 2048, by omega⟩ k) :=
  (read1 m c t r k).trans ((congrFun (host1 m c) _).trans (flat1 _ _ k))

theorem blk2 (t : Fin cfg0.N) (k : Fin 4096) (n : Fin 1024) : iblk m c 2 t (ix2 k n) = (m (c.tc.loc main_arg2) : FVec Ideal S4096x4096 .f32) (ix2 k (nOf t n)) :=
  (read2 m c t k n).trans (congrFun (host2 m c) _)

theorem blk3 (t : Fin cfg0.N) (r : Fin 512) (n : Fin 1024) : iblk m c 3 t (ix2 r n)
    = (m (c.tc.loc main_arg3) : FVec Ideal S4x2048x4096 .f32) (ix3 ⟨(rOf t r).val / 2048, by omega⟩ ⟨(rOf t r).val % 2048, by omega⟩ (nOf t n)) :=
  (read3 m c t r n).trans ((congrFun (host3 m c) _).trans (flat3 _ _ _))

/-- The reference's value of a device's arguments. -/
def refOf : FVec Ideal S8192x4096 .f32 :=
  Cert.Reference3Ideal.Read.val_main_v3 (F := Ideal) (m (c.tc.loc main_arg0)) (m (c.tc.loc main_arg1)) (m (c.tc.loc main_arg2)) (m (c.tc.loc main_arg3))

/-- What a point leaves in its output block is the reference's block. -/
theorem out_at (t : Fin cfg0.N) (r : Fin 512) (n : Fin 1024) :
    out0_4 (F := Ideal) (iblk m c 0 t) (iblk m c 1 t) (iblk m c 2 t) (iblk m c 3 t) (ix2 r n) = refOf m c (ix2 (rOf t r) (nOf t n)) := by
  refine (out_eq _ _ _ _ r n).trans ((Cert.Reference3Ideal.Row.result_at _ _ _ _ (rOf t r) (nOf t n)).trans ?_).symm
  refine congrArg₂ (· + ·) (blk3 m c t r n).symm (congrArg₂ (· + ·) (Finset.sum_congr rfl fun k _ => ?_) (Finset.sum_congr rfl fun k _ => ?_))
  · exact congrArg₂ (· * ·) (blk0 m c t r k).symm (blk2 m c t _ n).symm
  · exact congrArg₂ (· * ·) (blk1 m c t r k).symm (blk2 m c t _ n).symm

theorem array_eq : (dats m 0 c).arrAt 4 cfg0.N = refOf m c := by
  refine (dats m 0 c).arrAt_eq_of_covers 4 _ (by decide +kernel) fun t hfl y => ?_
  blk_simp
  rw [after0_4]
  have hy : y = ix2 (y 0) (y 1) := by
    funext a
    fin_cases a <;> rfl
  rw [hy]
  refine (out_at m c t (y 0) (y 1)).trans ?_
  refine congrArg (refOf m c) ?_
  blk_ext [idx4 t]
  · show 512 * (t.val / 4) + (y 0).val = t.val / 4 * 512 + (y 0).val
    omega
  · show 1024 * (t.val % 4) + (y 1).val = t.val % 4 * 1024 + (y 1).val
    omega

theorem launched (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ ∀ c : Dev nD, r.2.mem ((c.tc : Thread nD τ).loc main_v6) = (dats m 0 c).arrAt 4 cfg0.N) :=
  θ_run_and (unchanged m ρ) ((θ_run defs _ _).mono (fun _ h c => (h c).1 4) (run_main m ρ))

end Cert.Kernel3Ideal.Out
end
end
-- ==== Proof.lean ====
module

public import proofs.«01_k».proof.Defs
public import proofs.«01_k».proof.Proof.KernelFrame
public import proofs.«01_k».proof.Proof.KernelIdealFrame
public import proofs.«01_k».proof.Proof.KernelIdealValue
public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_operands
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Kernel2IdealValue
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Kernel3IdealValue
public import proofs.«01_k».proof.Proof.KernelIdealLoops
public import Idealize.ShloMosaic.Lib.Claim
public import Idealize.ShloMosaic.Lib.StableHlo.RunHlo

@[expose] public section

namespace Cert.Proof

open Idealize.ShloMosaic Idealize.ShloMosaic.Tactic Idealize.ShloMosaic.TcCoe Idealize.SL.Sem

theorem kernel : Cert.quiescent_Kernel (hKernel := Cert.Kernel.Gen.facts) := fun m g _ => Cert.Kernel.Run.frame_main m g

theorem kernelIdeal : Cert.quiescent_KernelIdeal (hKernelIdeal := Cert.KernelIdeal.Gen.facts) :=
  fun m g _ => Cert.KernelIdeal.Run.frame_main m g

theorem referenceIdeal : Cert.quiescent_ReferenceIdeal (hReferenceIdeal := Cert.ReferenceIdeal.Gen.facts) := by
  intro m g _
  refine (θ_run _ _ _).mono (fun r h => ⟨fun c => (h c).2, ?_⟩) (Cert.ReferenceIdeal.Value.run m g)
  funext s
  have e : IsEmpty (SemLoc Cert.ReferenceIdeal.sig) := by
    refine Finset.univ_eq_empty_iff.mp ?_
    decide
  exact e.elim s.2

theorem algebraic : Cert.algebraic_KernelIdeal_ReferenceIdeal_pre_finite_operands (hKernelIdeal := Cert.KernelIdeal.Gen.facts) (hReferenceIdeal := Cert.ReferenceIdeal.Gen.facts)
    (hPre_finite_operands := Cert.Pre_finite_operands.Gen.facts) := by
  intro m g m' g' hpre hagree
  refine ⟨fun c => Cert.KernelIdeal.Host.refOf m c, ?_, ?_⟩
  · refine (θ_run _ _ _).mono (fun r h c => ⟨(h.1 c).1.trans (Cert.KernelIdeal.Host.array_eq m c ?_), (h.1 c).2⟩) (Cert.KernelIdeal.Run.launched m g)
    exact Cert.Pre_finite_operands.operands _ _ _ _ _ _ _ _ _ (hpre c)
  · refine (θ_run _ _ _).mono (fun r h c => ⟨(h c).1.trans ?_, (h c).2⟩) (Cert.ReferenceIdeal.Value.run m' g')
    obtain ⟨e0, e1, e2, e3, e4, e5, e6, e7, e8⟩ := hagree c
    refine (Cert.ReferenceIdeal.Read.val_main_v93_eq _).trans ?_
    show Cert.ReferenceIdeal.Read.val_main_v93 (F := Ideal) (m' (c.tc.loc Cert.ReferenceIdeal.main_arg0)) (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6))
      (m' (c.tc.loc Cert.ReferenceIdeal.main_arg7)) (m' (c.tc.loc Cert.ReferenceIdeal.main_arg8)) = _
    rw [e0, e1, e2, e3, e4, e5, e6, e7, e8]
    rfl

theorem reference2Ideal : Cert.quiescent_Reference2Ideal (hReference2Ideal := Cert.Reference2Ideal.Gen.facts) := by
  intro m g _
  refine (θ_run _ _ _).mono (fun r h => ⟨fun c => (h c).2, ?_⟩) (Cert.Reference2Ideal.Value.run m g)
  funext s
  have e : IsEmpty (SemLoc Cert.Reference2Ideal.sig) := by
    refine Finset.univ_eq_empty_iff.mp ?_
    decide
  exact e.elim s.2

theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Row.refOf m c, ?_, ?_⟩
  · exact (θ_run _ _ _).mono (fun r h c => ⟨(h.2 c).trans (Cert.Kernel2Ideal.Row.array_eq m c), h.1 c⟩) (Cert.Kernel2Ideal.Row.launched m g)
  · refine (θ_run _ _ _).mono (fun r h c => ⟨(h c).1.trans ?_, (h c).2⟩) (Cert.Reference2Ideal.Value.run m' g')
    obtain ⟨e0, e1, e2⟩ := hagree c
    refine (Cert.Reference2Ideal.Read.val_main_v14_eq _ _ _).trans ?_
    rw [e0, e1, e2]
    rfl

theorem reference3Ideal : Cert.quiescent_Reference3Ideal (hReference3Ideal := Cert.Reference3Ideal.Gen.facts) := by
  intro m g _
  refine (θ_run _ _ _).mono (fun r h => ⟨fun c => (h c).2, ?_⟩) (Cert.Reference3Ideal.Value.run m g)
  funext s
  have e : IsEmpty (SemLoc Cert.Reference3Ideal.sig) := by
    refine Finset.univ_eq_empty_iff.mp ?_
    decide
  exact e.elim s.2

theorem algebraic3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.Out.refOf m c, ?_, ?_⟩
  · exact (θ_run _ _ _).mono (fun r h c => ⟨(h.2 c).trans (Cert.Kernel3Ideal.Out.array_eq m c), h.1 c⟩) (Cert.Kernel3Ideal.Out.launched m g)
  · refine (θ_run _ _ _).mono (fun r h c => ⟨(h c).1.trans ?_, (h c).2⟩) (Cert.Reference3Ideal.Value.run m' g')
    obtain ⟨e0, e1, e2, e3⟩ := hagree c
    refine (Cert.Reference3Ideal.Read.val_main_v3_eq _ _ _ _).trans ?_
    rw [e0, e1, e2, e3]
    rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite_operands.Gen.facts,
    kernel, kernelIdeal, fun m g h => kernelIdeal m g trivial, referenceIdeal, fun m g h => referenceIdeal m g trivial,
    fun m g _ => Cert.Kernel2.Gen.frame m g, fun m g _ => Cert.Kernel2Ideal.Gen.frame m g, reference2Ideal,
    fun m g _ => Cert.Kernel3.Gen.frame m g, fun m g _ => Cert.Kernel3Ideal.Gen.frame m g, reference3Ideal,
    IdealRules.named_const.statement _ _ .f32 _ _ (by rfl), algebraic, trivial, algebraic2, trivial, algebraic3⟩

end Cert.Proof

end
